-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "cap_log2e" .f32 0x429044FE#32 ((50 * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x16384x1024 : Shape := ⟨3, ![4, 16384, 1024]⟩
abbrev S4x16384x256 : Shape := ⟨3, ![4, 16384, 256]⟩
abbrev S_ : Shape := ⟨0, ![]⟩

class Facts : Prop where
  bcast_S_S4x16384x1024 : S_.BroadcastsInDim S4x16384x1024 (![] : Fin 0 → Fin S4x16384x1024.rank)
  reducesTo_S4x16384x1024_S_d0_1_2 : S4x16384x1024.ReducesTo [0, 1, 2] S_
  h_S_ : 0 < S_.numel
  bcast_S_S4x16384x256 : S_.BroadcastsInDim S4x16384x256 (![] : Fin 0 → Fin S4x16384x256.rank)
  reducesTo_S4x16384x256_S_d0_1_2 : S4x16384x256.ReducesTo [0, 1, 2] S_

variable [Facts]

def fn {F : FTy → Type} [FloatOps F] (main_arg0 : FVec F S4x16384x1024 .bf16) (main_arg1 : FVec F S4x16384x256 .bf16) (main_arg2 : FVec F S4x16384x256 .bf16) : IVec S_ 1 :=
  let main_v0 : FVec F S4x16384x1024 .bf16 := Host.absf main_arg0
  let main_cst : FVec F S_ .bf16 := constant S_ .bf16 0x7F7F#16
  let main_v1 : FVec F S4x16384x1024 .bf16 := broadcastInDim S4x16384x1024 ![] bcast_S_S4x16384x1024 main_cst
  let main_v2 : IVec S4x16384x1024 1 := cmpf .ole main_v0 main_v1
  let main_c : IVec S_ 1 := constantI S_ 1 1#1
  let main_v3 : IVec S_ 1 := (fun x v => Host.reduce IntOp.andi x v reducesTo_S4x16384x1024_S_d0_1_2 h_S_) main_v2 main_c
  let main_v4 : FVec F S4x16384x256 .bf16 := Host.absf main_arg1
  let main_cst_0 : FVec F S_ .bf16 := constant S_ .bf16 0x7F7F#16
  let main_v5 : FVec F S4x16384x256 .bf16 := broadcastInDim S4x16384x256 ![] bcast_S_S4x16384x256 main_cst_0
  let main_v6 : IVec S4x16384x256 1 := cmpf .ole main_v4 main_v5
  let main_c_1 : IVec S_ 1 := constantI S_ 1 1#1
  let main_v7 : IVec S_ 1 := (fun x v => Host.reduce IntOp.andi x v reducesTo_S4x16384x256_S_d0_1_2 h_S_) main_v6 main_c_1
  let main_v8 : IVec S_ 1 := andi main_v3 main_v7
  let main_v9 : FVec F S4x16384x256 .bf16 := Host.absf main_arg2
  let main_cst_2 : FVec F S_ .bf16 := constant S_ .bf16 0x7F7F#16
  let main_v10 : FVec F S4x16384x256 .bf16 := broadcastInDim S4x16384x256 ![] bcast_S_S4x16384x256 main_cst_2
  let main_v11 : IVec S4x16384x256 1 := cmpf .ole main_v9 main_v10
  let main_c_3 : IVec S_ 1 := constantI S_ 1 1#1
  let main_v12 : IVec S_ 1 := (fun x v => Host.reduce IntOp.andi x v reducesTo_S4x16384x256_S_d0_1_2 h_S_) main_v11 main_c_3
  let main_v13 : IVec S_ 1 := andi main_v8 main_v12
  main_v13
-- ==== Kernel.lean ====
abbrev S4x16384x1024 : Shape := ⟨3, ![4, 16384, 1024]⟩
abbrev S4x16384x256 : Shape := ⟨3, ![4, 16384, 256]⟩
abbrev S512x1x1024 : Shape := ⟨3, ![512, 1, 1024]⟩
abbrev S512x1x256 : Shape := ⟨3, ![512, 1, 256]⟩
abbrev S4x4x64x65536 : Shape := ⟨4, ![4, 4, 64, 65536]⟩
abbrev S4x4x16384x64 : Shape := ⟨4, ![4, 4, 16384, 64]⟩
abbrev S4x4x64x16384 : Shape := ⟨4, ![4, 4, 64, 16384]⟩
abbrev S1x128x1024 : Shape := ⟨3, ![1, 128, 1024]⟩
abbrev S1x128x256 : Shape := ⟨3, ![1, 128, 256]⟩
abbrev S1x1x1024 : Shape := ⟨3, ![1, 1, 1024]⟩
abbrev S1x1x256 : Shape := ⟨3, ![1, 1, 256]⟩
abbrev S1x4x64x512 : Shape := ⟨4, ![1, 4, 64, 512]⟩
abbrev S1x4x128x64 : Shape := ⟨4, ![1, 4, 128, 64]⟩
abbrev S1x4x64x128 : Shape := ⟨4, ![1, 4, 64, 128]⟩
abbrev S128x1024 : Shape := ⟨2, ![128, 1024]⟩
abbrev S1024 : Shape := ⟨1, ![1024]⟩
abbrev S1x1024 : Shape := ⟨2, ![1, 1024]⟩
abbrev S1x128 : Shape := ⟨2, ![1, 128]⟩
abbrev S1 : Shape := ⟨1, ![1]⟩
abbrev S1x1 : Shape := ⟨2, ![1, 1]⟩
abbrev S255x1024 : Shape := ⟨2, ![255, 1024]⟩
abbrev S1024x128 : Shape := ⟨2, ![1024, 128]⟩
abbrev S64x128 : Shape := ⟨2, ![64, 128]⟩
abbrev S1x1x64x128 : Shape := ⟨4, ![1, 1, 64, 128]⟩
abbrev S128x256 : Shape := ⟨2, ![128, 256]⟩
abbrev S256 : Shape := ⟨1, ![256]⟩
abbrev S1x256 : Shape := ⟨2, ![1, 256]⟩
abbrev S255x256 : Shape := ⟨2, ![255, 256]⟩
abbrev S128x64 : Shape := ⟨2, ![128, 64]⟩
abbrev S1x1x128x64 : Shape := ⟨4, ![1, 1, 128, 64]⟩
abbrev S256x128 : Shape := ⟨2, ![256, 128]⟩
abbrev S4x128x16x64 : Shape := ⟨4, ![4, 128, 16, 64]⟩
abbrev S4x128x16x1 : Shape := ⟨4, ![4, 128, 16, 1]⟩
abbrev S4x128x16 : Shape := ⟨3, ![4, 128, 16]⟩
abbrev S4x128x4x64 : Shape := ⟨4, ![4, 128, 4, 64]⟩
abbrev S4x128x4x1 : Shape := ⟨4, ![4, 128, 4, 1]⟩
abbrev S4x128x4 : Shape := ⟨3, ![4, 128, 4]⟩
abbrev S_ : Shape := ⟨0, ![]⟩
abbrev S4x128x4x4 : Shape := ⟨4, ![4, 128, 4, 4]⟩
abbrev S4x4x128x4 : Shape := ⟨4, ![4, 4, 128, 4]⟩
abbrev S4x4x512x1 : Shape := ⟨4, ![4, 4, 512, 1]⟩
abbrev S4x4x512x128 : Shape := ⟨4, ![4, 4, 512, 128]⟩
abbrev S4x4x128x1 : Shape := ⟨4, ![4, 4, 128, 1]⟩
abbrev S4x4x128x128 : Shape := ⟨4, ![4, 4, 128, 128]⟩
abbrev S1x1x64x1024 : Shape := ⟨4, ![1, 1, 64, 1024]⟩
abbrev S1x1x16384x64 : Shape := ⟨4, ![1, 1, 16384, 64]⟩
abbrev S1x1x64x16384 : Shape := ⟨4, ![1, 1, 64, 16384]⟩
abbrev S1x1x8x128 : Shape := ⟨4, ![1, 1, 8, 128]⟩
abbrev S1x1x128x128 : Shape := ⟨4, ![1, 1, 128, 128]⟩
abbrev S1x256x256 : Shape := ⟨3, ![1, 256, 256]⟩
abbrev S8x128 : Shape := ⟨2, ![8, 128]⟩
abbrev S64x1024 : Shape := ⟨2, ![64, 1024]⟩
abbrev S1x1x1x128 : Shape := ⟨4, ![1, 1, 1, 128]⟩
abbrev S128x128 : Shape := ⟨2, ![128, 128]⟩
abbrev S128 : Shape := ⟨1, ![128]⟩
abbrev S255x128 : Shape := ⟨2, ![255, 128]⟩
abbrev S1x1x64x512 : Shape := ⟨4, ![1, 1, 64, 512]⟩
abbrev S64x512 : Shape := ⟨2, ![64, 512]⟩
abbrev S128x512 : Shape := ⟨2, ![128, 512]⟩
abbrev S1x512 : Shape := ⟨2, ![1, 512]⟩

abbrev nBuf : Space → Nat
  | .hbm => 35
  | .vmem => 41
  | .smem => 0
  | _ => 0

abbrev bufTy : (tb : Table) → Fin (tcTables nBuf tb) → BufTy
  | .hbm, ⟨0, _⟩ => ⟨S4x16384x1024, .bf16⟩
  | .hbm, ⟨1, _⟩ => ⟨S4x16384x256, .bf16⟩
  | .hbm, ⟨2, _⟩ => ⟨S4x16384x256, .bf16⟩
  | .hbm, ⟨3, _⟩ => ⟨S4x16384x1024, .fp8e4m3⟩
  | .hbm, ⟨4, _⟩ => ⟨S512x1x1024, .f32⟩
  | .hbm, ⟨5, _⟩ => ⟨S4x16384x256, .fp8e4m3⟩
  | .hbm, ⟨6, _⟩ => ⟨S512x1x256, .f32⟩
  | .hbm, ⟨7, _⟩ => ⟨S4x16384x256, .fp8e4m3⟩
  | .hbm, ⟨8, _⟩ => ⟨S512x1x256, .f32⟩
  | .hbm, ⟨9, _⟩ => ⟨S4x4x64x65536, .fp8e4m3⟩
  | .hbm, ⟨10, _⟩ => ⟨S4x4x16384x64, .fp8e4m3⟩
  | .hbm, ⟨11, _⟩ => ⟨S4x4x64x16384, .fp8e4m3⟩
  | .hbm, ⟨12, _⟩ => ⟨S4x128x16x64, .f32⟩
  | .hbm, ⟨13, _⟩ => ⟨S4x128x16x1, .f32⟩
  | .hbm, ⟨14, _⟩ => ⟨S4x128x16, .f32⟩
  | .hbm, ⟨15, _⟩ => ⟨S4x128x4x64, .f32⟩
  | .hbm, ⟨16, _⟩ => ⟨S4x128x4x1, .f32⟩
  | .hbm, ⟨17, _⟩ => ⟨S4x128x4, .f32⟩
  | .hbm, ⟨18, _⟩ => ⟨S4x128x4x64, .f32⟩
  | .hbm, ⟨19, _⟩ => ⟨S4x128x4x1, .f32⟩
  | .hbm, ⟨20, _⟩ => ⟨S4x128x4, .f32⟩
  | .hbm, ⟨21, _⟩ => ⟨S_, .f32⟩
  | .hbm, ⟨22, _⟩ => ⟨S4x128x16, .f32⟩
  | .hbm, ⟨23, _⟩ => ⟨S4x128x16, .f32⟩
  | .hbm, ⟨24, _⟩ => ⟨S4x128x4x4, .f32⟩
  | .hbm, ⟨25, _⟩ => ⟨S4x4x128x4, .f32⟩
  | .hbm, ⟨26, _⟩ => ⟨S4x4x512x1, .f32⟩
  | .hbm, ⟨27, _⟩ => ⟨S4x4x512x128, .f32⟩
  | .hbm, ⟨28, _⟩ => ⟨S4x128x4x1, .f32⟩
  | .hbm, ⟨29, _⟩ => ⟨S4x4x128x1, .f32⟩
  | .hbm, ⟨30, _⟩ => ⟨S4x4x128x128, .f32⟩
  | .hbm, ⟨31, _⟩ => ⟨S4x128x4x1, .f32⟩
  | .hbm, ⟨32, _⟩ => ⟨S4x4x128x1, .f32⟩
  | .hbm, ⟨33, _⟩ => ⟨S4x4x128x128, .f32⟩
  | .hbm, ⟨34, _⟩ => ⟨S4x16384x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x1024, .fp8e4m3⟩
  | .local _ .vmem, ⟨7, _⟩ => ⟨S1x128x1024, .fp8e4m3⟩
  | .local _ .vmem, ⟨8, _⟩ => ⟨S1x1x1024, .f32⟩
  | .local _ .vmem, ⟨9, _⟩ => ⟨S1x1x1024, .f32⟩
  | .local _ .vmem, ⟨10, _⟩ => ⟨S1x128x256, .fp8e4m3⟩
  | .local _ .vmem, ⟨11, _⟩ => ⟨S1x128x256, .fp8e4m3⟩
  | .local _ .vmem, ⟨12, _⟩ => ⟨S1x1x256, .f32⟩
  | .local _ .vmem, ⟨13, _⟩ => ⟨S1x1x256, .f32⟩
  | .local _ .vmem, ⟨14, _⟩ => ⟨S1x128x256, .fp8e4m3⟩
  | .local _ .vmem, ⟨15, _⟩ => ⟨S1x128x256, .fp8e4m3⟩
  | .local _ .vmem, ⟨16, _⟩ => ⟨S1x1x256, .f32⟩
  | .local _ .vmem, ⟨17, _⟩ => ⟨S1x1x256, .f32⟩
  | .local _ .vmem, ⟨18, _⟩ => ⟨S1x4x64x512, .fp8e4m3⟩
  | .local _ .vmem, ⟨19, _⟩ => ⟨S1x4x64x512, .fp8e4m3⟩
  | .local _ .vmem, ⟨20, _⟩ => ⟨S1x4x128x64, .fp8e4m3⟩
  | .local _ .vmem, ⟨21, _⟩ => ⟨S1x4x128x64, .fp8e4m3⟩
  | .local _ .vmem, ⟨22, _⟩ => ⟨S1x4x64x128, .fp8e4m3⟩
  | .local _ .vmem, ⟨23, _⟩ => ⟨S1x4x64x128, .fp8e4m3⟩
  | .local _ .vmem, ⟨24, _⟩ => ⟨S1x1x64x1024, .fp8e4m3⟩
  | .local _ .vmem, ⟨25, _⟩ => ⟨S1x1x64x1024, .fp8e4m3⟩
  | .local _ .vmem, ⟨26, _⟩ => ⟨S1x1x16384x64, .fp8e4m3⟩
  | .local _ .vmem, ⟨27, _⟩ => ⟨S1x1x16384x64, .fp8e4m3⟩
  | .local _ .vmem, ⟨28, _⟩ => ⟨S1x1x64x16384, .fp8e4m3⟩
  | .local _ .vmem, ⟨29, _⟩ => ⟨S1x1x64x16384, .fp8e4m3⟩
  | .local _ .vmem, ⟨30, _⟩ => ⟨S1x1x8x128, .f32⟩
  | .local _ .vmem, ⟨31, _⟩ => ⟨S1x1x8x128, .f32⟩
  | .local _ .vmem, ⟨32, _⟩ => ⟨S1x1x128x128, .f32⟩
  | .local _ .vmem, ⟨33, _⟩ => ⟨S1x1x128x128, .f32⟩
  | .local _ .vmem, ⟨34, _⟩ => ⟨S1x1x128x128, .f32⟩
  | .local _ .vmem, ⟨35, _⟩ => ⟨S1x1x128x128, .f32⟩
  | .local _ .vmem, ⟨36, _⟩ => ⟨S1x256x256, .bf16⟩
  | .local _ .vmem, ⟨37, _⟩ => ⟨S1x256x256, .bf16⟩
  | .local _ .vmem, ⟨38, _⟩ => ⟨S8x128, .f32⟩
  | .local _ .vmem, ⟨39, _⟩ => ⟨S8x128, .f32⟩
  | .local _ .vmem, ⟨40, _⟩ => ⟨S64x1024, .f32⟩
  | _, _ => ⟨S4x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v0_7 : Ref sig .tc := ⟨.hbm, 10, rfl⟩
abbrev main_v0_8 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg2_1 : Ref sig .tc := ⟨.vmem, 29, rfl⟩
abbrev cc1_stg3_0 : Ref sig .tc := ⟨.vmem, 30, rfl⟩
abbrev cc1_stg3_1 : Ref sig .tc := ⟨.vmem, 31, rfl⟩
abbrev cc1_stg4_0 : Ref sig .tc := ⟨.vmem, 32, rfl⟩
abbrev cc1_stg4_1 : Ref sig .tc := ⟨.vmem, 33, rfl⟩
abbrev cc1_stg5_0 : Ref sig .tc := ⟨.vmem, 34, rfl⟩
abbrev cc1_stg5_1 : Ref sig .tc := ⟨.vmem, 35, rfl⟩
abbrev cc1_stg6_0 : Ref sig .tc := ⟨.vmem, 36, rfl⟩
abbrev cc1_stg6_1 : Ref sig .tc := ⟨.vmem, 37, rfl⟩
abbrev cc1_scratch0 : Ref sig .tc := ⟨.vmem, 38, rfl⟩
abbrev cc1_scratch1 : Ref sig .tc := ⟨.vmem, 39, rfl⟩
abbrev cc1_scratch2 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem3_1 : DmaSem sig := 31
abbrev cc1_sem4_0 : DmaSem sig := 32
abbrev cc1_sem4_1 : DmaSem sig := 33
abbrev cc1_sem5_0 : DmaSem sig := 34
abbrev cc1_sem5_1 : DmaSem sig := 35
abbrev cc1_sem6_0 : DmaSem sig := 36
abbrev cc1_sem6_1 : DmaSem sig := 37

abbrev nD : Nat := 1
abbrev τ : Topo := Topo.v7x

variable {F : FTy → Type} [FloatOps F]

abbrev grid0 : Pipeline.Grid := ⟨2, ![4, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x64x512 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x64 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x64x128 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev grid1 : Pipeline.Grid := ⟨3, ![4, 4, 64], ![false, false, false]⟩

@[reducible] def k1_t1_loop (i : grid1.Coords) : Scf.Loop 32 :=
  let c0_i32_7 : BitVec 32 := 0#32
  let arg2 : BitVec 32 := BitVec.ofNat 32 (i 2).val
  let c2_i32 : BitVec 32 := 2#32
  let v0 : BitVec 32 := Scalar.muli arg2 c2_i32
  let v13 : BitVec 32 := Scalar.subi v0 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_8 : BitVec 32 := 1#32
  ⟨c0_i32_7, v17, c1_i32_8⟩
def k1_off1 (i : grid1.Coords) (k1_t1 : Fin (k1_t1_loop i).trips) : Fin 4 → Nat :=
  let c0_473 : Index := 0#32
  let c0_474 : Index := 0#32
  let c0_i32_7 : BitVec 32 := 0#32
  let c1_i32_8 : BitVec 32 := 1#32
  let arg13 : BitVec 32 := Scf.iv c0_i32_7 c1_i32_8 k1_t1
  let c128_i32_472 : BitVec 32 := 128#32
  let v1034 : BitVec 32 := Scalar.muli arg13 c128_i32_472
  let v1035 : Index := Scalar.indexCast v1034
  let c0_475 : Index := 0#32
  ![0, 0, v1035.toNat, 0]
def k1_off2 (i : grid1.Coords) (k1_t1 : Fin (k1_t1_loop i).trips) : Fin 4 → Nat :=
  let c0_481 : Index := 0#32
  let c0_482 : Index := 0#32
  let c0_i32_7 : BitVec 32 := 0#32
  let c1_i32_8 : BitVec 32 := 1#32
  let arg13 : BitVec 32 := Scf.iv c0_i32_7 c1_i32_8 k1_t1
  let v1041 : Index := Scalar.indexCast arg13
  let c0_483 : Index := 0#32
  ![0, 0, v1041.toNat, 0]
def k1_off3 (i : grid1.Coords) (k1_t1 : Fin (k1_t1_loop i).trips) : Fin 4 → Nat :=
  let c0_744 : Index := 0#32
  let c0_745 : Index := 0#32
  let c0_746 : Index := 0#32
  let c0_i32_7 : BitVec 32 := 0#32
  let c1_i32_8 : BitVec 32 := 1#32
  let arg13 : BitVec 32 := Scf.iv c0_i32_7 c1_i32_8 k1_t1
  let c128_i32_743 : BitVec 32 := 128#32
  let v1643 : BitVec 32 := Scalar.muli arg13 c128_i32_743
  let v1644 : Index := Scalar.indexCast v1643
  ![0, 0, 0, v1644.toNat]
@[reducible] def k1_t2_loop (i : grid1.Coords) : Scf.Loop 32 :=
  let c0_i32_7 : BitVec 32 := 0#32
  let arg2 : BitVec 32 := BitVec.ofNat 32 (i 2).val
  let c2_i32 : BitVec 32 := 2#32
  let v0 : BitVec 32 := Scalar.muli arg2 c2_i32
  let v13 : BitVec 32 := Scalar.subi v0 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let v14 : BitVec 32 := Scalar.addi c0_i32_7 v13
  let c1_i32_9 : BitVec 32 := 1#32
  ⟨v17, v14, c1_i32_9⟩
def k1_off4 (i : grid1.Coords) (k1_t2 : Fin (k1_t2_loop i).trips) : Fin 4 → Nat :=
  let c0_473 : Index := 0#32
  let c0_474 : Index := 0#32
  let c0_i32_7 : BitVec 32 := 0#32
  let arg2 : BitVec 32 := BitVec.ofNat 32 (i 2).val
  let c2_i32 : BitVec 32 := 2#32
  let v0 : BitVec 32 := Scalar.muli arg2 c2_i32
  let v13 : BitVec 32 := Scalar.subi v0 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg13 : BitVec 32 := Scf.iv v17 c1_i32_9 k1_t2
  let c128_i32_472 : BitVec 32 := 128#32
  let v1034 : BitVec 32 := Scalar.muli arg13 c128_i32_472
  let v1035 : Index := Scalar.indexCast v1034
  let c0_475 : Index := 0#32
  ![0, 0, v1035.toNat, 0]
def k1_off5 (i : grid1.Coords) (k1_t2 : Fin (k1_t2_loop i).trips) : Fin 4 → Nat :=
  let c0_481 : Index := 0#32
  let c0_482 : Index := 0#32
  let c0_i32_7 : BitVec 32 := 0#32
  let arg2 : BitVec 32 := BitVec.ofNat 32 (i 2).val
  let c2_i32 : BitVec 32 := 2#32
  let v0 : BitVec 32 := Scalar.muli arg2 c2_i32
  let v13 : BitVec 32 := Scalar.subi v0 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg13 : BitVec 32 := Scf.iv v17 c1_i32_9 k1_t2
  let v1041 : Index := Scalar.indexCast arg13
  let c0_483 : Index := 0#32
  ![0, 0, v1041.toNat, 0]
def k1_off6 (i : grid1.Coords) (k1_t2 : Fin (k1_t2_loop i).trips) : Fin 4 → Nat :=
  let c0_744 : Index := 0#32
  let c0_745 : Index := 0#32
  let c0_746 : Index := 0#32
  let c0_i32_7 : BitVec 32 := 0#32
  let arg2 : BitVec 32 := BitVec.ofNat 32 (i 2).val
  let c2_i32 : BitVec 32 := 2#32
  let v0 : BitVec 32 := Scalar.muli arg2 c2_i32
  let v13 : BitVec 32 := Scalar.subi v0 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg13 : BitVec 32 := Scf.iv v17 c1_i32_9 k1_t2
  let c128_i32_743 : BitVec 32 := 128#32
  let v1643 : BitVec 32 := Scalar.muli arg13 c128_i32_743
  let v1644 : Index := Scalar.indexCast v1643
  ![0, 0, 0, v1644.toNat]
def k1_off7 (i : grid1.Coords) (c0_i32_10 : BitVec 32) : Fin 4 → Nat :=
  let c0_11 : Index := 0#32
  let c0_12 : Index := 0#32
  let arg2 : BitVec 32 := BitVec.ofNat 32 (i 2).val
  let c2_i32 : BitVec 32 := 2#32
  let v0 : BitVec 32 := Scalar.muli arg2 c2_i32
  let v18 : BitVec 32 := Scalar.addi v0 c0_i32_10
  let c128_i32 : BitVec 32 := 128#32
  let v19 : BitVec 32 := Scalar.muli v18 c128_i32
  let v20 : Index := Scalar.indexCast v19
  let c0_13 : Index := 0#32
  ![0, 0, v20.toNat, 0]
def k1_off8 (i : grid1.Coords) (c0_i32_10 : BitVec 32) : Fin 4 → Nat :=
  let c0_19 : Index := 0#32
  let c0_20 : Index := 0#32
  let arg2 : BitVec 32 := BitVec.ofNat 32 (i 2).val
  let c2_i32 : BitVec 32 := 2#32
  let v0 : BitVec 32 := Scalar.muli arg2 c2_i32
  let v18 : BitVec 32 := Scalar.addi v0 c0_i32_10
  let v26 : Index := Scalar.indexCast v18
  let c0_21 : Index := 0#32
  ![0, 0, v26.toNat, 0]
def k1_off9 (i : grid1.Coords) (c0_i32_10 : BitVec 32) : Fin 4 → Nat :=
  let c0_276 : Index := 0#32
  let c0_277 : Index := 0#32
  let c0_278 : Index := 0#32
  let arg2 : BitVec 32 := BitVec.ofNat 32 (i 2).val
  let c2_i32 : BitVec 32 := 2#32
  let v0 : BitVec 32 := Scalar.muli arg2 c2_i32
  let v18 : BitVec 32 := Scalar.addi v0 c0_i32_10
  let c128_i32_275 : BitVec 32 := 128#32
  let v636 : BitVec 32 := Scalar.muli v18 c128_i32_275
  let v637 : Index := Scalar.indexCast v636
  ![0, 0, 0, v637.toNat]
def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x1x64x1024 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x16384x64 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x64x16384 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x1x128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1x1x128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S1x256x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]
-- ==== KernelIdeal.lean ====
variable {F : FTy → Type} [FloatOps F] [Named F]
def κ : String → Option EReal := fun
  | "cap_log2e" => some ((50 * (Real.log 2)⁻¹ : ℝ) : EReal)
  | _ => none
-- ==== ReferenceIdeal.lean ====
abbrev S4x16384x1024 : Shape := ⟨3, ![4, 16384, 1024]⟩
abbrev S4x16384x256 : Shape := ⟨3, ![4, 16384, 256]⟩
abbrev S4x128x128x16x64 : Shape := ⟨5, ![4, 128, 128, 16, 64]⟩
abbrev S_ : Shape := ⟨0, ![]⟩
abbrev S4x128x16x64 : Shape := ⟨4, ![4, 128, 16, 64]⟩
abbrev S4x128x1x16x64 : Shape := ⟨5, ![4, 128, 1, 16, 64]⟩
abbrev S4x128x1x16 : Shape := ⟨4, ![4, 128, 1, 16]⟩
abbrev S4x128x1x16x1 : Shape := ⟨5, ![4, 128, 1, 16, 1]⟩
abbrev S4x128x128x4x64 : Shape := ⟨5, ![4, 128, 128, 4, 64]⟩
abbrev S4x128x4x64 : Shape := ⟨4, ![4, 128, 4, 64]⟩
abbrev S4x128x1x4x64 : Shape := ⟨5, ![4, 128, 1, 4, 64]⟩
abbrev S4x128x1x4 : Shape := ⟨4, ![4, 128, 1, 4]⟩
abbrev S4x128x1x4x1 : Shape := ⟨5, ![4, 128, 1, 4, 1]⟩
abbrev S4x16384x4x4x64 : Shape := ⟨5, ![4, 16384, 4, 4, 64]⟩
abbrev S4x4x16384x4x128x128 : Shape := ⟨6, ![4, 4, 16384, 4, 128, 128]⟩
abbrev S4x128x128x16x1 : Shape := ⟨5, ![4, 128, 128, 16, 1]⟩
abbrev S4x16384x4x4 : Shape := ⟨4, ![4, 16384, 4, 4]⟩
abbrev S4x4x16384x4 : Shape := ⟨4, ![4, 4, 16384, 4]⟩
abbrev S4x4x16384x4x1x1 : Shape := ⟨6, ![4, 4, 16384, 4, 1, 1]⟩
abbrev S4x128x4 : Shape := ⟨3, ![4, 128, 4]⟩
abbrev S4x4x128 : Shape := ⟨3, ![4, 4, 128]⟩
abbrev S4x4x1x1x128x1 : Shape := ⟨6, ![4, 4, 1, 1, 128, 1]⟩
abbrev S4x4x16384x4x128x1 : Shape := ⟨6, ![4, 4, 16384, 4, 128, 1]⟩
abbrev S16384x128x128 : Shape := ⟨3, ![16384, 128, 128]⟩
abbrev S1x1x16384x1x128x128 : Shape := ⟨6, ![1, 1, 16384, 1, 128, 128]⟩
abbrev S4x4x16384x4x128 : Shape := ⟨5, ![4, 4, 16384, 4, 128]⟩
abbrev S4x4x16384x4x1 : Shape := ⟨5, ![4, 4, 16384, 4, 1]⟩
abbrev S4x4x128x16384x4x64 : Shape := ⟨6, ![4, 4, 128, 16384, 4, 64]⟩
abbrev S4x4x128x1x1x1 : Shape := ⟨6, ![4, 4, 128, 1, 1, 1]⟩
abbrev S4x4x128x16384x4x1 : Shape := ⟨6, ![4, 4, 128, 16384, 4, 1]⟩
abbrev S4x4x16384x4x64 : Shape := ⟨5, ![4, 4, 16384, 4, 64]⟩

abbrev nBuf : Space → Nat
  | .hbm => 246
  | .vmem => 0
  | .smem => 0
  | _ => 0

abbrev hbmTy0_0 (i : Nat) : BufTy := match i % 128 with
  | 0 => ⟨S4x16384x1024, .bf16⟩
  | 1 => ⟨S4x16384x256, .bf16⟩
  | 2 => ⟨S4x16384x256, .bf16⟩
  | 3 => ⟨S4x16384x1024, .f32⟩
  | 4 => ⟨S4x128x128x16x64, .f32⟩
  | 5 => ⟨S4x128x128x16x64, .f32⟩
  | 6 => ⟨S_, .f32⟩
  | 7 => ⟨S4x128x16x64, .f32⟩
  | 8 => ⟨S4x128x1x16x64, .f32⟩
  | 9 => ⟨S_, .f32⟩
  | 10 => ⟨S4x128x1x16, .f32⟩
  | 11 => ⟨S4x128x1x16x1, .f32⟩
  | 12 => ⟨S_, .f32⟩
  | 13 => ⟨S4x128x1x16x1, .f32⟩
  | 14 => ⟨S4x128x1x16x1, .f32⟩
  | 15 => ⟨S4x128x1x16x1, .f32⟩
  | 16 => ⟨S_, .f32⟩
  | 17 => ⟨S_, .f32⟩
  | 18 => ⟨S4x128x1x16x1, .f32⟩
  | 19 => ⟨S4x128x1x16x1, .f32⟩
  | 20 => ⟨S4x128x1x16x1, .f32⟩
  | 21 => ⟨S_, .f32⟩
  | 22 => ⟨S4x128x1x16x1, .f32⟩
  | 23 => ⟨S4x128x1x16x1, .f32⟩
  | 24 => ⟨S_, .f32⟩
  | 25 => ⟨S4x128x1x16x1, .f32⟩
  | 26 => ⟨S4x128x1x16x1, .i1⟩
  | 27 => ⟨S_, .f32⟩
  | 28 => ⟨S_, .f32⟩
  | 29 => ⟨S4x128x1x16x1, .f32⟩
  | 30 => ⟨S4x128x1x16x1, .f32⟩
  | 31 => ⟨S4x128x1x16x1, .f32⟩
  | 32 => ⟨S_, .f32⟩
  | 33 => ⟨S4x128x1x16x1, .f32⟩
  | 34 => ⟨S4x128x1x16x1, .f32⟩
  | 35 => ⟨S4x128x128x16x64, .f32⟩
  | 36 => ⟨S4x128x128x16x64, .f32⟩
  | 37 => ⟨S_, .f32⟩
  | 38 => ⟨S_, .f32⟩
  | 39 => ⟨S_, .f32⟩
  | 40 => ⟨S4x128x128x16x64, .f32⟩
  | 41 => ⟨S4x128x128x16x64, .f32⟩
  | 42 => ⟨S_, .f32⟩
  | 43 => ⟨S4x128x128x16x64, .f32⟩
  | 44 => ⟨S4x128x128x16x64, .f32⟩
  | 45 => ⟨S_, .f32⟩
  | 46 => ⟨S4x128x1x16x1, .f32⟩
  | 47 => ⟨S4x128x1x16x1, .f32⟩
  | 48 => ⟨S4x16384x256, .f32⟩
  | 49 => ⟨S4x128x128x4x64, .f32⟩
  | 50 => ⟨S4x128x128x4x64, .f32⟩
  | 51 => ⟨S_, .f32⟩
  | 52 => ⟨S4x128x4x64, .f32⟩
  | 53 => ⟨S4x128x1x4x64, .f32⟩
  | 54 => ⟨S_, .f32⟩
  | 55 => ⟨S4x128x1x4, .f32⟩
  | 56 => ⟨S4x128x1x4x1, .f32⟩
  | 57 => ⟨S_, .f32⟩
  | 58 => ⟨S4x128x1x4x1, .f32⟩
  | 59 => ⟨S4x128x1x4x1, .f32⟩
  | 60 => ⟨S4x128x1x4x1, .f32⟩
  | 61 => ⟨S_, .f32⟩
  | 62 => ⟨S_, .f32⟩
  | 63 => ⟨S4x128x1x4x1, .f32⟩
  | 64 => ⟨S4x128x1x4x1, .f32⟩
  | 65 => ⟨S4x128x1x4x1, .f32⟩
  | 66 => ⟨S_, .f32⟩
  | 67 => ⟨S4x128x1x4x1, .f32⟩
  | 68 => ⟨S4x128x1x4x1, .f32⟩
  | 69 => ⟨S_, .f32⟩
  | 70 => ⟨S4x128x1x4x1, .f32⟩
  | 71 => ⟨S4x128x1x4x1, .i1⟩
  | 72 => ⟨S_, .f32⟩
  | 73 => ⟨S_, .f32⟩
  | 74 => ⟨S4x128x1x4x1, .f32⟩
  | 75 => ⟨S4x128x1x4x1, .f32⟩
  | 76 => ⟨S4x128x1x4x1, .f32⟩
  | 77 => ⟨S_, .f32⟩
  | 78 => ⟨S4x128x1x4x1, .f32⟩
  | 79 => ⟨S4x128x1x4x1, .f32⟩
  | 80 => ⟨S4x128x128x4x64, .f32⟩
  | 81 => ⟨S4x128x128x4x64, .f32⟩
  | 82 => ⟨S_, .f32⟩
  | 83 => ⟨S_, .f32⟩
  | 84 => ⟨S_, .f32⟩
  | 85 => ⟨S4x128x128x4x64, .f32⟩
  | 86 => ⟨S4x128x128x4x64, .f32⟩
  | 87 => ⟨S_, .f32⟩
  | 88 => ⟨S4x128x128x4x64, .f32⟩
  | 89 => ⟨S4x128x128x4x64, .f32⟩
  | 90 => ⟨S_, .f32⟩
  | 91 => ⟨S4x128x1x4x1, .f32⟩
  | 92 => ⟨S4x128x1x4x1, .f32⟩
  | 93 => ⟨S4x16384x256, .f32⟩
  | 94 => ⟨S4x128x128x4x64, .f32⟩
  | 95 => ⟨S4x128x128x4x64, .f32⟩
  | 96 => ⟨S_, .f32⟩
  | 97 => ⟨S4x128x4x64, .f32⟩
  | 98 => ⟨S4x128x1x4x64, .f32⟩
  | 99 => ⟨S_, .f32⟩
  | 100 => ⟨S4x128x1x4, .f32⟩
  | 101 => ⟨S4x128x1x4x1, .f32⟩
  | 102 => ⟨S_, .f32⟩
  | 103 => ⟨S4x128x1x4x1, .f32⟩
  | 104 => ⟨S4x128x1x4x1, .f32⟩
  | 105 => ⟨S4x128x1x4x1, .f32⟩
  | 106 => ⟨S_, .f32⟩
  | 107 => ⟨S_, .f32⟩
  | 108 => ⟨S4x128x1x4x1, .f32⟩
  | 109 => ⟨S4x128x1x4x1, .f32⟩
  | 110 => ⟨S4x128x1x4x1, .f32⟩
  | 111 => ⟨S_, .f32⟩
  | 112 => ⟨S4x128x1x4x1, .f32⟩
  | 113 => ⟨S4x128x1x4x1, .f32⟩
  | 114 => ⟨S_, .f32⟩
  | 115 => ⟨S4x128x1x4x1, .f32⟩
  | 116 => ⟨S4x128x1x4x1, .i1⟩
  | 117 => ⟨S_, .f32⟩
  | 118 => ⟨S_, .f32⟩
  | 119 => ⟨S4x128x1x4x1, .f32⟩
  | 120 => ⟨S4x128x1x4x1, .f32⟩
  | 121 => ⟨S4x128x1x4x1, .f32⟩
  | 122 => ⟨S_, .f32⟩
  | 123 => ⟨S4x128x1x4x1, .f32⟩
  | 124 => ⟨S4x128x1x4x1, .f32⟩
  | 125 => ⟨S4x128x128x4x64, .f32⟩
  | 126 => ⟨S4x128x128x4x64, .f32⟩
  | 127 => ⟨S_, .f32⟩
  | _ => ⟨S4x16384x1024, .bf16⟩

abbrev hbmTy0_1 (i : Nat) : BufTy := match i % 128 with
  | 0 => ⟨S_, .f32⟩
  | 1 => ⟨S_, .f32⟩
  | 2 => ⟨S4x128x128x4x64, .f32⟩
  | 3 => ⟨S4x128x128x4x64, .f32⟩
  | 4 => ⟨S_, .f32⟩
  | 5 => ⟨S4x128x128x4x64, .f32⟩
  | 6 => ⟨S4x128x128x4x64, .f32⟩
  | 7 => ⟨S_, .f32⟩
  | 8 => ⟨S4x128x1x4x1, .f32⟩
  | 9 => ⟨S4x128x1x4x1, .f32⟩
  | 10 => ⟨S4x16384x4x4x64, .f32⟩
  | 11 => ⟨S4x4x16384x4x128x128, .f32⟩
  | 12 => ⟨S4x128x128x16x1, .f32⟩
  | 13 => ⟨S4x16384x4x4, .f32⟩
  | 14 => ⟨S4x4x16384x4, .f32⟩
  | 15 => ⟨S4x4x16384x4x1x1, .f32⟩
  | 16 => ⟨S4x128x4, .f32⟩
  | 17 => ⟨S4x4x128, .f32⟩
  | 18 => ⟨S4x4x1x1x128x1, .f32⟩
  | 19 => ⟨S4x4x16384x4x128x1, .f32⟩
  | 20 => ⟨S4x4x16384x4x128x1, .f32⟩
  | 21 => ⟨S4x4x16384x4x128x1, .f32⟩
  | 22 => ⟨S_, .f32⟩
  | 23 => ⟨S4x4x16384x4x128x1, .f32⟩
  | 24 => ⟨S4x4x16384x4x128x1, .f32⟩
  | 25 => ⟨S4x4x16384x4x128x128, .f32⟩
  | 26 => ⟨S4x4x16384x4x128x128, .f32⟩
  | 27 => ⟨S_, .f32⟩
  | 28 => ⟨S4x4x16384x4x128x128, .f32⟩
  | 29 => ⟨S4x4x16384x4x128x128, .f32⟩
  | 30 => ⟨S4x4x16384x4x128x128, .f32⟩
  | 31 => ⟨S_, .f32⟩
  | 32 => ⟨S4x4x16384x4x128x128, .f32⟩
  | 33 => ⟨S4x4x16384x4x128x128, .f32⟩
  | 34 => ⟨S16384x128x128, .i32⟩
  | 35 => ⟨S_, .i32⟩
  | 36 => ⟨S16384x128x128, .i32⟩
  | 37 => ⟨S16384x128x128, .i32⟩
  | 38 => ⟨S16384x128x128, .i32⟩
  | 39 => ⟨S16384x128x128, .i32⟩
  | 40 => ⟨S16384x128x128, .i32⟩
  | 41 => ⟨S16384x128x128, .i1⟩
  | 42 => ⟨S1x1x16384x1x128x128, .i1⟩
  | 43 => ⟨S_, .f32⟩
  | 44 => ⟨S_, .f32⟩
  | 45 => ⟨S4x4x16384x4x128x128, .i1⟩
  | 46 => ⟨S4x4x16384x4x128x128, .f32⟩
  | 47 => ⟨S4x4x16384x4x128x128, .f32⟩
  | 48 => ⟨S_, .f32⟩
  | 49 => ⟨S4x4x16384x4x128, .f32⟩
  | 50 => ⟨S4x4x16384x4x128x1, .f32⟩
  | 51 => ⟨S_, .f32⟩
  | 52 => ⟨S4x4x16384x4x1, .f32⟩
  | 53 => ⟨S4x4x16384x4x1x1, .f32⟩
  | 54 => ⟨S4x4x16384x4x128x128, .f32⟩
  | 55 => ⟨S4x4x16384x4x128x128, .f32⟩
  | 56 => ⟨S4x4x16384x4x128x128, .f32⟩
  | 57 => ⟨S_, .f32⟩
  | 58 => ⟨S4x4x16384x4x128, .f32⟩
  | 59 => ⟨S_, .f32⟩
  | 60 => ⟨S4x4x16384x4, .f32⟩
  | 61 => ⟨S4x4x16384x4x128x128, .f32⟩
  | 62 => ⟨S_, .f32⟩
  | 63 => ⟨S4x4x16384x4x128, .f32⟩
  | 64 => ⟨S4x4x16384x4x128x1, .f32⟩
  | 65 => ⟨S_, .f32⟩
  | 66 => ⟨S4x4x16384x4x128x1, .f32⟩
  | 67 => ⟨S4x4x16384x4x128x1, .f32⟩
  | 68 => ⟨S4x4x16384x4x128x1, .f32⟩
  | 69 => ⟨S_, .f32⟩
  | 70 => ⟨S_, .f32⟩
  | 71 => ⟨S4x4x16384x4x128x1, .f32⟩
  | 72 => ⟨S4x4x16384x4x128x1, .f32⟩
  | 73 => ⟨S4x4x16384x4x128x1, .f32⟩
  | 74 => ⟨S_, .f32⟩
  | 75 => ⟨S4x4x16384x4x128x1, .f32⟩
  | 76 => ⟨S4x4x16384x4x128x1, .f32⟩
  | 77 => ⟨S_, .f32⟩
  | 78 => ⟨S4x4x16384x4x128x1, .f32⟩
  | 79 => ⟨S4x4x16384x4x128x1, .i1⟩
  | 80 => ⟨S_, .f32⟩
  | 81 => ⟨S_, .f32⟩
  | 82 => ⟨S4x4x16384x4x128x1, .f32⟩
  | 83 => ⟨S4x4x16384x4x128x1, .f32⟩
  | 84 => ⟨S4x4x16384x4x128x1, .f32⟩
  | 85 => ⟨S_, .f32⟩
  | 86 => ⟨S4x4x16384x4x128x1, .f32⟩
  | 87 => ⟨S4x4x16384x4x128x1, .f32⟩
  | 88 => ⟨S4x4x16384x4x128x128, .f32⟩
  | 89 => ⟨S4x4x16384x4x128x128, .f32⟩
  | 90 => ⟨S_, .f32⟩
  | 91 => ⟨S_, .f32⟩
  | 92 => ⟨S_, .f32⟩
  | 93 => ⟨S4x4x16384x4x128x128, .f32⟩
  | 94 => ⟨S4x4x16384x4x128x128, .f32⟩
  | 95 => ⟨S_, .f32⟩
  | 96 => ⟨S4x4x16384x4x128x128, .f32⟩
  | 97 => ⟨S4x4x16384x4x128x128, .f32⟩
  | 98 => ⟨S_, .f32⟩
  | 99 => ⟨S4x4x16384x4x128x1, .f32⟩
  | 100 => ⟨S4x4x16384x4x128x1, .f32⟩
  | 101 => ⟨S4x4x128x16384x4x64, .f32⟩
  | 102 => ⟨S4x128x4, .f32⟩
  | 103 => ⟨S4x4x128, .f32⟩
  | 104 => ⟨S4x4x128x1x1x1, .f32⟩
  | 105 => ⟨S4x4x128x16384x4x1, .f32⟩
  | 106 => ⟨S4x4x128x16384x4x1, .f32⟩
  | 107 => ⟨S4x4x128x16384x4x1, .f32⟩
  | 108 => ⟨S4x4x128x16384x4x64, .f32⟩
  | 109 => ⟨S4x4x128x16384x4x64, .f32⟩
  | 110 => ⟨S_, .f32⟩
  | 111 => ⟨S4x4x16384x4x64, .f32⟩
  | 112 => ⟨S4x4x16384x4x1, .f32⟩
  | 113 => ⟨S4x4x16384x4x64, .f32⟩
  | 114 => ⟨S4x4x16384x4x64, .f32⟩
  | 115 => ⟨S4x4x16384x4x64, .bf16⟩
  | 116 => ⟨S4x16384x4x4x64, .bf16⟩
  | 117 => ⟨S4x16384x1024, .bf16⟩
  | _ => ⟨S4x16384x1024, .bf16⟩

abbrev hbmTy (i : Nat) : BufTy := match i / 128 with
  | 0 => hbmTy0_0 i
  | 1 => hbmTy0_1 i
  | _ => ⟨S4x16384x1024, .bf16⟩

abbrev bufTy : (tb : Table) → Fin (tcTables nBuf tb) → BufTy
  | .hbm, ⟨i, _⟩ => hbmTy i
  | _, _ => ⟨S4x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_cst_8 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v24 : Ref sig .tc := ⟨.hbm, 44, rfl⟩
abbrev main_cst_9 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_10 : Ref sig .tc := ⟨.hbm, 51, rfl⟩
abbrev main_v30 : Ref sig .tc := ⟨.hbm, 52, rfl⟩
abbrev main_v31 : Ref sig .tc := ⟨.hbm, 53, rfl⟩
abbrev main_cst_11 : Ref sig .tc := ⟨.hbm, 54, rfl⟩
abbrev main_v32 : Ref sig .tc := ⟨.hbm, 55, rfl⟩
abbrev main_v33 : Ref sig .tc := ⟨.hbm, 56, rfl⟩
abbrev main_cst_12 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_13 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_14 : Ref sig .tc := ⟨.hbm, 66, rfl⟩
abbrev main_v41 : Ref sig .tc := ⟨.hbm, 67, rfl⟩
abbrev main_v42 : Ref sig .tc := ⟨.hbm, 68, rfl⟩
abbrev main_cst_15 : Ref sig .tc := ⟨.hbm, 69, rfl⟩
abbrev main_v43 : Ref sig .tc := ⟨.hbm, 70, rfl⟩
abbrev main_v44 : Ref sig .tc := ⟨.hbm, 71, rfl⟩
abbrev main_cst_16 : Ref sig .tc := ⟨.hbm, 72, rfl⟩
abbrev main_call2_v0 : Ref sig .tc := ⟨.hbm, 73, rfl⟩
abbrev main_call2_v1 : Ref sig .tc := ⟨.hbm, 74, rfl⟩
abbrev main_v45 : Ref sig .tc := ⟨.hbm, 75, rfl⟩
abbrev main_v46 : Ref sig .tc := ⟨.hbm, 76, rfl⟩
abbrev main_cst_17 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_18 : Ref sig .tc := ⟨.hbm, 82, rfl⟩
abbrev main_cst_19 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_v51 : Ref sig .tc := ⟨.hbm, 89, rfl⟩
abbrev main_cst_20 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_21 : Ref sig .tc := ⟨.hbm, 96, rfl⟩
abbrev main_v57 : Ref sig .tc := ⟨.hbm, 97, rfl⟩
abbrev main_v58 : Ref sig .tc := ⟨.hbm, 98, rfl⟩
abbrev main_cst_22 : Ref sig .tc := ⟨.hbm, 99, rfl⟩
abbrev main_v59 : Ref sig .tc := ⟨.hbm, 100, rfl⟩
abbrev main_v60 : Ref sig .tc := ⟨.hbm, 101, rfl⟩
abbrev main_cst_23 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_24 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_25 : Ref sig .tc := ⟨.hbm, 111, rfl⟩
abbrev main_v68 : Ref sig .tc := ⟨.hbm, 112, rfl⟩
abbrev main_v69 : Ref sig .tc := ⟨.hbm, 113, rfl⟩
abbrev main_cst_26 : Ref sig .tc := ⟨.hbm, 114, rfl⟩
abbrev main_v70 : Ref sig .tc := ⟨.hbm, 115, rfl⟩
abbrev main_v71 : Ref sig .tc := ⟨.hbm, 116, rfl⟩
abbrev main_cst_27 : Ref sig .tc := ⟨.hbm, 117, rfl⟩
abbrev main_call4_v0 : Ref sig .tc := ⟨.hbm, 118, rfl⟩
abbrev main_call4_v1 : Ref sig .tc := ⟨.hbm, 119, rfl⟩
abbrev main_v72 : Ref sig .tc := ⟨.hbm, 120, rfl⟩
abbrev main_v73 : Ref sig .tc := ⟨.hbm, 121, rfl⟩
abbrev main_cst_28 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_cst_29 : Ref sig .tc := ⟨.hbm, 127, rfl⟩
abbrev main_cst_30 : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_call5_v3 : Ref sig .tc := ⟨.hbm, 132, rfl⟩
abbrev main_call5_v4 : Ref sig .tc := ⟨.hbm, 133, rfl⟩
abbrev main_v78 : Ref sig .tc := ⟨.hbm, 134, rfl⟩
abbrev main_cst_31 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_cst_32 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_cst_33 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_cst_34 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_c : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_cst_35 : Ref sig .tc := ⟨.hbm, 171, rfl⟩
abbrev main_call6_v0 : Ref sig .tc := ⟨.hbm, 172, rfl⟩
abbrev main_call6_v1 : Ref sig .tc := ⟨.hbm, 173, rfl⟩
abbrev main_call6_v2 : Ref sig .tc := ⟨.hbm, 174, rfl⟩
abbrev main_v110 : Ref sig .tc := ⟨.hbm, 175, rfl⟩
abbrev main_cst_36 : Ref sig .tc := ⟨.hbm, 176, rfl⟩
abbrev main_v111 : Ref sig .tc := ⟨.hbm, 177, rfl⟩
abbrev main_v112 : Ref sig .tc := ⟨.hbm, 178, rfl⟩
abbrev main_cst_37 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_cst_38 : Ref sig .tc := ⟨.hbm, 185, rfl⟩
abbrev main_v118 : Ref sig .tc := ⟨.hbm, 186, rfl⟩
abbrev main_cst_39 : Ref sig .tc := ⟨.hbm, 187, rfl⟩
abbrev main_v119 : Ref sig .tc := ⟨.hbm, 188, rfl⟩
abbrev main_v120 : Ref sig .tc := ⟨.hbm, 189, rfl⟩
abbrev main_cst_40 : Ref sig .tc := ⟨.hbm, 190, rfl⟩
abbrev main_v121 : Ref sig .tc := ⟨.hbm, 191, rfl⟩
abbrev main_v122 : Ref sig .tc := ⟨.hbm, 192, rfl⟩
abbrev main_cst_41 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_cst_42 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_cst_43 : Ref sig .tc := ⟨.hbm, 202, rfl⟩
abbrev main_v130 : Ref sig .tc := ⟨.hbm, 203, rfl⟩
abbrev main_v131 : Ref sig .tc := ⟨.hbm, 204, rfl⟩
abbrev main_cst_44 : Ref sig .tc := ⟨.hbm, 205, rfl⟩
abbrev main_v132 : Ref sig .tc := ⟨.hbm, 206, rfl⟩
abbrev main_v133 : Ref sig .tc := ⟨.hbm, 207, rfl⟩
abbrev main_cst_45 : Ref sig .tc := ⟨.hbm, 208, rfl⟩
abbrev main_call7_v0 : Ref sig .tc := ⟨.hbm, 209, rfl⟩
abbrev main_call7_v1 : Ref sig .tc := ⟨.hbm, 210, rfl⟩
abbrev main_v134 : Ref sig .tc := ⟨.hbm, 211, rfl⟩
abbrev main_v135 : Ref sig .tc := ⟨.hbm, 212, rfl⟩
abbrev main_cst_46 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_cst_47 : Ref sig .tc := ⟨.hbm, 218, rfl⟩
abbrev main_cst_48 : Ref sig .tc := ⟨.hbm, 219, rfl⟩
abbrev main_call8_v0 : Ref sig .tc := ⟨.hbm, 220, rfl⟩
abbrev main_call8_v1 : Ref sig .tc := ⟨.hbm, 221, rfl⟩
abbrev main_call8_v2 : Ref sig .tc := ⟨.hbm, 222, rfl⟩
abbrev main_call8_v3 : Ref sig .tc := ⟨.hbm, 223, rfl⟩
abbrev main_call8_v4 : Ref sig .tc := ⟨.hbm, 224, rfl⟩
abbrev main_v140 : Ref sig .tc := ⟨.hbm, 225, rfl⟩
abbrev main_cst_49 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_cst_50 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩

abbrev nD : Nat := 1
abbrev τ : Topo := Topo.v7x

variable {F : FTy → Type} [FloatOps F]
-- ==== Proof.Pow2.lean ====
/- The power-of-two scale of the quantiser, over the reals: the exponent `expo x` of a value, the kernel's words for it
   (a count of powers of two, and a power of two put together from its exponent bits), and the fact that no element of
   a block is clipped. -/
module

public import Idealize.ShloMosaic.PureOps.Ideal
public import Idealize.ShloMosaic.PureOps.Reduce
public import Idealize.ShloMosaic.Lib.IndicatorCount
public import Mathlib.Analysis.SpecialFunctions.Log.Basic

@[expose] public section

noncomputable section

namespace Cert.Attn

open Idealize.ShloMosaic

/-- The exponent of the scale: zero below the smallest normal number, otherwise one more than the floor of the binary
    logarithm. -/
def expo (x : ℝ) : ℤ := if x < (2 : ℝ) ^ (-126 : ℤ) then 0 else ⌊Real.log x / Real.log 2⌋ + 1

/-- The f32 word of `1 / 448`, as a real number. -/
def c448 : ℝ := (2 ^ 23 + 1198373 : ℕ) * (2 : ℝ) ^ (-32 : ℤ)

theorem ofBits_c448 : Ideal.ofBits .f32 0x3B124925#32 = ((c448 : ℝ) : EReal) := by
  simp [Ideal.ofBits, Ideal.ieee, c448]

theorem c448_pos : 0 < c448 := by unfold c448; positivity

theorem one_le_c448 : 1 ≤ 448 * c448 := by
  unfold c448
  rw [zpow_neg]
  norm_num

theorem c448_lt : c448 < 1 / 447 := by
  unfold c448
  rw [zpow_neg]
  norm_num

theorem log2_pos : 0 < Real.log 2 := Real.log_pos (by norm_num)

/-- Comparing the floor of the binary logarithm with a whole number compares the value with that power of two. -/
theorem le_floor_iff {x : ℝ} (hx : 0 < x) (n : ℤ) : n ≤ ⌊Real.log x / Real.log 2⌋ ↔ (2 : ℝ) ^ n ≤ x := by
  rw [Int.le_floor, le_div_iff₀ log2_pos, ← Real.log_zpow, Real.log_le_log_iff (by positivity) hx]

/-- Below the scale: a value lies below two to its exponent. -/
theorem lt_two_pow_expo {x : ℝ} (h : (2 : ℝ) ^ (-126 : ℤ) ≤ x) : x < (2 : ℝ) ^ expo x := by
  have hx : 0 < x := lt_of_lt_of_le (by positivity) h
  unfold expo
  rw [if_neg (not_lt.2 h)]
  by_contra hc
  have := (le_floor_iff hx _).2 (not_lt.1 hc)
  omega

/-- The exponent is at most `n` for a value below two to the `n`. -/
theorem expo_le {x : ℝ} {n : ℤ} (hn : 0 ≤ n) (h : x < (2 : ℝ) ^ n) : expo x ≤ n := by
  unfold expo
  split_ifs with h'
  · exact hn
  · have hx : 0 < x := lt_of_lt_of_le (by positivity) (not_lt.1 h')
    by_contra hc
    have := (le_floor_iff hx n).1 (by omega)
    linarith

theorem neg126_le_floor {x : ℝ} (h : (2 : ℝ) ^ (-126 : ℤ) ≤ x) : -126 ≤ ⌊Real.log x / Real.log 2⌋ :=
  (le_floor_iff (lt_of_lt_of_le (by positivity) h) _).2 h

theorem neg125_le_expo (x : ℝ) : -125 ≤ expo x := by
  unfold expo
  split_ifs with h
  · norm_num
  · have := neg126_le_floor (not_lt.1 h); omega

/-- No element of a block is clipped: scaled by the block's power of two it stays within 448. -/
theorem abs_scaled_le {y a : ℝ} (hy : |y| ≤ a) : |y * (2 : ℝ) ^ (-expo (a * c448))| ≤ 448 := by
  have ha : a ≤ 448 * (a * c448) := by
    have := one_le_c448
    have h0 : 0 ≤ a := (abs_nonneg y).trans hy
    nlinarith
  have key : a ≤ 448 * (2 : ℝ) ^ expo (a * c448) := by
    by_cases h : a * c448 < (2 : ℝ) ^ (-126 : ℤ)
    · have h1 : (2 : ℝ) ^ (-126 : ℤ) ≤ 1 := by
        rw [zpow_neg]; exact inv_le_one_of_one_le₀ (by norm_num)
      unfold expo; rw [if_pos h]; simp only [zpow_zero]; linarith
    · have := lt_two_pow_expo (not_lt.1 h); linarith
  rw [abs_mul, abs_of_pos (by positivity : (0 : ℝ) < 2 ^ (-expo (a * c448))), zpow_neg]
  rw [mul_inv_le_iff₀ (by positivity)]
  linarith

/-- A clip that does not act. -/
theorem clip_eq {y a : ℝ} (hy : |y| ≤ a) :
    min (448 : ℝ) (max (-448) (y * (2 : ℝ) ^ (-expo (a * c448)))) = y * (2 : ℝ) ^ (-expo (a * c448)) := by
  have := abs_le.1 (abs_scaled_le hy)
  rw [max_eq_right this.1, min_eq_right this.2]

theorem ofBits_f32 (b : BitVec 32) : Ideal.ofBits .f32 b = Ideal.ieee 8 23 b := rfl

/-- A positive word without significand bits, by its exponent bits. -/
theorem ieee_pow (b : BitVec 32) (n : ℕ) (h1 : 1 ≤ n) (h2 : n ≤ 254) (e0 : (b.extractLsb' 31 1 == 1#1) = false)
    (e1 : (b.extractLsb' 23 8).toNat = n) (e2 : (b.extractLsb' 0 23).toNat = 0) :
    Ideal.ieee 8 23 b = (((2 : ℝ) ^ ((n : ℤ) - 127) : ℝ) : EReal) := by
  unfold Ideal.ieee
  simp only [Nat.reduceAdd]
  rw [e0, e1, e2]
  rw [if_neg (by norm_num; omega), if_neg (by omega)]
  simp only [Bool.false_eq_true, if_false, one_mul]
  congr 1
  push_cast
  have e : (8388608 : ℝ) = 2 ^ (23 : ℤ) := by norm_num
  rw [e, ← zpow_add₀ (by norm_num)]
  congr 1
  ring

theorem ieee_top (b : BitVec 32) (e0 : (b.extractLsb' 31 1 == 1#1) = false)
    (e1 : (b.extractLsb' 23 8).toNat = 255) (e2 : (b.extractLsb' 0 23).toNat = 0) : Ideal.ieee 8 23 b = ⊤ := by
  unfold Ideal.ieee
  simp only [Nat.reduceAdd]
  rw [e0, e1, e2]
  norm_num

/-- The fields of the words with exponent bits `k` and nothing else. -/
theorem shift_fields : ∀ k : Fin 256, ((BitVec.ofNat 32 k.val <<< (23 : ℕ)).extractLsb' 31 1 == 1#1) = false
    ∧ ((BitVec.ofNat 32 k.val <<< (23 : ℕ)).extractLsb' 23 8).toNat = k.val
    ∧ ((BitVec.ofNat 32 k.val <<< (23 : ℕ)).extractLsb' 0 23).toNat = 0 := by decide +kernel

/-- The f32 word with exponent bits `n` and nothing else is a power of two. -/
theorem ofBits_shift {n : ℕ} (h1 : 1 ≤ n) (h2 : n ≤ 254) :
    Ideal.ofBits .f32 (BitVec.ofNat 32 n <<< (23 : ℕ)) = (((2 : ℝ) ^ ((n : ℤ) - 127) : ℝ) : EReal) := by
  obtain ⟨e0, e1, e2⟩ := shift_fields ⟨n, by omega⟩
  exact (ofBits_f32 _).trans (ieee_pow _ n h1 h2 e0 e1 e2)

/-- The last of the kernel's thresholds is infinite. -/
theorem ofBits_shift_top : Ideal.ofBits .f32 (BitVec.ofNat 32 255 <<< (23 : ℕ)) = ⊤ := by
  obtain ⟨e0, e1, e2⟩ := shift_fields ⟨255, by omega⟩
  exact (ofBits_f32 _).trans (ieee_top _ e0 e1 e2)

/-- The kernel's threshold `k`: the word with exponent bits `k + 1`. -/
def edge (k : ℕ) : EReal := Ideal.ofBits .f32 (BitVec.ofNat 32 (k + 1) <<< (23 : ℕ))

/-- The kernel's count of the thresholds a value does not lie below. -/
def cnt (x : EReal) : BitVec 32 :=
  (Finset.univ : Finset (Fin 255)).fold IntOp.addi 0#32 (fun k => if x < edge k.val then 0#32 else 1#32)

/-- The kernel's word of the exponent. -/
def kexp (x : EReal) : BitVec 32 := if cnt x = 0#32 then 0#32 else cnt x - 126#32

theorem edge_le_iff {x : ℝ} (hx : 0 < x) (k : Fin 255) :
    edge k.val ≤ (x : EReal) ↔ k.val < 254 ∧ ((k.val : ℤ) - 126 ≤ ⌊Real.log x / Real.log 2⌋) := by
  rw [le_floor_iff hx]
  unfold edge
  rcases Nat.lt_or_ge k.val 254 with h | h
  · rw [ofBits_shift (by omega) (by omega), EReal.coe_le_coe_iff]
    simp only [h, true_and]
    have : ((k.val + 1 : ℕ) : ℤ) - 127 = (k.val : ℤ) - 126 := by push_cast; ring
    rw [this]
  · have : k.val = 254 := by omega
    rw [this, ofBits_shift_top]
    simp

theorem cnt_eq_card (x : EReal) :
    cnt x = BitVec.ofNat 32 ((Finset.univ : Finset (Fin 255)).filter fun k => edge k.val ≤ x).card := by
  have h := IndicatorCount.fold_addi_setWidth_eq_card (w := 32) (fun k : Fin 255 => BitVec.ofBool (decide (edge k.val ≤ x))) Finset.univ
  unfold cnt
  have e : (fun k : Fin 255 => if x < edge k.val then 0#32 else 1#32)
      = fun k => (BitVec.ofBool (decide (edge k.val ≤ x))).setWidth 32 := by
    funext k
    by_cases hk : edge k.val ≤ x
    · rw [if_neg (not_lt.2 hk)]; simp [hk]
    · rw [if_pos (not_le.1 hk)]; simp [hk]
  rw [e, h]
  congr 2
  ext k
  by_cases hk : edge k.val ≤ x <;> simp [hk]

theorem card_lt (n : ℕ) (hn : n ≤ 255) : ((Finset.univ : Finset (Fin 255)).filter fun k => k.val < n).card = n := by
  have := Fin.card_filter_val_lt (n := 255) (m := n)
  omega

/-- The kernel's exponent word is the exponent. -/
theorem kexp_eq {x : ℝ} (h0 : 0 ≤ x) (h1 : x < (2 : ℝ) ^ (126 : ℤ)) : kexp (x : EReal) = BitVec.ofInt 32 (expo x) := by
  unfold kexp
  rw [cnt_eq_card]
  by_cases h : x < (2 : ℝ) ^ (-126 : ℤ)
  · have : ((Finset.univ : Finset (Fin 255)).filter fun k => edge k.val ≤ (x : EReal)) = ∅ := by
      ext k
      simp only [Finset.mem_filter, Finset.mem_univ, true_and, Finset.notMem_empty, iff_false, not_le]
      unfold edge
      rcases Nat.lt_or_ge k.val 254 with hk | hk
      · rw [ofBits_shift (by omega) (by omega), EReal.coe_lt_coe_iff]
        refine h.trans_le (zpow_le_zpow_right₀ (by norm_num) (by push_cast; omega))
      · have : k.val = 254 := by omega
        rw [this, ofBits_shift_top]
        exact EReal.coe_lt_top x
    rw [this]
    unfold expo
    rw [if_pos h]
    rfl
  · have hx : 0 < x := lt_of_lt_of_le (by positivity) (not_lt.1 h)
    have hf := neg126_le_floor (not_lt.1 h)
    have hle := expo_le (n := 126) (by norm_num) h1
    unfold expo at hle ⊢
    rw [if_neg h] at hle ⊢
    generalize hq : ⌊Real.log x / Real.log 2⌋ = f at hf hle
    have : ((Finset.univ : Finset (Fin 255)).filter fun k => edge k.val ≤ (x : EReal))
        = (Finset.univ : Finset (Fin 255)).filter fun k => k.val < (f + 127).toNat := by
      ext k
      simp only [Finset.mem_filter, Finset.mem_univ, true_and, edge_le_iff hx, hq]
      omega
    rw [this, card_lt _ (by omega)]
    obtain ⟨n, rfl⟩ : ∃ n : ℕ, f = (n : ℤ) - 126 := ⟨(f + 126).toNat, by omega⟩
    have e1 : ((n : ℤ) - 126 + 127).toNat = n + 1 := by omega
    rw [e1, if_neg]
    · have e2 : (n : ℤ) - 126 + 1 = ((n + 1 : ℕ) : ℤ) - 126 := by push_cast; ring
      rw [e2, sub_eq_add_neg, BitVec.ofInt_add, BitVec.ofInt_natCast, BitVec.ofInt_neg, BitVec.sub_eq_add_neg]
      rfl
    · intro hc
      have := congrArg BitVec.toNat hc
      rw [BitVec.toNat_ofNat] at this
      simp at this
      omega

/-- The kernel's power of two. -/
def kpow (w : BitVec 32) : EReal := Ideal.ofBits .f32 ((w + 127#32) <<< (23 : ℕ))

theorem kpow_eq {z : ℤ} (h1 : -126 ≤ z) (h2 : z ≤ 127) : kpow (BitVec.ofInt 32 z) = (((2 : ℝ) ^ z : ℝ) : EReal) := by
  obtain ⟨n, rfl⟩ : ∃ n : ℕ, z = (n : ℤ) - 127 := ⟨(z + 127).toNat, by omega⟩
  unfold kpow
  have : BitVec.ofInt 32 ((n : ℤ) - 127) + 127#32 = BitVec.ofNat 32 n := by
    have e : (127#32 : BitVec 32) = BitVec.ofInt 32 127 := rfl
    rw [e, ← BitVec.ofInt_add, sub_add_cancel, BitVec.ofInt_natCast]
  rw [this, ofBits_shift (by omega) (by omega)]

/-- The kernel's scale of a block and its inverse. -/
theorem kscale {x : ℝ} (h0 : 0 ≤ x) (h1 : x < (2 : ℝ) ^ (126 : ℤ)) :
    kpow (kexp (x : EReal)) = (((2 : ℝ) ^ expo x : ℝ) : EReal)
      ∧ kpow (0#32 - kexp (x : EReal)) = (((2 : ℝ) ^ (-expo x) : ℝ) : EReal) := by
  have h2 := expo_le (n := 126) (by norm_num) h1
  have h3 := neg125_le_expo x
  rw [kexp_eq h0 h1]
  refine ⟨kpow_eq (by omega) (by omega), ?_⟩
  have : (0#32 : BitVec 32) - BitVec.ofInt 32 (expo x) = BitVec.ofInt 32 (-expo x) := by
    rw [BitVec.ofInt_neg, BitVec.zero_sub]
  rw [this]
  exact kpow_eq (by omega) (by omega)

end Cert.Attn

end
-- ==== Proof.Online.lean ====
/- One query row of the attention, over the reals: what one key block does to the running maximum, the running sum and the
   running output of the row (the kernel's online softmax), what the blocks together leave, and what the plain softmax of
   the reference is. Both are the weighted mean of the values with the weights `2 ^ (50 log₂ e · t)`. -/
module

public import proofs.«01_k».proof.Proof.Pow2

@[expose] public section

noncomputable section

namespace Cert.Attn

open Idealize.ShloMosaic

/-- `50 log₂ e`, the factor between a score's hyperbolic tangent and its base-two exponent. -/
def cap : ℝ := 50 * (Real.log 2)⁻¹

theorem cap_pos : 0 < cap := mul_pos (by norm_num) (inv_pos.2 log2_pos)

theorem two_rpow_cap (t : ℝ) : (2 : ℝ) ^ (t * cap) = Real.exp (50 * t) := by
  rw [Real.rpow_def_of_pos (by norm_num)]
  congr 1
  unfold cap
  have := log2_pos.ne'
  field_simp

/-- A score's weight: zero for a masked one. -/
def wt (t : EReal) : ℝ := (Ideal.exp2 (t * ((cap : ℝ) : EReal))).toReal

theorem bot_mul_cap : (⊥ : EReal) * ((cap : ℝ) : EReal) = ⊥ := EReal.bot_mul_coe_of_pos cap_pos

@[simp] theorem wt_bot : wt ⊥ = 0 := by
  unfold wt; rw [bot_mul_cap]; simp

theorem wt_coe (t : ℝ) : wt (t : EReal) = (2 : ℝ) ^ (t * cap) := by
  unfold wt; rw [← EReal.coe_mul]; rfl

theorem wt_nonneg (t : EReal) : 0 ≤ wt t := by
  unfold wt
  induction t with
  | bot => rw [bot_mul_cap]; simp
  | top => rw [EReal.top_mul_coe_of_pos cap_pos]; simp
  | coe r => rw [← EReal.coe_mul]; simp only [Ideal.exp2_coe, EReal.toReal_coe]; exact (Real.rpow_pos_of_pos (by norm_num) _).le

/-- A row of scores with at least one unmasked: each score is real or masked. -/
def Fin' (th : Fin 128 → EReal) : Prop := ∀ r, th r = ⊥ ∨ ∃ t : ℝ, th r = t

/-- The largest score. -/
def vmax (th : Fin 128 → EReal) : EReal := Finset.univ.sup th

theorem vmax_real {th : Fin 128 → EReal} (h : Fin' th) (h1 : ∃ r, th r ≠ ⊥) : ∃ M : ℝ, vmax th = M := by
  obtain ⟨r, -, hr⟩ := Finset.exists_mem_eq_sup (Finset.univ : Finset (Fin 128)) ⟨0, Finset.mem_univ _⟩ th
  rcases h r with h' | ⟨t, ht⟩
  · exfalso
    obtain ⟨q, hq⟩ := h1
    apply hq
    have : th q ≤ vmax th := Finset.le_sup (f := th) (Finset.mem_univ q)
    unfold vmax at this
    rw [hr, h'] at this
    exact le_bot_iff.1 this
  · exact ⟨t, by unfold vmax; rw [hr, ht]⟩

theorem le_vmax (th : Fin 128 → EReal) (r : Fin 128) : th r ≤ vmax th := Finset.le_sup (f := th) (Finset.mem_univ r)

/-! ### One key block, as the kernel computes it -/

/-- The running maximum after a block. -/
def mStep (th : Fin 128 → EReal) (m : EReal) : EReal := max m (vmax th * ((cap : ℝ) : EReal))
/-- The factor the earlier sums are rescaled by. -/
def aStep (th : Fin 128 → EReal) (m : EReal) : EReal := Ideal.exp2 (m - mStep th m)
/-- The block's largest probability over 448. -/
def xStep (th : Fin 128 → EReal) (m : EReal) : EReal :=
  Ideal.exp2 (vmax th * ((cap : ℝ) : EReal) - mStep th m) * ((c448 : ℝ) : EReal)
/-- The block's probabilities. -/
def pStep (th : Fin 128 → EReal) (m : EReal) (r : Fin 128) : EReal :=
  Ideal.exp2 (th r * ((cap : ℝ) : EReal) - mStep th m)
/-- The running sum after a block. -/
def lStep (th : Fin 128 → EReal) (m l : EReal) : EReal := l * aStep th m + ∑ r, pStep th m r
/-- The codes of the block's probabilities. -/
def cStep (th : Fin 128 → EReal) (m : EReal) (r : Fin 128) : EReal :=
  min ((448 : ℝ) : EReal) (max (((-448 : ℝ)) : EReal) (pStep th m r * kpow (0#32 - kexp (xStep th m))))
/-- One element of the running output after a block. -/
def accStep (th v : Fin 128 → EReal) (vs m acc : EReal) : EReal :=
  acc * aStep th m + (∑ r, v r * cStep th m r) * (kpow (kexp (xStep th m)) * vs)

/-- The running maximum, sum and output element, as multiples of the sums of weights so far. -/
def Inv (m l acc : EReal) (W A : ℝ) : Prop :=
  (m = ⊥ ∧ l = 0 ∧ acc = 0 ∧ W = 0 ∧ A = 0)
    ∨ ∃ μ : ℝ, m = μ ∧ l = ((W * (2 : ℝ) ^ (-μ) : ℝ) : EReal) ∧ acc = ((A * (2 : ℝ) ^ (-μ) : ℝ) : EReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp2_score {th : Fin 128 → EReal} (h : Fin' th) (r : Fin 128) (μ : ℝ) :
    Ideal.exp2 (th r * ((cap : ℝ) : EReal) - (μ : EReal)) = ((wt (th r) * (2 : ℝ) ^ (-μ) : ℝ) : EReal) := by
  rcases h r with h' | ⟨t, ht⟩
  · rw [h', bot_mul_cap, EReal.bot_sub]; simp
  · rw [ht, wt_coe, ← Real.rpow_add (by norm_num), ← EReal.coe_mul, ← EReal.coe_sub, Ideal.exp2_coe, sub_eq_add_neg]
    rfl

/-- What one key block does to the running sums. -/
theorem Inv.step {m l acc : EReal} {W A : ℝ} (hI : Inv m l acc W A) {th v : Fin 128 → EReal} (h : Fin' th)
    (h1 : ∃ r, th r ≠ ⊥) {w : Fin 128 → ℝ} (hv : ∀ r, v r = w r) {vs : EReal} {u : ℝ} (hvs : vs = u) :
    Inv (mStep th m) (lStep th m l) (accStep th v vs m acc) (W + ∑ r, wt (th r)) (A + (∑ r, w r * wt (th r)) * u) := by
  obtain ⟨M, hM⟩ := vmax_real h h1
  have hm : ∃ μ' : ℝ, mStep th m = μ' ∧ M * cap ≤ μ' := by
    unfold mStep
    rw [hM, ← EReal.coe_mul]
    rcases hI with ⟨hm, -⟩ | ⟨μ, hm, -⟩
    · exact ⟨M * cap, by rw [hm]; simp, le_rfl⟩
    · refine ⟨max μ (M * cap), by rw [hm]; exact (EReal.coe_strictMono.monotone.map_max).symm, le_max_right _ _⟩
  obtain ⟨μ', hμ, hle⟩ := hm
  have hp : ∀ r, pStep th m r = ((wt (th r) * (2 : ℝ) ^ (-μ') : ℝ) : EReal) := fun r => by
    unfold pStep; rw [hμ]; exact exp2_score h r μ'
  set a : ℝ := (2 : ℝ) ^ (M * cap - μ') with ha
  have ha0 : 0 < a := Real.rpow_pos_of_pos (by norm_num) _
  have ha1 : a ≤ 1 := Real.rpow_le_one_of_one_le_of_nonpos (by norm_num) (by linarith)
  have hx : xStep th m = ((a * c448 : ℝ) : EReal) := by
    unfold xStep
    rw [hμ, hM, ← EReal.coe_mul, ← EReal.coe_sub, Ideal.exp2_coe, EReal.coe_mul]
    rfl
  have hpa : ∀ r, |wt (th r) * (2 : ℝ) ^ (-μ')| ≤ a := fun r => by
    rw [abs_of_nonneg (mul_nonneg (wt_nonneg _) (Real.rpow_pos_of_pos (by norm_num) _).le)]
    rcases h r with h' | ⟨t, ht⟩
    · rw [h', wt_bot, zero_mul]; exact ha0.le
    · have htM : t ≤ M := by
        have := le_vmax th r
        rw [ht, hM] at this
        exact EReal.coe_le_coe_iff.1 this
      rw [ht, wt_coe, ← Real.rpow_add (by norm_num), ha]
      refine Real.rpow_le_rpow_of_exponent_le (by norm_num) ?_
      have := mul_le_mul_of_nonneg_right htM cap_pos.le
      linarith
  have hxl : a * c448 < (2 : ℝ) ^ (126 : ℤ) := by
    have : c448 < 1 := c448_lt.trans (by norm_num)
    have h2 : a * c448 < 1 := by nlinarith [c448_pos]
    exact h2.trans (by norm_num)
  obtain ⟨hk, hk'⟩ := kscale (mul_nonneg ha0.le c448_pos.le) hxl
  have hc : ∀ r, cStep th m r = ((wt (th r) * (2 : ℝ) ^ (-μ') * (2 : ℝ) ^ (-expo (a * c448)) : ℝ) : EReal) := fun r => by
    unfold cStep
    rw [hx, hk', hp, ← EReal.coe_mul, ← EReal.coe_strictMono.monotone.map_max, ← EReal.coe_strictMono.monotone.map_min,
      clip_eq (hpa r)]
  have hpv : (∑ r, v r * cStep th m r) * (kpow (kexp (xStep th m)) * vs)
      = (((∑ r, w r * wt (th r)) * u * (2 : ℝ) ^ (-μ') : ℝ) : EReal) := by
    rw [hx, hk, hvs]
    have : ∀ r, v r * cStep th m r
        = ((w r * (wt (th r) * (2 : ℝ) ^ (-μ') * (2 : ℝ) ^ (-expo (a * c448))) : ℝ) : EReal) := fun r => by
      rw [hv, hc, ← EReal.coe_mul]
    rw [Finset.sum_congr rfl fun r _ => this r, ← coe_sum, ← EReal.coe_mul, ← EReal.coe_mul]
    congr 1
    have e : ∀ r, w r * (wt (th r) * (2 : ℝ) ^ (-μ') * (2 : ℝ) ^ (-expo (a * c448)))
        = (w r * wt (th r)) * ((2 : ℝ) ^ (-μ') * (2 : ℝ) ^ (-expo (a * c448))) := fun r => by ring
    rw [Finset.sum_congr rfl fun r _ => e r, ← Finset.sum_mul]
    have e2 : (2 : ℝ) ^ (-expo (a * c448)) * (2 : ℝ) ^ expo (a * c448) = 1 := by
      rw [← zpow_add₀ (by norm_num)]; simp
    linear_combination ((∑ r, w r * wt (th r)) * (2 : ℝ) ^ (-μ') * u) * e2
  have hps : ∑ r, pStep th m r = (((∑ r, wt (th r)) * (2 : ℝ) ^ (-μ') : ℝ) : EReal) := by
    rw [Finset.sum_congr rfl fun r _ => hp r, ← coe_sum, ← Finset.sum_mul]
  right
  refine ⟨μ', hμ, ?_, ?_⟩
  · unfold lStep
    rw [hps]
    rcases hI with ⟨hm, hl, -, hW, -⟩ | ⟨μ, hm, hl, -⟩
    · rw [hl, hW, zero_mul, zero_add, zero_add]
    · unfold aStep
      rw [hl, hm, ← hm, hμ, hm, ← EReal.coe_sub, Ideal.exp2_coe, ← EReal.coe_mul, ← EReal.coe_add]
      congr 1
      have : (2 : ℝ) ^ (-μ) * Real.rpow 2 (μ - μ') = (2 : ℝ) ^ (-μ') := by
        show (2 : ℝ) ^ (-μ) * (2 : ℝ) ^ (μ - μ') = _
        rw [← Real.rpow_add (by norm_num)]; congr 1; ring
      linear_combination W * this
  · unfold accStep
    rw [hpv]
    rcases hI with ⟨hm, -, hac, -, hA⟩ | ⟨μ, hm, -, hac⟩
    · rw [hac, hA, zero_mul, zero_add, zero_add]
    · unfold aStep
      rw [hac, hm, ← hm, hμ, hm, ← EReal.coe_sub, Ideal.exp2_coe, ← EReal.coe_mul, ← EReal.coe_add]
      congr 1
      have : (2 : ℝ) ^ (-μ) * Real.rpow 2 (μ - μ') = (2 : ℝ) ^ (-μ') := by
        show (2 : ℝ) ^ (-μ) * (2 : ℝ) ^ (μ - μ') = _
        rw [← Real.rpow_add (by norm_num)]; congr 1; ring
      linear_combination A * this

theorem Inv.init : Inv ⊥ 0 0 0 0 := Or.inl ⟨rfl, rfl, rfl, rfl, rfl⟩

/-- The quotient the kernel stores is the weighted mean. -/
theorem Inv.div {m l acc : EReal} {W A : ℝ} (hI : Inv m l acc W A) (hW : 0 < W) :
    Ideal.div acc l = ((A / W : ℝ) : EReal) := by
  rcases hI with ⟨-, -, -, h, -⟩ | ⟨μ, -, hl, hac⟩
  · exact absurd h hW.ne'
  · have h2 : (0 : ℝ) < (2 : ℝ) ^ (-μ) := Real.rpow_pos_of_pos (by norm_num) _
    unfold Ideal.div
    rw [hl, hac, if_neg, ← EReal.coe_inv, ← EReal.coe_mul]
    · congr 1
      field_simp
    · intro h
      have := EReal.coe_eq_zero.1 h
      exact (mul_pos hW h2).ne' this

/-! ### The whole row -/

/-- The weighted mean of a row: the sums of the first `n` key blocks. -/
def wsum (th : ℕ → Fin 128 → EReal) (n : ℕ) : ℝ := ∑ j ∈ Finset.range n, ∑ r, wt (th j r)
def vsum (th : ℕ → Fin 128 → EReal) (v : ℕ → Fin 128 → ℝ) (u : ℕ → ℝ) (n : ℕ) : ℝ :=
  ∑ j ∈ Finset.range n, (∑ r, v j r * wt (th j r)) * u j

theorem wt_pos {t : EReal} {r : ℝ} (h : t = r) : 0 < wt t := by
  rw [h, wt_coe]; exact Real.rpow_pos_of_pos (by norm_num) _

theorem wsum_pos {th : ℕ → Fin 128 → EReal} {n : ℕ} {j : ℕ} (hj : j < n) {r : Fin 128} {t : ℝ} (h : th j r = t) :
    0 < wsum th n := by
  unfold wsum
  refine Finset.sum_pos' (fun _ _ => Finset.sum_nonneg fun _ _ => wt_nonneg _) ⟨j, Finset.mem_range.2 hj, ?_⟩
  exact Finset.sum_pos' (fun _ _ => wt_nonneg _) ⟨r, Finset.mem_univ _, wt_pos h⟩

/-- Blocks whose scores are all masked add nothing. -/
theorem wsum_ext {th : ℕ → Fin 128 → EReal} {n N : ℕ} (hn : n ≤ N) (h : ∀ j, n ≤ j → ∀ r, th j r = ⊥) :
    wsum th N = wsum th n := by
  unfold wsum
  symm
  refine Finset.sum_subset (Finset.range_mono hn) fun j _ hj => ?_
  refine Finset.sum_eq_zero fun r _ => ?_
  rw [h j (by simpa using hj), wt_bot]

theorem vsum_ext {th : ℕ → Fin 128 → EReal} (v : ℕ → Fin 128 → ℝ) (u : ℕ → ℝ) {n N : ℕ} (hn : n ≤ N)
    (h : ∀ j, n ≤ j → ∀ r, th j r = ⊥) : vsum th v u N = vsum th v u n := by
  unfold vsum
  symm
  refine Finset.sum_subset (Finset.range_mono hn) fun j _ hj => ?_
  rw [Finset.sum_eq_zero fun r _ => by rw [h j (by simpa using hj), wt_bot, mul_zero], zero_mul]

end Cert.Attn

end
-- ==== Proof.Tile.lean ====
/- One tile of a key block (128 keys by 128 query rows of one head), as the kernel computes it on vectors, and what each
   vector holds at an index: the running maximum, the rescaling factor, the probabilities, their sum, their codes and scale,
   in the words of Online.lean. -/
module

public import proofs.«01_k».proof.Proof.Gen.KernelIdeal.Skeleton
public import proofs.«01_k».proof.Proof.Online
public import Idealize.ShloMosaic.Lib.ValueIdx
public import Idealize.ShloMosaic.Lib.Pipeline.Value
public import Idealize.ShloMosaic.Lib.Pointwise.Tactic
public import Idealize.ShloMosaic.Lib.Pointwise.Contract
public import Idealize.ShloMosaic.Lib.Pointwise.Reduce
public import Idealize.ShloMosaic.Lib.Pointwise.Select
public import Idealize.ShloMosaic.Lib.Pointwise.Reshape
public import Idealize.ShloMosaic.Lib.Pointwise.Sums

@[expose] public section

set_option maxRecDepth 16384

noncomputable section

namespace Cert.Attn

open Idealize.ShloMosaic Cert.KernelIdeal Cert.KernelIdeal.Gen

/-- The scores' hyperbolic tangents of a tile: 128 columns of the scores, times the two scales. -/
def gTh {S : Shape} (s : FVec Ideal S .f32) (o : Fin S.rank → ℕ) (ho : S.Slices o S128x128) (ks : Vec Ideal S1x1x1x128 .f32)
    (cq : Vec Ideal S1x1x1x128 .f32) : FVec Ideal S128x128 .f32 :=
  tanh (mulf (extractStridedSlice S128x128 o s ho)
    (broadcastTo S128x128 (mulf (shapeCast S1x128 cq shapeCasts_S1x1x1x128_S1x128)
      (shapeCast S1x128 ks shapeCasts_S1x1x1x128_S1x128)) broadcasts_S1x128_S128x128))

/-- A tile on the diagonal: the keys after the query's position are left out. -/
def gMask (th : FVec Ideal S128x128 .f32) : FVec Ideal S128x128 .f32 :=
  select (cmpi .sle (iota .tc S128x128 32 [0] iota_S128x128_d0_w32) (iota .tc S128x128 32 [1] iota_S128x128_d1_w32))
    th (broadcast S128x128 (Scalar.ofBits .f32 0xFF800000#32))

/-- The block's largest score as a base-two exponent. -/
def gB (th : FVec Ideal S128x128 .f32) : FVec Ideal S1x128 .f32 :=
  mulf (shapeCast S1x128 (multiReduction .maximumf [0] S128 th 0xFF800000#32 reduces_S128x128_S128 (.inl rfl) rfl) shapeCasts_S128_S1x128)
    (broadcast S1x128 (Named.named κ "cap_log2e" 0x429044FE#32))
/-- The new running maximum. -/
def gM (th : FVec Ideal S128x128 .f32) (m : FVec Ideal S1x128 .f32) : FVec Ideal S1x128 .f32 := maximumf m (gB th)
/-- The rescaling factor. -/
def gA (th : FVec Ideal S128x128 .f32) (m : FVec Ideal S1x128 .f32) : FVec Ideal S1x128 .f32 := exp2 (subf m (gM th m))
/-- The block's largest probability over 448. -/
def gX (th : FVec Ideal S128x128 .f32) (m : FVec Ideal S1x128 .f32) : FVec Ideal S1x128 .f32 :=
  mulf (exp2 (subf (gB th) (gM th m))) (broadcast S1x128 (Scalar.ofBits .f32 0x3B124925#32))
/-- The block's probabilities. -/
def gP (th : FVec Ideal S128x128 .f32) (m : FVec Ideal S1x128 .f32) : FVec Ideal S128x128 .f32 := k1_pay11 th (gM th m)
/-- The new running sum. -/
def gL (th : FVec Ideal S128x128 .f32) (m l : FVec Ideal S1x128 .f32) : FVec Ideal S1x128 .f32 :=
  addf (mulf l (gA th m))
    (shapeCast S1x128 (multiReduction .add [0] S128 (gP th m) 0x00000000#32 reduces_S128x128_S128 (.inl rfl) rfl) shapeCasts_S128_S1x128)
/-- The codes of the probabilities. -/
def gC (th : FVec Ideal S128x128 .f32) (m : FVec Ideal S1x128 .f32) : FVec Ideal S128x128 .fp8e4m3 :=
  k1_pay15 (gP th m) (k1_pay14 (gX th m)) 23#32
/-- The scale of the product of the codes. -/
def gU (th : FVec Ideal S128x128 .f32) (m : FVec Ideal S1x128 .f32) (vs : Vec Ideal S1x1x1x128 .f32) : FVec Ideal S1x128 .f32 :=
  k1_pay16 (shapeCast S1x128 vs shapeCasts_S1x1x1x128_S1x128) (k1_pay10 (gX th m))

theorem vmax_eq_fold (f : Fin 128 → EReal) : vmax f = Finset.univ.fold max (Ideal.ofBits .f32 0xFF800000#32) f := by
  have : Ideal.ofBits .f32 0xFF800000#32 = ⊥ := by simp [Ideal.ofBits, Ideal.ieee]
  rw [this]; rfl

theorem cap_named : (Named.named (F := Ideal) κ "cap_log2e" (φ := .f32) 0x429044FE#32 : EReal) = ((cap : ℝ) : EReal) :=
  congrFun (IdealRules.named_const.ideal_named κ "cap_log2e" (s := S1x128) (φ := .f32) 0x429044FE#32
    ((50 * (Real.log 2)⁻¹ : ℝ) : EReal) rfl) (ix2 0 0)

variable (th : FVec Ideal S128x128 .f32) (m l : FVec Ideal S1x128 .f32) (c r : Fin 128)

theorem gB_apply : gB th (ix2 (0 : Fin 1) c) = vmax (fun r => th (ix2 r c)) * ((cap : ℝ) : EReal) := by
  unfold gB
  pointwise
  rw [vmax_eq_fold, ← cap_named]

theorem gM_apply : gM th m (ix2 (0 : Fin 1) c) = mStep (fun r => th (ix2 r c)) (m (ix2 0 c)) := by
  unfold mStep; rw [← gB_apply]; rfl

theorem gA_apply : gA th m (ix2 (0 : Fin 1) c) = aStep (fun r => th (ix2 r c)) (m (ix2 0 c)) := by
  unfold aStep; rw [← gM_apply]; rfl

theorem gX_apply : gX th m (ix2 (0 : Fin 1) c) = xStep (fun r => th (ix2 r c)) (m (ix2 0 c)) := by
  unfold xStep; rw [← gM_apply, ← gB_apply, ← ofBits_c448]
  unfold gX
  pointwise
  rfl

theorem gP_apply : gP th m (ix2 r c) = pStep (fun r => th (ix2 r c)) (m (ix2 0 c)) r := by
  unfold gP k1_pay11 pStep
  rw [← gM_apply, ← cap_named]
  pointwise
  rfl

theorem gL_apply : gL th m l (ix2 (0 : Fin 1) c) = lStep (fun r => th (ix2 r c)) (m (ix2 0 c)) (l (ix2 0 c)) := by
  unfold lStep
  rw [← gA_apply]
  simp only [← gP_apply]
  unfold gL
  pointwise

theorem shl23 (w : BitVec 32) : IntOp.shli .vector w 23#32 = w <<< (23 : ℕ) := rfl

theorem pay10_apply (x : FVec Ideal S1x128 .f32) : k1_pay10 (F := Ideal) x (ix2 (0 : Fin 1) c) = kexp (x (ix2 0 c)) := by
  have e : ∀ k : Fin 255, Ideal.ofBits .f32 (IntOp.shli .vector (IntOp.addi (BitVec.ofNat 32 k.val) 1#32) 23#32) = edge k.val := by
    intro k
    unfold edge
    rw [shl23]
    congr 2
    exact (BitVec.ofNat_add _ _).symm
  unfold k1_pay10
  pointwise
  simp only [e]
  change Scalar.select (IntOp.cmpi .eq (cnt (x (ix2 0 c))) 0#32) 0#32 (cnt (x (ix2 0 c)) - 126#32) = _
  unfold kexp
  generalize cnt (x (ix2 0 c)) = w
  by_cases h : w = 0#32
  · rw [h]; rfl
  · rw [if_neg h]
    have : IntOp.cmpi .eq w 0#32 = 0#1 := congrArg BitVec.ofBool (beq_eq_false_iff_ne.2 h)
    rw [this]; rfl

theorem pay14_apply (x : FVec Ideal S1x128 .f32) :
    k1_pay14 (F := Ideal) x (ix2 (0 : Fin 1) c) = (0#32 - kexp (x (ix2 0 c))) + 127#32 := by
  rw [← pay10_apply]; rfl

theorem gC_apply : gC th m (ix2 r c) = cStep (fun r => th (ix2 r c)) (m (ix2 0 c)) r := by
  have h1 : Ideal.ofBits .f32 1138753536#32 = ((448 : ℝ) : EReal) := by
    simp [Ideal.ofBits, Ideal.ieee]
    rw [← EReal.coe_mul]; norm_num
  have h2 : Ideal.ofBits .f32 3286237184#32 = (((-448 : ℝ)) : EReal) := by
    simp [Ideal.ofBits, Ideal.ieee]
    rw [← EReal.coe_mul]; norm_num
  unfold gC k1_pay15 cStep
  pointwise
  rw [h1, h2, gP_apply, pay14_apply, gX_apply, shl23]
  rfl

theorem gU_apply (vs : Vec Ideal S1x1x1x128 .f32) : gU th m vs (ix2 (0 : Fin 1) c)
    = kpow (kexp (xStep (fun r => th (ix2 r c)) (m (ix2 0 c)))) * vs (ix4 0 0 0 c) := by
  rw [← gX_apply, ← pay10_apply]
  unfold gU k1_pay16
  pointwise
  rfl

/-- A tile's scores at an index, from the product of the codes. -/
def thAt (s ks cq : EReal) : EReal := Ideal.tanh (s * (cq * ks))

theorem gTh_apply (s : FVec Ideal S128x1024 .f32) (n : ℕ) (hn : n + 128 ≤ 1024) (ho : S128x1024.Slices ![0, n] S128x128)
    (ks cq : Vec Ideal S1x1x1x128 .f32) :
    gTh s _ ho ks cq (ix2 r c) = thAt (s (ix2 r ⟨n + c.val, by omega⟩)) (ks (ix4 0 0 0 c)) (cq (ix4 0 0 0 c)) := by
  unfold gTh thAt
  pointwise

theorem gTh_apply' (s : FVec Ideal S128x512 .f32) (n : ℕ) (hn : n + 128 ≤ 512) (ho : S128x512.Slices ![0, n] S128x128)
    (ks cq : Vec Ideal S1x1x1x128 .f32) :
    gTh s _ ho ks cq (ix2 r c) = thAt (s (ix2 r ⟨n + c.val, by omega⟩)) (ks (ix4 0 0 0 c)) (cq (ix4 0 0 0 c)) := by
  unfold gTh thAt
  pointwise

theorem gMask_apply : gMask th (ix2 r c) = if r.val ≤ c.val then th (ix2 r c) else ⊥ := by
  unfold gMask
  pointwise
  have h2 : Ideal.ofBits .f32 4286578688#32 = ⊥ := by simp [Ideal.ofBits, Ideal.ieee]
  have h3 : ∀ r c : Fin 128, IntOp.cmpi .sle (BitVec.ofNat 32 r.val) (BitVec.ofNat 32 c.val) = if r.val ≤ c.val then 1#1 else 0#1 := by
    decide +kernel
  rw [h2, h3]
  split <;> rfl

/-- The scores of a key block before scaling. -/
theorem pay2_apply (k : Vec Ideal S1x1x128x64 .fp8e4m3) (q : Vec Ideal S1x1x64x1024 .fp8e4m3) (c : Fin 1024) :
    k1_pay2 (F := Ideal) k q (ix2 r c) = ∑ x : Fin 64, k (ix4 0 0 r x) * q (ix4 0 0 x c) := by
  unfold k1_pay2
  pointwise

theorem pay309_apply (k : Vec Ideal S1x1x128x64 .fp8e4m3) (q : Vec Ideal S1x1x64x512 .fp8e4m3) (c : Fin 512) :
    k1_pay309 (F := Ideal) k q (ix2 r c) = ∑ x : Fin 64, k (ix4 0 0 r x) * q (ix4 0 0 x c) := by
  unfold k1_pay309
  pointwise

theorem cat8 {α : Type} (f : Fin 8 → S128x128.Idx → α) (h) (j : Fin 1024) :
    concatenate S128x1024 1 [⟨S128x128, f 0⟩, ⟨S128x128, f 1⟩, ⟨S128x128, f 2⟩, ⟨S128x128, f 3⟩, ⟨S128x128, f 4⟩,
      ⟨S128x128, f 5⟩, ⟨S128x128, f 6⟩, ⟨S128x128, f 7⟩] h (ix2 r j)
      = f ⟨j.val / 128, by omega⟩ (ix2 r ⟨j.val % 128, by omega⟩) := by
  refine (concatenate_ofFn_apply (t := S128x1024) 1 f h rfl 128 rfl (ix2 r j) ⟨j.val / 128, by omega⟩ rfl (ix2 r ⟨j.val % 128, by omega⟩) rfl ?_)
  intro b hb
  match b with
  | 0 => rfl
  | 1 => exact absurd rfl hb

theorem cat8row {α : Type} (f : Fin 8 → S1x128.Idx → α) (h) (j : Fin 1024) :
    concatenate S1x1024 1 [⟨S1x128, f 0⟩, ⟨S1x128, f 1⟩, ⟨S1x128, f 2⟩, ⟨S1x128, f 3⟩, ⟨S1x128, f 4⟩,
      ⟨S1x128, f 5⟩, ⟨S1x128, f 6⟩, ⟨S1x128, f 7⟩] h (ix2 0 j)
      = f ⟨j.val / 128, by omega⟩ (ix2 0 ⟨j.val % 128, by omega⟩) := by
  refine (concatenate_ofFn_apply (t := S1x1024) 1 f h rfl 128 rfl (ix2 0 j) ⟨j.val / 128, by omega⟩ rfl (ix2 0 ⟨j.val % 128, by omega⟩) rfl ?_)
  intro b hb
  match b with
  | 0 => rfl
  | 1 => exact absurd rfl hb

theorem cat4 {α : Type} (f : Fin 4 → S128x128.Idx → α) (h) (j : Fin 512) :
    concatenate S128x512 1 [⟨S128x128, f 0⟩, ⟨S128x128, f 1⟩, ⟨S128x128, f 2⟩, ⟨S128x128, f 3⟩] h (ix2 r j)
      = f ⟨j.val / 128, by omega⟩ (ix2 r ⟨j.val % 128, by omega⟩) := by
  refine (concatenate_ofFn_apply (t := S128x512) 1 f h rfl 128 rfl (ix2 r j) ⟨j.val / 128, by omega⟩ rfl (ix2 r ⟨j.val % 128, by omega⟩) rfl ?_)
  intro b hb
  match b with
  | 0 => rfl
  | 1 => exact absurd rfl hb

theorem cat4row {α : Type} (f : Fin 4 → S1x128.Idx → α) (h) (j : Fin 512) :
    concatenate S1x512 1 [⟨S1x128, f 0⟩, ⟨S1x128, f 1⟩, ⟨S1x128, f 2⟩, ⟨S1x128, f 3⟩] h (ix2 0 j)
      = f ⟨j.val / 128, by omega⟩ (ix2 0 ⟨j.val % 128, by omega⟩) := by
  refine (concatenate_ofFn_apply (t := S1x512) 1 f h rfl 128 rfl (ix2 0 j) ⟨j.val / 128, by omega⟩ rfl (ix2 0 ⟨j.val % 128, by omega⟩) rfl ?_)
  intro b hb
  match b with
  | 0 => rfl
  | 1 => exact absurd rfl hb

/-- The rescaling factors of eight tiles, side by side. -/
def gA8 (t : Fin 8 → FVec Ideal S128x128 .f32) (m : Fin 8 → FVec Ideal S1x128 .f32) : FVec Ideal S1x1024 .f32 :=
  concatenate S1x1024 1 [⟨S1x128, gA (t 0) (m 0)⟩, ⟨S1x128, gA (t 1) (m 1)⟩, ⟨S1x128, gA (t 2) (m 2)⟩, ⟨S1x128, gA (t 3) (m 3)⟩, ⟨S1x128, gA (t 4) (m 4)⟩, ⟨S1x128, gA (t 5) (m 5)⟩, ⟨S1x128, gA (t 6) (m 6)⟩, ⟨S1x128, gA (t 7) (m 7)⟩]
    concatenates_S1x128_S1x128_S1x128_S1x128_S1x128_S1x128_S1x128_S1x128_S1x1024_d1
/-- The codes of eight tiles, side by side. -/
def gC8 (t : Fin 8 → FVec Ideal S128x128 .f32) (m : Fin 8 → FVec Ideal S1x128 .f32) : FVec Ideal S128x1024 .fp8e4m3 :=
  concatenate S128x1024 1 [⟨S128x128, gC (t 0) (m 0)⟩, ⟨S128x128, gC (t 1) (m 1)⟩, ⟨S128x128, gC (t 2) (m 2)⟩, ⟨S128x128, gC (t 3) (m 3)⟩, ⟨S128x128, gC (t 4) (m 4)⟩, ⟨S128x128, gC (t 5) (m 5)⟩, ⟨S128x128, gC (t 6) (m 6)⟩, ⟨S128x128, gC (t 7) (m 7)⟩]
    concatenates_S128x128_S128x128_S128x128_S128x128_S128x128_S128x128_S128x128_S128x128_S128x1024_d1
/-- The scales of eight tiles, side by side. -/
def gU8 (t : Fin 8 → FVec Ideal S128x128 .f32) (m : Fin 8 → FVec Ideal S1x128 .f32) (vs : Vec Ideal S1x1x1x128 .f32) : FVec Ideal S1x1024 .f32 :=
  concatenate S1x1024 1 [⟨S1x128, gU (t 0) (m 0) vs⟩, ⟨S1x128, gU (t 1) (m 1) vs⟩, ⟨S1x128, gU (t 2) (m 2) vs⟩, ⟨S1x128, gU (t 3) (m 3) vs⟩, ⟨S1x128, gU (t 4) (m 4) vs⟩, ⟨S1x128, gU (t 5) (m 5) vs⟩, ⟨S1x128, gU (t 6) (m 6) vs⟩, ⟨S1x128, gU (t 7) (m 7) vs⟩]
    concatenates_S1x128_S1x128_S1x128_S1x128_S1x128_S1x128_S1x128_S1x128_S1x1024_d1
/-- The new running output of eight tiles. -/
def gAcc8 (t : Fin 8 → FVec Ideal S128x128 .f32) (m : Fin 8 → FVec Ideal S1x128 .f32) (vv : Vec Ideal S1x1x64x128 .fp8e4m3) (vs : Vec Ideal S1x1x1x128 .f32) (acc : FVec Ideal S64x1024 .f32) : FVec Ideal S64x1024 .f32 :=
  addf (mulf acc (broadcastTo S64x1024 (gA8 t m) broadcasts_S1x1024_S64x1024))
    (mulf (matmul dot_S64x128_S128x1024_S64x1024_1_0_0_1_n_n none
        (shapeCast S64x128 vv shapeCasts_S1x1x64x128_S64x128 : FVec Ideal S64x128 .fp8e4m3) (gC8 t m)
        (constant S64x1024 .f32 0x00000000#32))
      (broadcastTo S64x1024 (gU8 t m vs) broadcasts_S1x1024_S64x1024))

theorem gAcc8_apply (t : Fin 8 → FVec Ideal S128x128 .f32) (m : Fin 8 → FVec Ideal S1x128 .f32) (vv : Vec Ideal S1x1x64x128 .fp8e4m3) (vs : Vec Ideal S1x1x1x128 .f32) (acc : FVec Ideal S64x1024 .f32)
    (d : Fin 64) (j : Fin 1024) (n : Fin 8) (c : Fin 128) (hj : j.val = 128 * n.val + c.val) :
    gAcc8 t m vv vs acc (ix2 d j) = accStep (fun r => t n (ix2 r c)) (fun r => vv (ix4 0 0 d r)) (vs (ix4 0 0 0 c))
      (m n (ix2 0 c)) (acc (ix2 d j)) := by
  have hn : (⟨j.val / 128, by omega⟩ : Fin 8) = n := Fin.ext (by simp only; omega)
  have hc : (⟨j.val % 128, by omega⟩ : Fin 128) = c := Fin.ext (by simp only; omega)
  have e1 : gA8 t m (ix2 0 j) = gA (t n) (m n) (ix2 0 c) := by
    have := cat8row (fun n => gA (t n) (m n)) concatenates_S1x128_S1x128_S1x128_S1x128_S1x128_S1x128_S1x128_S1x128_S1x1024_d1 j
    rw [hn, hc] at this; exact this
  have e2 : ∀ r, gC8 t m (ix2 r j) = gC (t n) (m n) (ix2 r c) := fun r => by
    have := cat8 r (fun n => gC (t n) (m n)) concatenates_S128x128_S128x128_S128x128_S128x128_S128x128_S128x128_S128x128_S128x128_S128x1024_d1 j
    rw [hn, hc] at this; exact this
  have e3 : gU8 t m vs (ix2 0 j) = gU (t n) (m n) vs (ix2 0 c) := by
    have := cat8row (fun n => gU (t n) (m n) vs) concatenates_S1x128_S1x128_S1x128_S1x128_S1x128_S1x128_S1x128_S1x128_S1x1024_d1 j
    rw [hn, hc] at this; exact this
  unfold accStep
  rw [← gA_apply]
  simp only [← gC_apply]
  rw [← gU_apply, ← e1, ← e3]
  simp only [← e2]
  unfold gAcc8
  pointwise

/-- The rescaling factors of four tiles, side by side. -/
def gA4 (t : Fin 4 → FVec Ideal S128x128 .f32) (m : Fin 4 → FVec Ideal S1x128 .f32) : FVec Ideal S1x512 .f32 :=
  concatenate S1x512 1 [⟨S1x128, gA (t 0) (m 0)⟩, ⟨S1x128, gA (t 1) (m 1)⟩, ⟨S1x128, gA (t 2) (m 2)⟩, ⟨S1x128, gA (t 3) (m 3)⟩]
    concatenates_S1x128_S1x128_S1x128_S1x128_S1x512_d1
/-- The codes of four tiles, side by side. -/
def gC4 (t : Fin 4 → FVec Ideal S128x128 .f32) (m : Fin 4 → FVec Ideal S1x128 .f32) : FVec Ideal S128x512 .fp8e4m3 :=
  concatenate S128x512 1 [⟨S128x128, gC (t 0) (m 0)⟩, ⟨S128x128, gC (t 1) (m 1)⟩, ⟨S128x128, gC (t 2) (m 2)⟩, ⟨S128x128, gC (t 3) (m 3)⟩]
    concatenates_S128x128_S128x128_S128x128_S128x128_S128x512_d1
/-- The scales of four tiles, side by side. -/
def gU4 (t : Fin 4 → FVec Ideal S128x128 .f32) (m : Fin 4 → FVec Ideal S1x128 .f32) (vs : Vec Ideal S1x1x1x128 .f32) : FVec Ideal S1x512 .f32 :=
  concatenate S1x512 1 [⟨S1x128, gU (t 0) (m 0) vs⟩, ⟨S1x128, gU (t 1) (m 1) vs⟩, ⟨S1x128, gU (t 2) (m 2) vs⟩, ⟨S1x128, gU (t 3) (m 3) vs⟩]
    concatenates_S1x128_S1x128_S1x128_S1x128_S1x512_d1
/-- The new running output of four tiles. -/
def gAcc4 (t : Fin 4 → FVec Ideal S128x128 .f32) (m : Fin 4 → FVec Ideal S1x128 .f32) (vv : Vec Ideal S1x1x64x128 .fp8e4m3) (vs : Vec Ideal S1x1x1x128 .f32) (acc : FVec Ideal S64x512 .f32) : FVec Ideal S64x512 .f32 :=
  addf (mulf acc (broadcastTo S64x512 (gA4 t m) broadcasts_S1x512_S64x512))
    (mulf (matmul dot_S64x128_S128x512_S64x512_1_0_0_1_n_n none
        (shapeCast S64x128 vv shapeCasts_S1x1x64x128_S64x128 : FVec Ideal S64x128 .fp8e4m3) (gC4 t m)
        (constant S64x512 .f32 0x00000000#32))
      (broadcastTo S64x512 (gU4 t m vs) broadcasts_S1x512_S64x512))

theorem gAcc4_apply (t : Fin 4 → FVec Ideal S128x128 .f32) (m : Fin 4 → FVec Ideal S1x128 .f32) (vv : Vec Ideal S1x1x64x128 .fp8e4m3) (vs : Vec Ideal S1x1x1x128 .f32) (acc : FVec Ideal S64x512 .f32)
    (d : Fin 64) (j : Fin 512) (n : Fin 4) (c : Fin 128) (hj : j.val = 128 * n.val + c.val) :
    gAcc4 t m vv vs acc (ix2 d j) = accStep (fun r => t n (ix2 r c)) (fun r => vv (ix4 0 0 d r)) (vs (ix4 0 0 0 c))
      (m n (ix2 0 c)) (acc (ix2 d j)) := by
  have hn : (⟨j.val / 128, by omega⟩ : Fin 4) = n := Fin.ext (by simp only; omega)
  have hc : (⟨j.val % 128, by omega⟩ : Fin 128) = c := Fin.ext (by simp only; omega)
  have e1 : gA4 t m (ix2 0 j) = gA (t n) (m n) (ix2 0 c) := by
    have := cat4row (fun n => gA (t n) (m n)) concatenates_S1x128_S1x128_S1x128_S1x128_S1x512_d1 j
    rw [hn, hc] at this; exact this
  have e2 : ∀ r, gC4 t m (ix2 r j) = gC (t n) (m n) (ix2 r c) := fun r => by
    have := cat4 r (fun n => gC (t n) (m n)) concatenates_S128x128_S128x128_S128x128_S128x128_S128x512_d1 j
    rw [hn, hc] at this; exact this
  have e3 : gU4 t m vs (ix2 0 j) = gU (t n) (m n) vs (ix2 0 c) := by
    have := cat4row (fun n => gU (t n) (m n) vs) concatenates_S1x128_S1x128_S1x128_S1x128_S1x512_d1 j
    rw [hn, hc] at this; exact this
  unfold accStep
  rw [← gA_apply]
  simp only [← gC_apply]
  rw [← gU_apply, ← e1, ← e3]
  simp only [← e2]
  unfold gAcc4
  pointwise

end Cert.Attn

end
-- ==== Proof.Quant.lean ====
/- The quantiser of the first kernel at one grid point: from a block of 128 rows it takes the largest absolute value of every
   head, and from that the head's power-of-two scale and the codes. -/
module

public import proofs.«01_k».proof.Proof.Tile
import all proofs.«01_k».proof.Proof.Gen.KernelIdeal.Frame
public import proofs.«01_k».proof.Proof.Gen.KernelIdeal.Frame

@[expose] public section

set_option maxRecDepth 16384
set_option maxHeartbeats 4000000

noncomputable section

namespace Cert.Attn

open Idealize.ShloMosaic Cert.KernelIdeal Cert.KernelIdeal.Gen

/-- The largest absolute value of a head's block. -/
def amx (f : Fin 128 → Fin 64 → EReal) : EReal := (Finset.univ : Finset (Fin 128 × Fin 64)).sup fun p => max (f p.1 p.2) (-(f p.1 p.2))

theorem amx_le (f : Fin 128 → Fin 64 → EReal) (B : EReal) : amx f ≤ B ↔ ∀ r d, max (f r d) (-(f r d)) ≤ B := by
  unfold amx
  rw [Finset.sup_le_iff]
  exact ⟨fun h r d => h (r, d) (Finset.mem_univ _), fun h p _ => h p.1 p.2⟩

theorem abs_nonneg' (x : EReal) : 0 ≤ max x (-x) := by
  rcases le_total 0 x with h | h
  · exact le_max_of_le_left h
  · exact le_max_of_le_right (by rw [EReal.le_neg]; simpa using h)

theorem vmax_le (f : Fin 128 → EReal) (B : EReal) : vmax f ≤ B ↔ ∀ r, f r ≤ B := by
  unfold vmax
  rw [Finset.sup_le_iff]
  exact ⟨fun h r => h r (Finset.mem_univ _), fun h r _ => h r⟩

theorem vmax_abs_nonneg (g : Fin 128 → EReal) : 0 ≤ vmax (fun r => max (g r) (-(g r))) := by
  have h := (vmax_le (fun r => max (g r) (-(g r))) _).1 le_rfl 0
  exact (abs_nonneg' (g 0)).trans h

/-- The largest lane of a row of 128, among the lower 64 lanes and among the upper 64, each in the lanes it is of. -/
def half (s : FVec Ideal S1x128 .f32) : FVec Ideal S1x128 .f32 :=
  select k0_pay8
    (broadcastTo S1x128 (shapeCast S1x1 (shapeCast S1x1 (multiReduction .maximumf [1] S1 (select k0_pay8 s (broadcast S1x128 (Scalar.ofBits .f32 0x00000000#32)))
      0xFF800000#32 reduces_S1x128_S1 (.inl rfl) rfl) shapeCasts_S1_S1x1) shapeCasts_S1x1_S1x1) broadcasts_S1x1_S1x128)
    (broadcastTo S1x128 (shapeCast S1x1 (shapeCast S1x1 (multiReduction .maximumf [1] S1 (select k0_pay8 (broadcast S1x128 (Scalar.ofBits .f32 0x00000000#32)) s)
      0xFF800000#32 reduces_S1x128_S1 (.inl rfl) rfl) shapeCasts_S1_S1x1) shapeCasts_S1x1_S1x1) broadcasts_S1x1_S1x128)

theorem low_apply (c : Fin 128) : k0_pay8 (ix2 0 c) = if c.val < 64 then 1#1 else 0#1 := by
  have h3 : ∀ c : Fin 128, IntOp.cmpi .slt (BitVec.ofNat 32 c.val) 64#32 = if c.val < 64 then 1#1 else 0#1 := by
    decide +kernel
  unfold k0_pay8
  pointwise
  rw [h3]

theorem sel_if {α : Type} (p : Prop) [Decidable p] (a b : α) : Scalar.select (if p then 1#1 else 0#1) a b = if p then a else b := by
  split <;> rfl

theorem half_apply (s : FVec Ideal S1x128 .f32) (c : Fin 128) : half s (ix2 0 c)
    = if c.val < 64 then vmax (fun l => if l.val < 64 then s (ix2 0 l) else 0) else vmax (fun l => if l.val < 64 then 0 else s (ix2 0 l)) := by
  have h0 : Ideal.ofBits .f32 0#32 = 0 := by simp [Ideal.ofBits, Ideal.ieee]
  unfold half
  pointwise
  simp only [low_apply, sel_if, h0, vmax_eq_fold]

theorem half_le (s : FVec Ideal S1x128 .f32) (hs : ∀ l, 0 ≤ s (ix2 0 l)) (c : Fin 128) (B : EReal) :
    half s (ix2 0 c) ≤ B ↔ ∀ d : Fin 64, s (ix2 0 ⟨64 * (c.val / 64) + d.val, by omega⟩) ≤ B := by
  rw [half_apply]
  split
  · next h =>
    rw [vmax_le]
    constructor
    · intro H d
      have := H ⟨64 * (c.val / 64) + d.val, by omega⟩
      rwa [if_pos (by simp only; omega)] at this
    · intro H l
      split
      · next hl =>
        have := H ⟨l.val, hl⟩
        have e : (⟨64 * (c.val / 64) + l.val, by omega⟩ : Fin 128) = l := Fin.ext (by simp only; omega)
        rwa [e] at this
      · exact (hs _).trans (H 0)
  · next h =>
    rw [vmax_le]
    constructor
    · intro H d
      have := H ⟨64 * (c.val / 64) + d.val, by omega⟩
      rwa [if_neg (by simp only; omega)] at this
    · intro H l
      split
      · exact (hs _).trans (H 0)
      · next hl =>
        have := H ⟨l.val - 64, by omega⟩
        have e : (⟨64 * (c.val / 64) + (l.val - 64), by omega⟩ : Fin 128) = l := Fin.ext (by simp only; omega)
        rwa [e] at this

theorem c448p : Ideal.ofBits .f32 1138753536#32 = ((448 : ℝ) : EReal) := by
  simp [Ideal.ofBits, Ideal.ieee]
  rw [← EReal.coe_mul]; norm_num

theorem c448n : Ideal.ofBits .f32 3286237184#32 = (((-448 : ℝ)) : EReal) := by
  simp [Ideal.ofBits, Ideal.ieee]
  rw [← EReal.coe_mul]; norm_num

/-- The scale of a head's block, and a code, in the kernel's words. -/
def kScl (f : Fin 128 → Fin 64 → EReal) : EReal := kpow (kexp (amx f * ((c448 : ℝ) : EReal)))
@[inherit_doc kScl]
def kCode (f : Fin 128 → Fin 64 → EReal) (x : EReal) : EReal :=
  min ((448 : ℝ) : EReal) (max (((-448 : ℝ)) : EReal) (x * kpow (0#32 - kexp (amx f * ((c448 : ℝ) : EReal)))))

theorem edge_words (k : Fin 255) : Ideal.ofBits .f32 (IntOp.shli .vector (IntOp.addi (BitVec.ofNat 32 k.val) 1#32) 23#32) = edge k.val := by
  unfold edge
  rw [shl23]
  congr 2
  exact (BitVec.ofNat_add _ _).symm

theorem kexp_words (x : EReal) : Scalar.select (IntOp.cmpi .eq (cnt x) 0#32) 0#32 (cnt x - 126#32) = kexp x := by
  unfold kexp
  generalize cnt x = w
  by_cases h : w = 0#32
  · rw [h]; rfl
  · rw [if_neg h]
    have : IntOp.cmpi .eq w 0#32 = 0#1 := congrArg BitVec.ofBool (beq_eq_false_iff_ne.2 h)
    rw [this]; rfl

theorem sliceQ (n : Fin 8) : S1x1024.Slices ![0, 128 * n.val] S1x128 := by
  match n with
  | 0 => exact slices_S1x1024_o0_0_S1x128
  | 1 => exact slices_S1x1024_o0_128_S1x128
  | 2 => exact slices_S1x1024_o0_256_S1x128
  | 3 => exact slices_S1x1024_o0_384_S1x128
  | 4 => exact slices_S1x1024_o0_512_S1x128
  | 5 => exact slices_S1x1024_o0_640_S1x128
  | 6 => exact slices_S1x1024_o0_768_S1x128
  | 7 => exact slices_S1x1024_o0_896_S1x128

theorem sliceK (n : Fin 2) : S1x256.Slices ![0, 128 * n.val] S1x128 := by
  match n with
  | 0 => exact slices_S1x256_o0_0_S1x128
  | 1 => exact slices_S1x256_o0_128_S1x128

theorem cat2row {α : Type} (f : Fin 2 → S1x128.Idx → α) (h) (j : Fin 256) :
    concatenate S1x256 1 [⟨S1x128, f 0⟩, ⟨S1x128, f 1⟩] h (ix2 0 j)
      = f ⟨j.val / 128, by omega⟩ (ix2 0 ⟨j.val % 128, by omega⟩) := by
  refine (concatenate_ofFn_apply (t := S1x256) 1 f h rfl 128 rfl (ix2 0 j) ⟨j.val / 128, by omega⟩ rfl (ix2 0 ⟨j.val % 128, by omega⟩) rfl ?_)
  intro b hb
  match b with
  | 0 => rfl
  | 1 => exact absurd rfl hb

/-! ## The queries: 1024 lanes -/

theorem qcol_apply (x : Vec Ideal S1x128x1024 .bf16) (j : Fin 1024) : k0_pay7 x (ix2 0 j) = vmax (fun r => max (x (ix3 0 r j)) (-(x (ix3 0 r j)))) := by
  have e : ∀ r, k0_pay6 x (ix2 r j) = x (ix3 0 r j) := by intro r; unfold k0_pay6; pointwise
  rw [vmax_eq_fold]
  unfold k0_pay7
  pointwise
  simp only [e]
  rfl

/-- The largest absolute values over 448. -/
def qam (v : FVec Ideal S1x1024 .f32) : FVec Ideal S1x1024 .f32 :=
  mulf (concatenate S1x1024 1 [⟨S1x128, half (extractStridedSlice S1x128 ![0, 0] v slices_S1x1024_o0_0_S1x128)⟩, ⟨S1x128, half (extractStridedSlice S1x128 ![0, 128] v slices_S1x1024_o0_128_S1x128)⟩, ⟨S1x128, half (extractStridedSlice S1x128 ![0, 256] v slices_S1x1024_o0_256_S1x128)⟩, ⟨S1x128, half (extractStridedSlice S1x128 ![0, 384] v slices_S1x1024_o0_384_S1x128)⟩, ⟨S1x128, half (extractStridedSlice S1x128 ![0, 512] v slices_S1x1024_o0_512_S1x128)⟩, ⟨S1x128, half (extractStridedSlice S1x128 ![0, 640] v slices_S1x1024_o0_640_S1x128)⟩, ⟨S1x128, half (extractStridedSlice S1x128 ![0, 768] v slices_S1x1024_o0_768_S1x128)⟩, ⟨S1x128, half (extractStridedSlice S1x128 ![0, 896] v slices_S1x1024_o0_896_S1x128)⟩] concatenates_S1x128_S1x128_S1x128_S1x128_S1x128_S1x128_S1x128_S1x128_S1x1024_d1)
    (broadcast S1x1024 (Scalar.ofBits .f32 0x3B124925#32))

theorem qam_apply (x : Vec Ideal S1x128x1024 .bf16) (j : Fin 1024) :
    qam (k0_pay7 x) (ix2 0 j) = amx (fun r d => x (ix3 0 r ⟨64 * (j.val / 64) + d.val, by omega⟩)) * ((c448 : ℝ) : EReal) := by
  have e : qam (k0_pay7 x) (ix2 0 j) = concatenate S1x1024 1 [⟨S1x128, half (extractStridedSlice S1x128 ![0, 0] (k0_pay7 x) slices_S1x1024_o0_0_S1x128)⟩, ⟨S1x128, half (extractStridedSlice S1x128 ![0, 128] (k0_pay7 x) slices_S1x1024_o0_128_S1x128)⟩, ⟨S1x128, half (extractStridedSlice S1x128 ![0, 256] (k0_pay7 x) slices_S1x1024_o0_256_S1x128)⟩, ⟨S1x128, half (extractStridedSlice S1x128 ![0, 384] (k0_pay7 x) slices_S1x1024_o0_384_S1x128)⟩, ⟨S1x128, half (extractStridedSlice S1x128 ![0, 512] (k0_pay7 x) slices_S1x1024_o0_512_S1x128)⟩, ⟨S1x128, half (extractStridedSlice S1x128 ![0, 640] (k0_pay7 x) slices_S1x1024_o0_640_S1x128)⟩, ⟨S1x128, half (extractStridedSlice S1x128 ![0, 768] (k0_pay7 x) slices_S1x1024_o0_768_S1x128)⟩, ⟨S1x128, half (extractStridedSlice S1x128 ![0, 896] (k0_pay7 x) slices_S1x1024_o0_896_S1x128)⟩] concatenates_S1x128_S1x128_S1x128_S1x128_S1x128_S1x128_S1x128_S1x128_S1x1024_d1 (ix2 0 j)
      * ((c448 : ℝ) : EReal) := by
    unfold qam; pointwise; rw [ofBits_c448]
  rw [e]
  congr 1
  have hc := cat8row (fun n : Fin 8 => half (extractStridedSlice S1x128 ![0, 128 * n.val] (k0_pay7 x) (by exact sliceQ n))) concatenates_S1x128_S1x128_S1x128_S1x128_S1x128_S1x128_S1x128_S1x128_S1x1024_d1 j
  refine hc.trans ?_
  have hsl : ∀ (n : Fin 8) (l : Fin 128), extractStridedSlice S1x128 ![0, 128 * n.val] (k0_pay7 x) (sliceQ n) (ix2 0 l)
      = vmax (fun r => max (x (ix3 0 r ⟨128 * n.val + l.val, by omega⟩)) (-(x (ix3 0 r ⟨128 * n.val + l.val, by omega⟩)))) := by
    intro n l
    rw [← qcol_apply]
    generalize k0_pay7 x = z
    pointwise
  refine eq_of_forall_ge_iff fun B => ?_
  rw [half_le, amx_le]
  · have e (d : Fin 64) : (⟨128 * (j.val / 128) + (64 * (j.val % 128 / 64) + d.val), by omega⟩ : Fin 1024) = ⟨64 * (j.val / 64) + d.val, by omega⟩ := Fin.ext (by simp only; omega)
    have hs := fun d : Fin 64 => hsl ⟨j.val / 128, by omega⟩ ⟨64 * (j.val % 128 / 64) + d.val, by omega⟩
    simp only [e] at hs
    refine ⟨fun h r d => ?_, fun h d => ?_⟩
    · exact (vmax_le _ _).1 (le_of_eq_of_le (hs d).symm (h d)) r
    · exact le_of_eq_of_le (hs d) ((vmax_le _ _).2 fun r => h r d)
  · intro l
    rw [hsl]
    exact vmax_abs_nonneg _

/-! ## The keys and the values: 256 lanes -/

theorem kcol_apply (x : Vec Ideal S1x128x256 .bf16) (j : Fin 256) : k0_pay45 x (ix2 0 j) = vmax (fun r => max (x (ix3 0 r j)) (-(x (ix3 0 r j)))) := by
  have e : ∀ r, k0_pay44 x (ix2 r j) = x (ix3 0 r j) := by intro r; unfold k0_pay44; pointwise
  rw [vmax_eq_fold]
  unfold k0_pay45
  pointwise
  simp only [e]
  rfl

/-- The largest absolute values over 448. -/
def kam (v : FVec Ideal S1x256 .f32) : FVec Ideal S1x256 .f32 :=
  mulf (concatenate S1x256 1 [⟨S1x128, half (extractStridedSlice S1x128 ![0, 0] v slices_S1x256_o0_0_S1x128)⟩, ⟨S1x128, half (extractStridedSlice S1x128 ![0, 128] v slices_S1x256_o0_128_S1x128)⟩] concatenates_S1x128_S1x128_S1x256_d1)
    (broadcast S1x256 (Scalar.ofBits .f32 0x3B124925#32))

theorem kam_apply (x : Vec Ideal S1x128x256 .bf16) (j : Fin 256) :
    kam (k0_pay45 x) (ix2 0 j) = amx (fun r d => x (ix3 0 r ⟨64 * (j.val / 64) + d.val, by omega⟩)) * ((c448 : ℝ) : EReal) := by
  have e : kam (k0_pay45 x) (ix2 0 j) = concatenate S1x256 1 [⟨S1x128, half (extractStridedSlice S1x128 ![0, 0] (k0_pay45 x) slices_S1x256_o0_0_S1x128)⟩, ⟨S1x128, half (extractStridedSlice S1x128 ![0, 128] (k0_pay45 x) slices_S1x256_o0_128_S1x128)⟩] concatenates_S1x128_S1x128_S1x256_d1 (ix2 0 j)
      * ((c448 : ℝ) : EReal) := by
    unfold kam; pointwise; rw [ofBits_c448]
  rw [e]
  congr 1
  have hc := cat2row (fun n : Fin 2 => half (extractStridedSlice S1x128 ![0, 128 * n.val] (k0_pay45 x) (by exact sliceK n))) concatenates_S1x128_S1x128_S1x256_d1 j
  refine hc.trans ?_
  have hsl : ∀ (n : Fin 2) (l : Fin 128), extractStridedSlice S1x128 ![0, 128 * n.val] (k0_pay45 x) (sliceK n) (ix2 0 l)
      = vmax (fun r => max (x (ix3 0 r ⟨128 * n.val + l.val, by omega⟩)) (-(x (ix3 0 r ⟨128 * n.val + l.val, by omega⟩)))) := by
    intro n l
    rw [← kcol_apply]
    generalize k0_pay45 x = z
    pointwise
  refine eq_of_forall_ge_iff fun B => ?_
  rw [half_le, amx_le]
  · have e (d : Fin 64) : (⟨128 * (j.val / 128) + (64 * (j.val % 128 / 64) + d.val), by omega⟩ : Fin 256) = ⟨64 * (j.val / 64) + d.val, by omega⟩ := Fin.ext (by simp only; omega)
    have hs := fun d : Fin 64 => hsl ⟨j.val / 128, by omega⟩ ⟨64 * (j.val % 128 / 64) + d.val, by omega⟩
    simp only [e] at hs
    refine ⟨fun h r d => ?_, fun h d => ?_⟩
    · exact (vmax_le _ _).1 (le_of_eq_of_le (hs d).symm (h d)) r
    · exact le_of_eq_of_le (hs d) ((vmax_le _ _).2 fun r => h r d)
  · intro l
    rw [hsl]
    exact vmax_abs_nonneg _

/-! ## The codes and scales -/

/-- The indicators the exponent is counted from. -/
def qBits (v : FVec Ideal S1x1024 .f32) : IVec S255x1024 32 :=
  select (cmpf .olt (broadcastTo S255x1024 v broadcasts_S1x1024_S255x1024)
    (bitcastToFloat .f32 (shli (addi (iota .tc S255x1024 32 [0] iota_S255x1024_d0_w32) (broadcast S255x1024 1#32)) (broadcast S255x1024 23#32))))
    (broadcast S255x1024 0#32) (broadcast S255x1024 1#32)

theorem pay20_apply (v : FVec Ideal S1x1024 .f32) (j : Fin 1024) : k0_pay20 (qBits v) (ix2 (0 : Fin 1) j) = kexp (v (ix2 0 j)) := by
  unfold k0_pay20 qBits
  pointwise
  simp only [edge_words]
  exact kexp_words (v (ix2 0 j))

theorem pay63_apply (v : FVec Ideal S1x256 .f32) (j : Fin 256) : k0_pay63 v (k0_pay62 (F := Ideal)) (ix2 (0 : Fin 1) j) = kexp (v (ix2 0 j)) := by
  unfold k0_pay63 k0_pay62
  pointwise
  simp only [edge_words]
  exact kexp_words (v (ix2 0 j))

theorem pay71_eq (x0 : Vec Ideal S1x128x1024 .bf16) (x1 x2 : Vec Ideal S1x128x256 .bf16) : k0_pay71 (F := Ideal) x0 x1 x2 = qBits (qam (k0_pay7 (View.ld x0 r0_0))) := rfl

theorem ldq (x0 : Vec Ideal S1x128x1024 .bf16) : View.ld x0 r0_0 = x0 := funext fun i => congrArg x0 (funext fun a => Fin.ext (by
  match a with
  | 0 => show 0 + 1 * (i 0).val = (i 0).val; omega
  | 1 => show 0 + 1 * (i 1).val = (i 1).val; omega
  | 2 => show 0 + 1 * (i 2).val = (i 2).val; omega))

theorem ldk (x0 : Vec Ideal S1x128x256 .bf16) : View.ld x0 r0_18 = x0 := funext fun i => congrArg x0 (funext fun a => Fin.ext (by
  match a with
  | 0 => show 0 + 1 * (i 0).val = (i 0).val; omega
  | 1 => show 0 + 1 * (i 1).val = (i 1).val; omega
  | 2 => show 0 + 1 * (i 2).val = (i 2).val; omega))

/-- The lanes of the head that lane `j` is of. -/
abbrev hd {W : ℕ} (x : Fin 128 → Fin W → EReal) (j : Fin W) (hW : 64 * (j.val / 64) + 64 ≤ W) : Fin 128 → Fin 64 → EReal :=
  fun r d => x r ⟨64 * (j.val / 64) + d.val, by omega⟩

theorem qcode_apply (x : Vec Ideal S1x128x1024 .bf16) (r : Fin 128) (j : Fin 1024) :
    k0_pay21 (k0_pay6 x) (qBits (qam (k0_pay7 x))) (ix2 r j) = kCode (fun r d => x (ix3 0 r ⟨64 * (j.val / 64) + d.val, by omega⟩)) (x (ix3 0 r j)) := by
  unfold kCode
  rw [← qam_apply, ← pay20_apply]
  generalize qBits (qam (k0_pay7 x)) = z
  unfold k0_pay21 k0_pay6
  pointwise
  rw [c448p, c448n, shl23]
  rfl

theorem kcode_apply (x : Vec Ideal S1x128x256 .bf16) (r : Fin 128) (j : Fin 256) :
    k0_pay64 (k0_pay44 x) (kam (k0_pay45 x)) k0_pay62 (ix2 r j) = kCode (fun r d => x (ix3 0 r ⟨64 * (j.val / 64) + d.val, by omega⟩)) (x (ix3 0 r j)) := by
  unfold kCode
  rw [← kam_apply, ← pay63_apply]
  generalize kam (k0_pay45 x) = z
  unfold k0_pay64 k0_pay44
  pointwise
  rw [c448p, c448n, shl23]
  rfl

theorem qscl_apply (x : Vec Ideal S1x128x1024 .bf16) (j : Fin 1024) :
    k0_pay23 (F := Ideal) (qBits (qam (k0_pay7 x))) (ix3 0 0 j) = kScl (fun r d => x (ix3 0 r ⟨64 * (j.val / 64) + d.val, by omega⟩)) := by
  unfold kScl
  rw [← qam_apply, ← pay20_apply]
  generalize qBits (qam (k0_pay7 x)) = z
  unfold k0_pay23
  pointwise
  rw [shl23]
  rfl

theorem kscl_apply (x : Vec Ideal S1x128x256 .bf16) (j : Fin 256) :
    k0_pay66 (F := Ideal) (kam (k0_pay45 x)) k0_pay62 (ix3 0 0 j) = kScl (fun r d => x (ix3 0 r ⟨64 * (j.val / 64) + d.val, by omega⟩)) := by
  unfold kScl
  rw [← kam_apply, ← pay63_apply]
  generalize kam (k0_pay45 x) = z
  unfold k0_pay66
  pointwise
  rw [shl23]
  rfl

section
variable (x0 : Vec Ideal S1x128x1024 .bf16) (x1 x2 : Vec Ideal S1x128x256 .bf16)

theorem canon_whole3 {S : Shape} {e : EltTy} (g : S.Idx → Elt Ideal e) (r : Rect S) (f : r.shape.Idx → Elt Ideal e) (i : S.Idx) (i' : r.shape.Idx)
    (h : r.emb i' = i) : View.canon [⟨r, f⟩] i = f i' := by
  rw [← h]
  exact View.canon_cons_emb (Val := Elt Ideal) r f [] i'

/-- The scales of the queries, keys and values. -/
theorem out4_apply (j : Fin 1024) : out0_4 (F := Ideal) x0 x1 x2 (ix3 0 0 j) = kScl (fun r d => x0 (ix3 0 r ⟨64 * (j.val / 64) + d.val, by omega⟩)) := by
  have e : out0_4 (F := Ideal) x0 x1 x2 = View.canon [⟨r0_1, k0_pay23 (F := Ideal) (qBits (qam (k0_pay7 (View.ld x0 r0_0))))⟩] := rfl
  rw [e, ldq, ← qscl_apply]
  exact canon_whole3 (k0_pay23 (F := Ideal) (qBits (qam (k0_pay7 x0)))) r0_1 _ _ (ix3 0 0 j) (by
    funext a; apply Fin.ext
    match a with
    | 0 => rfl
    | 1 => rfl
    | 2 => show 0 + 1 * j.val = j.val; omega)

theorem out6_apply (j : Fin 256) : out0_6 (F := Ideal) x0 x1 x2 (ix3 0 0 j) = kScl (fun r d => x1 (ix3 0 r ⟨64 * (j.val / 64) + d.val, by omega⟩)) := by
  have e : out0_6 (F := Ideal) x0 x1 x2 = View.canon [⟨r0_19, k0_pay66 (F := Ideal) (kam (k0_pay45 (View.ld x1 r0_18))) k0_pay62⟩] := rfl
  rw [e, ldk, ← kscl_apply]
  exact canon_whole3 (k0_pay66 (F := Ideal) (kam (k0_pay45 x1)) k0_pay62) r0_19 _ _ (ix3 0 0 j) (by
    funext a; apply Fin.ext
    match a with
    | 0 => rfl
    | 1 => rfl
    | 2 => show 0 + 1 * j.val = j.val; omega)

theorem out8_apply (j : Fin 256) : out0_8 (F := Ideal) x0 x1 x2 (ix3 0 0 j) = kScl (fun r d => x2 (ix3 0 r ⟨64 * (j.val / 64) + d.val, by omega⟩)) := by
  have e : out0_8 (F := Ideal) x0 x1 x2 = View.canon [⟨r0_19, k0_pay66 (F := Ideal) (kam (k0_pay45 (View.ld x2 r0_18))) k0_pay62⟩] := rfl
  rw [e, ldk, ← kscl_apply]
  exact canon_whole3 (k0_pay66 (F := Ideal) (kam (k0_pay45 x2)) k0_pay62) r0_19 _ _ (ix3 0 0 j) (by
    funext a; apply Fin.ext
    match a with
    | 0 => rfl
    | 1 => rfl
    | 2 => show 0 + 1 * j.val = j.val; omega)
end

end Cert.Attn

end
-- ==== Proof.QuantT.lean ====
/- The three arrays of codes the first kernel lays out for the second: at every index the code of one element. -/
module

public import proofs.«01_k».proof.Proof.Quant
import all proofs.«01_k».proof.Proof.Gen.KernelIdeal.Frame
import Idealize.ShloMosaic.Lib.Pipeline.ValueKit.Tiles

@[expose] public section

set_option maxRecDepth 16384
set_option maxHeartbeats 4000000

noncomputable section

namespace Cert.Attn

open Idealize.ShloMosaic Cert.KernelIdeal Cert.KernelIdeal.Gen

variable (x0 : Vec Ideal S1x128x1024 .bf16) (x1 x2 : Vec Ideal S1x128x256 .bf16)

/-- A slice of 64 rows of a transposed block of codes. -/
theorem tileQ (z : FVec Ideal S1024x128 .fp8e4m3) (o : ℕ) (h : S1024x128.Slices ![o, 0] S64x128) (h' : S64x128.ShapeCasts S1x1x64x128) (x : S1x1x64x128.Idx) (j : Fin 1024) (r : Fin 128)
    (hj : j.val = o + (x 2).val) (hr : r.val = (x 3).val) :
    shapeCast S1x1x64x128 (extractStridedSlice S64x128 ![o, 0] z h) h' x = z (ix2 j r) := by
  have hx : x = ix4 0 0 (x 2) (x 3) := by
    funext a; apply Fin.ext
    match a with
    | 0 => have := (x 0).isLt; show (x 0).val = 0; have : (x 0).val < 1 := this; omega
    | 1 => have := (x 1).isLt; show (x 1).val = 0; have : (x 1).val < 1 := this; omega
    | 2 => rfl
    | 3 => rfl
  have hb : o + (x 2).val < 1024 := hj ▸ j.isLt
  have ej : j = ⟨o + (x 2).val, hb⟩ := Fin.ext hj
  have er : r = (x 3 : Fin 128) := Fin.ext hr
  rw [hx, ej, er]
  pointwise
  all_goals (try omega)
  all_goals rfl

theorem out9_apply (kv : Fin 4) (d : Fin 64) (l : Fin 512) (j : Fin 1024) (hj : j.val = 64 * (4 * kv.val + l.val / 128) + d.val) (r : Fin 128) (hr : r.val = l.val % 128) :
    out0_9 (F := Ideal) x0 x1 x2 (ix4 0 kv d l) = kCode (fun r d => x0 (ix3 0 r ⟨64 * (j.val / 64) + d.val, by omega⟩)) (x0 (ix3 0 r j)) := by
  have e : k0_pay72 (F := Ideal) x0 x1 x2 (ix2 j r) = kCode (fun r d => x0 (ix3 0 r ⟨64 * (j.val / 64) + d.val, by omega⟩)) (x0 (ix3 0 r j)) := by
    have e2 : k0_pay72 (F := Ideal) x0 x1 x2 = truncf .fp8e4m3 (transpose S1024x128 [1, 0] (k0_pay21 (k0_pay6 (View.ld x0 r0_0)) (qBits (qam (k0_pay7 (View.ld x0 r0_0))))) transposes_S128x1024_p1_0_S1024x128) bitsLt_fp8e4m3_f32 := rfl
    rw [e2, ldq, ← qcode_apply]
    generalize k0_pay21 (k0_pay6 x0) (qBits (qam (k0_pay7 x0))) = z
    pointwise
  rw [← e]
  canon_tiles x h
  all_goals
    refine tileQ (k0_pay72 x0 x1 x2) _ (by decide) (by decide) x j r ?_ ?_
  all_goals (simp only [ix4] at *; omega)

/-- A slice of 64 columns of a block of codes. -/
theorem tileK (z : FVec Ideal S128x256 .f32) (o : ℕ) (h : S128x256.Slices ![0, o] S128x64) (h' : S128x64.ShapeCasts S1x1x128x64) (x : S1x1x128x64.Idx) (j : Fin 256) (r : Fin 128)
    (hj : j.val = o + (x 3).val) (hr : r.val = (x 2).val) :
    shapeCast S1x1x128x64 (truncf .fp8e4m3 (extractStridedSlice S128x64 ![0, o] z h) bitsLt_fp8e4m3_f32) h' x = z (ix2 r j) := by
  have hx : x = ix4 0 0 (x 2) (x 3) := by
    funext a; apply Fin.ext
    match a with
    | 0 => show (x 0).val = 0; have : (x 0).val < 1 := (x 0).isLt; omega
    | 1 => show (x 1).val = 0; have : (x 1).val < 1 := (x 1).isLt; omega
    | 2 => rfl
    | 3 => rfl
  have hb : o + (x 3).val < 256 := hj ▸ j.isLt
  have ej : j = ⟨o + (x 3).val, hb⟩ := Fin.ext hj
  have er : r = (x 2 : Fin 128) := Fin.ext hr
  rw [hx, ej, er]
  pointwise

/-- A slice of 64 rows of a transposed block of codes. -/
theorem tileV (z : FVec Ideal S256x128 .f32) (o : ℕ) (h : S256x128.Slices ![o, 0] S64x128) (h' : S64x128.ShapeCasts S1x1x64x128) (x : S1x1x64x128.Idx) (j : Fin 256) (r : Fin 128)
    (hj : j.val = o + (x 2).val) (hr : r.val = (x 3).val) :
    shapeCast S1x1x64x128 (extractStridedSlice S64x128 ![o, 0] (truncf .fp8e4m3 z bitsLt_fp8e4m3_f32) h) h' x = z (ix2 j r) := by
  have hx : x = ix4 0 0 (x 2) (x 3) := by
    funext a; apply Fin.ext
    match a with
    | 0 => show (x 0).val = 0; have : (x 0).val < 1 := (x 0).isLt; omega
    | 1 => show (x 1).val = 0; have : (x 1).val < 1 := (x 1).isLt; omega
    | 2 => rfl
    | 3 => rfl
  have hb : o + (x 2).val < 256 := hj ▸ j.isLt
  have ej : j = ⟨o + (x 2).val, hb⟩ := Fin.ext hj
  have er : r = (x 3 : Fin 128) := Fin.ext hr
  rw [hx, ej, er]
  pointwise

theorem out10_apply (kv : Fin 4) (r : Fin 128) (d : Fin 64) (j : Fin 256) (hj : j.val = 64 * kv.val + d.val) :
    out0_10 (F := Ideal) x0 x1 x2 (ix4 0 kv r d) = kCode (fun r d => x1 (ix3 0 r ⟨64 * (j.val / 64) + d.val, by omega⟩)) (x1 (ix3 0 r j)) := by
  have e : k0_pay77 (F := Ideal) x0 x1 x2 (ix2 r j) = kCode (fun r d => x1 (ix3 0 r ⟨64 * (j.val / 64) + d.val, by omega⟩)) (x1 (ix3 0 r j)) := by
    have e2 : k0_pay77 (F := Ideal) x0 x1 x2 = k0_pay64 (k0_pay44 (View.ld x1 r0_18)) (kam (k0_pay45 (View.ld x1 r0_18))) k0_pay62 := rfl
    rw [e2, ldk, ← kcode_apply]
  rw [← e]
  canon_tiles x h
  all_goals
    refine tileK (k0_pay77 x0 x1 x2) _ (by decide) (by decide) x j r ?_ ?_
  all_goals (simp only [ix4] at *; omega)

theorem out11_apply (kv : Fin 4) (d : Fin 64) (r : Fin 128) (j : Fin 256) (hj : j.val = 64 * kv.val + d.val) :
    out0_11 (F := Ideal) x0 x1 x2 (ix4 0 kv d r) = kCode (fun r d => x2 (ix3 0 r ⟨64 * (j.val / 64) + d.val, by omega⟩)) (x2 (ix3 0 r j)) := by
  have e : k0_pay81 (F := Ideal) x0 x1 x2 (ix2 j r) = kCode (fun r d => x2 (ix3 0 r ⟨64 * (j.val / 64) + d.val, by omega⟩)) (x2 (ix3 0 r j)) := by
    have e2 : k0_pay81 (F := Ideal) x0 x1 x2 = transpose S256x128 [1, 0] (k0_pay64 (k0_pay44 (View.ld x2 r0_18)) (kam (k0_pay45 (View.ld x2 r0_18))) k0_pay62) transposes_S128x256_p1_0_S256x128 := rfl
    rw [e2, ldk, ← kcode_apply]
    generalize k0_pay64 (k0_pay44 x2) (kam (k0_pay45 x2)) k0_pay62 = z
    pointwise
  rw [← e]
  canon_tiles x h
  all_goals
    refine tileV (k0_pay81 x0 x1 x2) _ (by decide) (by decide) x j r ?_ ?_
  all_goals (simp only [ix4] at *; omega)

end Cert.Attn

end
-- ==== Proof.Scal.lean ====
/- The quantiser's scale and codes as real numbers: what the first kernel's bit arithmetic and the reference's logarithm,
   floor and power both come to for a block of real numbers below the format's largest. -/
module

public import proofs.«01_k».proof.Proof.Quant

@[expose] public section

set_option maxRecDepth 16384
set_option maxHeartbeats 4000000

noncomputable section

namespace Cert.Attn

open Idealize.ShloMosaic

/-- The code of one element of a head's block. -/
def cod (f : Fin 128 → Fin 64 → EReal) (r : Fin 128) (d : Fin 64) : EReal := kCode f (f r d)

/-- A block of real numbers, each at most `2 ^ 128` in absolute value. -/
def Bd (f : Fin 128 → Fin 64 → EReal) : Prop := ∀ r d, ∃ x : ℝ, f r d = (x : EReal) ∧ |x| ≤ (2 : ℝ) ^ (128 : ℤ)

/-- The largest absolute value of a block, as a real number. -/
def amr (f : Fin 128 → Fin 64 → EReal) : ℝ := (amx f).toReal
/-- The block's scale. -/
def qsc (f : Fin 128 → Fin 64 → EReal) : ℝ := (2 : ℝ) ^ expo (amr f * c448)
/-- The block's codes. -/
def qcd (f : Fin 128 → Fin 64 → EReal) (r : Fin 128) (d : Fin 64) : ℝ := (f r d).toReal * (2 : ℝ) ^ (-expo (amr f * c448))

theorem max_neg_coe (x : ℝ) : max (x : EReal) (-(x : EReal)) = ((|x| : ℝ) : EReal) := by
  rw [← EReal.coe_neg, abs_eq_max_neg]
  exact (EReal.coe_strictMono.monotone.map_max).symm

theorem Bd.amx {f : Fin 128 → Fin 64 → EReal} (h : Bd f) : Attn.amx f = ((amr f : ℝ) : EReal) := by
  have h1 : Attn.amx f ≤ (((2 : ℝ) ^ (128 : ℤ) : ℝ) : EReal) := by
    rw [amx_le]; intro r d
    obtain ⟨x, hx, hb⟩ := h r d
    rw [hx, max_neg_coe]
    exact EReal.coe_le_coe_iff.2 hb
  have h2 : (0 : EReal) ≤ Attn.amx f := by
    obtain ⟨x, hx, hb⟩ := h 0 0
    have := (amx_le f (Attn.amx f)).1 le_rfl 0 0
    rw [hx, max_neg_coe] at this
    exact le_trans (by exact_mod_cast abs_nonneg x) this
  unfold amr
  rw [EReal.coe_toReal]
  · intro e; rw [e] at h1; exact absurd h1 (not_le.2 (EReal.coe_lt_top _))
  · intro e; rw [e] at h2; exact absurd h2 (not_le.2 EReal.bot_lt_zero)

theorem Bd.le {f : Fin 128 → Fin 64 → EReal} (h : Bd f) (r : Fin 128) (d : Fin 64) : |(f r d).toReal| ≤ amr f := by
  have := (amx_le f (Attn.amx f)).1 le_rfl r d
  obtain ⟨x, hx, hb⟩ := h r d
  rw [hx, max_neg_coe, h.amx] at this
  rw [hx]
  exact EReal.coe_le_coe_iff.1 this

theorem Bd.coe {f : Fin 128 → Fin 64 → EReal} (h : Bd f) (r : Fin 128) (d : Fin 64) : f r d = (((f r d).toReal : ℝ) : EReal) := by
  obtain ⟨x, hx, hb⟩ := h r d
  rw [hx]; rfl

theorem Bd.nonneg {f : Fin 128 → Fin 64 → EReal} (h : Bd f) : 0 ≤ amr f := le_trans (abs_nonneg _) (h.le 0 0)

theorem Bd.amr_le {f : Fin 128 → Fin 64 → EReal} (h : Bd f) : amr f ≤ (2 : ℝ) ^ (128 : ℤ) := by
  have h1 : Attn.amx f ≤ (((2 : ℝ) ^ (128 : ℤ) : ℝ) : EReal) := by
    rw [amx_le]; intro r d
    obtain ⟨x, hx, hb⟩ := h r d
    rw [hx, max_neg_coe]
    exact EReal.coe_le_coe_iff.2 hb
  rw [h.amx] at h1
  exact EReal.coe_le_coe_iff.1 h1

theorem Bd.lt {f : Fin 128 → Fin 64 → EReal} (h : Bd f) : amr f * c448 < (2 : ℝ) ^ (126 : ℤ) := by
  have h1 := h.amr_le
  have h2 := c448_lt
  have h3 := c448_pos
  have e : (2 : ℝ) ^ (128 : ℤ) = 4 * (2 : ℝ) ^ (126 : ℤ) := by norm_num
  have hp : (0 : ℝ) < (2 : ℝ) ^ (126 : ℤ) := by positivity
  calc amr f * c448 ≤ (2 : ℝ) ^ (128 : ℤ) * c448 := mul_le_mul_of_nonneg_right h1 h3.le
    _ < (2 : ℝ) ^ (128 : ℤ) * (1 / 447) := mul_lt_mul_of_pos_left h2 (by positivity)
    _ ≤ (2 : ℝ) ^ (126 : ℤ) := by rw [e]; nlinarith

/-- The clip of a real number. -/
theorem clip_coe (y : ℝ) : min ((448 : ℝ) : EReal) (max (((-448 : ℝ)) : EReal) (y : EReal)) = ((min 448 (max (-448) y) : ℝ) : EReal) := by
  rw [EReal.coe_strictMono.monotone.map_min, EReal.coe_strictMono.monotone.map_max]

/-- The kernel's scale. -/
theorem Bd.scl {f : Fin 128 → Fin 64 → EReal} (h : Bd f) : kScl f = ((qsc f : ℝ) : EReal) := by
  unfold kScl qsc
  rw [h.amx, ← EReal.coe_mul]
  exact (kscale (mul_nonneg h.nonneg c448_pos.le) h.lt).1

/-- The kernel's code. -/
theorem Bd.cod {f : Fin 128 → Fin 64 → EReal} (h : Bd f) (r : Fin 128) (d : Fin 64) : cod f r d = ((qcd f r d : ℝ) : EReal) := by
  unfold Attn.cod kCode qcd
  rw [h.amx, ← EReal.coe_mul, (kscale (mul_nonneg h.nonneg c448_pos.le) h.lt).2]
  rw [h.coe r d, ← EReal.coe_mul, clip_coe]
  exact congrArg _ (clip_eq (h.le r d))

/-- The reference's exponent of a block from its largest absolute value over 448. -/
def rexp (r : EReal) : EReal :=
  Scalar.select (Ideal.cmp .olt r (Ideal.ofBits .f32 0x00800000#32)) (Ideal.ofBits .f32 0x00000000#32)
    (Ideal.liftRound Int.floor (Ideal.div (Ideal.log r) (Ideal.log (Ideal.ofBits .f32 0x40000000#32))) + Ideal.ofBits .f32 0x3F800000#32)

/-- The reference's power of two. -/
def rpow (z : EReal) : EReal := Ideal.pow (Ideal.ofBits .f32 0x40000000#32) z

theorem lit2 : Ideal.ofBits .f32 0x40000000#32 = ((2 : ℝ) : EReal) := by
  simp [Ideal.ofBits, Ideal.ieee, -EReal.coe_mul]; norm_num
theorem lit1 : Ideal.ofBits .f32 0x3F800000#32 = ((1 : ℝ) : EReal) := by
  simp [Ideal.ofBits, Ideal.ieee, -EReal.coe_mul]; norm_num
theorem lit0 : Ideal.ofBits .f32 0x00000000#32 = ((0 : ℝ) : EReal) := by
  simp [Ideal.ofBits, Ideal.ieee, -EReal.coe_mul]
theorem litmin : Ideal.ofBits .f32 0x00800000#32 = (((2 : ℝ) ^ (-126 : ℤ) : ℝ) : EReal) := by
  simp [Ideal.ofBits, Ideal.ieee, -EReal.coe_mul]; norm_num

theorem rpow_eq (z : ℤ) : rpow (((z : ℝ) : ℝ) : EReal) = (((2 : ℝ) ^ z : ℝ) : EReal) := by
  unfold rpow
  rw [lit2, Ideal.pow_coe_coe]
  exact congrArg _ (Real.rpow_intCast 2 z)

theorem rexp_eq {x : ℝ} (h0 : 0 ≤ x) : rexp (x : EReal) = (((expo x : ℤ) : ℝ) : EReal) := by
  unfold rexp expo
  rw [litmin, lit0]
  by_cases hx : x < (2 : ℝ) ^ (-126 : ℤ)
  · have : Ideal.cmp .olt (x : EReal) (((2 : ℝ) ^ (-126 : ℤ) : ℝ) : EReal) = 1#1 := by
      simp only [Ideal.cmp, EReal.coe_lt_coe_iff, hx, decide_true]; rfl
    rw [this, if_pos hx]
    simp [Scalar.select]
  · have : Ideal.cmp .olt (x : EReal) (((2 : ℝ) ^ (-126 : ℤ) : ℝ) : EReal) = 0#1 := by
      simp only [Ideal.cmp, EReal.coe_lt_coe_iff, hx, decide_false]; rfl
    have hp : 0 < x := lt_of_lt_of_le (by positivity) (not_lt.1 hx)
    rw [this, if_neg hx, lit2, lit1, Ideal.log_coe, if_neg (not_le.2 hp), Ideal.log_coe, if_neg (by norm_num), Ideal.div_coe log2_pos.ne', ← EReal.coe_mul,
      Ideal.liftRound_coe, ← EReal.coe_add, mul_one_div]
    simp [Scalar.select]

/-- A block's codes put back: the clip does nothing and the powers of two cancel. -/
theorem requant {y a : ℝ} (hy : |y| ≤ a) :
    min ((448 : ℝ) : EReal) (max (((-448 : ℝ)) : EReal) ((y : EReal) * rpow (-(rexp ((a : EReal) * ((c448 : ℝ) : EReal)))))) = ((y * (2 : ℝ) ^ (-expo (a * c448)) : ℝ) : EReal) := by
  rw [← EReal.coe_mul, rexp_eq (mul_nonneg (le_trans (abs_nonneg _) hy) c448_pos.le)]
  have e : -((((expo (a * c448) : ℤ) : ℝ) : ℝ) : EReal) = (((-expo (a * c448) : ℤ) : ℝ) : EReal) := by push_cast; rfl
  rw [e, rpow_eq, ← EReal.coe_mul, clip_coe]
  exact congrArg _ (clip_eq hy)

theorem rscale {a : ℝ} (ha : 0 ≤ a) : rpow (rexp ((a : EReal) * ((c448 : ℝ) : EReal))) = (((2 : ℝ) ^ expo (a * c448) : ℝ) : EReal) := by
  rw [← EReal.coe_mul, rexp_eq (mul_nonneg ha c448_pos.le), rpow_eq]

/-- The literal of the score's scale over the cap. -/
def lit : ℝ := 10737418 * (2 : ℝ) ^ (-32 : ℤ)

theorem lit_kernel : Ideal.ofBits .f32 0x3B23D70A#32 = ((lit : ℝ) : EReal) := by
  unfold lit
  simp [Ideal.ofBits, Ideal.ieee, -EReal.coe_mul]

theorem lit_reference : Ideal.ofBits .f32 0x3CA3D70A#32 = ((8 * lit : ℝ) : EReal) := by
  unfold lit
  simp [Ideal.ofBits, Ideal.ieee, -EReal.coe_mul]; norm_num

end Cert.Attn

end
-- ==== Proof.Rows.lean ====
/- The rows of the running maximum and sum, and the columns of the running output, as the kernel stores them: what a
   list of row writes leaves at an index. -/
module

public import proofs.«01_k».proof.Proof.Tile
public import Idealize.ShloMosaic.Lib.Pipeline.FrameBody

@[expose] public section

set_option maxRecDepth 16384

noncomputable section

namespace Cert.Attn

open Idealize.ShloMosaic Cert.KernelIdeal Cert.KernelIdeal.Gen

theorem inb_row (t : Fin 8) : ∀ x, (![t.val, 0] : Fin 2 → ℕ) x + S1x128.size x ≤ S8x128.size x := by
  intro x
  match x with
  | 0 => show t.val + 1 ≤ 8; omega
  | 1 => show 0 + 128 ≤ 128; omega

/-- Row `t` of eight rows. -/
def rowRect (t : Fin 8) : Rect S8x128 := Rect.unit ![t.val, 0] S1x128.size (inb_row t)

theorem rowRect_emb (t : Fin 8) (c : Fin 128) : (rowRect t).emb (ix2 (0 : Fin 1) c : S1x128.Idx) = (ix2 t c : S8x128.Idx) := by
  funext x; apply Fin.ext
  match x with
  | 0 => show t.val + 1 * 0 = t.val; omega
  | 1 => show 0 + 1 * c.val = c.val; omega

/-- The write of row `t`. -/
abbrev rowP (t : Fin 8) (g : FVec Ideal S1x128 .f32) : View.Piece (Elt Ideal) S8x128 .f32 := ⟨rowRect t, g⟩

theorem canon_row (t : Fin 8) (g : FVec Ideal S1x128 .f32) (L : List (View.Piece (Elt Ideal) S8x128 .f32)) (c : Fin 128) :
    View.canon (rowP t g :: L) (ix2 t c) = g (ix2 0 c) := by
  rw [← rowRect_emb]
  exact View.canon_cons_emb (rowRect t) g L (ix2 0 c)

theorem canon_row_ne (t t' : Fin 8) (h : t' ≠ t) (g : FVec Ideal S1x128 .f32) (L : List (View.Piece (Elt Ideal) S8x128 .f32)) (c : Fin 128) :
    View.canon (rowP t' g :: L) (ix2 t c) = View.canon L (ix2 t c) := by
  refine View.canon_cons_of_not_mem _ L ?_
  intro hm
  obtain ⟨i, hi, he⟩ := (LoadRect.mem_set _).mp hm (0 : Fin 2)
  have hi1 : i < 1 := hi
  have he' : t.val = t'.val + 1 * i := he
  exact h (Fin.ext (by omega))

/-- The writes of all eight rows, the last first. -/
def rows8 (g : Fin 8 → FVec Ideal S1x128 .f32) (L : List (View.Piece (Elt Ideal) S8x128 .f32)) : List (View.Piece (Elt Ideal) S8x128 .f32) :=
  rowP 7 (g 7) :: rowP 6 (g 6) :: rowP 5 (g 5) :: rowP 4 (g 4) :: rowP 3 (g 3) :: rowP 2 (g 2) :: rowP 1 (g 1) :: rowP 0 (g 0) :: L

/-- The eight rows' writes leave row `t`'s vector in row `t`. -/
theorem canon_rows8 (g : Fin 8 → FVec Ideal S1x128 .f32) (L : List (View.Piece (Elt Ideal) S8x128 .f32)) (t : Fin 8) (c : Fin 128) :
    View.canon (rows8 g L) (ix2 t c) = g t (ix2 0 c) := by
  unfold rows8
  match t with
  | 0 => rw [canon_row_ne 0 7 (by decide)]; rw [canon_row_ne 0 6 (by decide)]; rw [canon_row_ne 0 5 (by decide)]; rw [canon_row_ne 0 4 (by decide)]; rw [canon_row_ne 0 3 (by decide)]; rw [canon_row_ne 0 2 (by decide)]; rw [canon_row_ne 0 1 (by decide)]; exact canon_row _ _ _ _
  | 1 => rw [canon_row_ne 1 7 (by decide)]; rw [canon_row_ne 1 6 (by decide)]; rw [canon_row_ne 1 5 (by decide)]; rw [canon_row_ne 1 4 (by decide)]; rw [canon_row_ne 1 3 (by decide)]; rw [canon_row_ne 1 2 (by decide)]; exact canon_row _ _ _ _
  | 2 => rw [canon_row_ne 2 7 (by decide)]; rw [canon_row_ne 2 6 (by decide)]; rw [canon_row_ne 2 5 (by decide)]; rw [canon_row_ne 2 4 (by decide)]; rw [canon_row_ne 2 3 (by decide)]; exact canon_row _ _ _ _
  | 3 => rw [canon_row_ne 3 7 (by decide)]; rw [canon_row_ne 3 6 (by decide)]; rw [canon_row_ne 3 5 (by decide)]; rw [canon_row_ne 3 4 (by decide)]; exact canon_row _ _ _ _
  | 4 => rw [canon_row_ne 4 7 (by decide)]; rw [canon_row_ne 4 6 (by decide)]; rw [canon_row_ne 4 5 (by decide)]; exact canon_row _ _ _ _
  | 5 => rw [canon_row_ne 5 7 (by decide)]; rw [canon_row_ne 5 6 (by decide)]; exact canon_row _ _ _ _
  | 6 => rw [canon_row_ne 6 7 (by decide)]; exact canon_row _ _ _ _
  | 7 => exact canon_row _ _ _ _

/-- Reading row `t` of what a list of writes left. -/
theorem readCov_row {sp : Space} (v : View sig .tc sp S8x128 .f32) (L : List (View.Piece (Elt Ideal) S8x128 .f32)) (t : Fin 8) (c : Fin 128) :
    (v.readCov L (rowRect t).toLoadRect : FVec Ideal S1x128 .f32) (ix2 0 c) = View.canon L (ix2 t c) := by
  rw [View.readCov_eq_canon']
  exact congrArg (View.canon L) (rowRect_emb t c)

/-- The whole running output. -/
def accRect : Rect S64x1024 := Rect.unit ![0, 0] S64x1024.size inb_S64x1024_S64x1024_0_0

theorem accRect_emb (i : S64x1024.Idx) : accRect.emb i = i := by
  funext x; apply Fin.ext
  match x with
  | 0 => show 0 + 1 * (i 0).val = (i 0).val; omega
  | 1 => show 0 + 1 * (i 1).val = (i 1).val; omega

theorem canon_acc (g : FVec Ideal S64x1024 .f32) (L : List (View.Piece (Elt Ideal) S64x1024 .f32)) (i : S64x1024.Idx) :
    View.canon (⟨accRect, g⟩ :: L) i = g i := by
  conv_lhs => rw [← accRect_emb i]
  exact View.canon_cons_emb accRect g L i

end Cert.Attn

end
-- ==== Proof.Trip.lean ====
/- One trip of the kernel's loop over the key blocks below the diagonal: what it writes into the running maximum, sum and
   output, as the vector functions of Tile.lean of what it reads. -/
module

public import proofs.«01_k».proof.Proof.Rows
public import proofs.«01_k».proof.Proof.Gen.KernelIdeal.Loops
import all proofs.«01_k».proof.Proof.Gen.KernelIdeal.Loops
public import proofs.«01_k».proof.Proof.Gen.KernelIdeal.Skeleton
import all proofs.«01_k».proof.Proof.Gen.KernelIdeal.Skeleton

@[expose] public section

set_option maxRecDepth 16384
set_option maxHeartbeats 4000000

noncomputable section

namespace Cert.Attn

open Idealize.ShloMosaic Idealize.ShloMosaic.Exec Cert.KernelIdeal Cert.KernelIdeal.Gen

variable (𝒱 : Variants)
  (c : Dev nD)
  (bd : Option 𝒱.V)
  (i : grid1.Coords)
  (arg3 : Memref sig .tc .vmem S1x1x64x1024 .fp8e4m3)
  (harg3 : arg3.IsWhole)
  (arg4 : Memref sig .tc .vmem S1x1x16384x64 .fp8e4m3)
  (harg4 : arg4.IsWhole)
  (arg5 : Memref sig .tc .vmem S1x1x64x16384 .fp8e4m3)
  (harg5 : arg5.IsWhole)
  (arg6 : Memref sig .tc .vmem S1x1x8x128 .f32)
  (harg6 : arg6.IsWhole)
  (arg7 : Memref sig .tc .vmem S1x1x128x128 .f32)
  (harg7 : arg7.IsWhole)
  (arg8 : Memref sig .tc .vmem S1x1x128x128 .f32)
  (harg8 : arg8.IsWhole)
  (arg9 : Memref sig .tc .vmem S1x256x256 .bf16)
  (harg9 : arg9.IsWhole)
  (arg10 : Memref sig .tc .vmem S8x128 .f32)
  (harg10 : arg10.IsWhole)
  (arg11 : Memref sig .tc .vmem S8x128 .f32)
  (harg11 : arg11.IsWhole)
  (arg12 : Memref sig .tc .vmem S64x1024 .f32)
  (harg12 : arg12.IsWhole)
  (X_arg3 : BufTy.Contents (Elt Ideal) arg3.view.ty)
  (X_arg4 : BufTy.Contents (Elt Ideal) arg4.view.ty)
  (X_arg5 : BufTy.Contents (Elt Ideal) arg5.view.ty)
  (X_arg6 : BufTy.Contents (Elt Ideal) arg6.view.ty)
  (X_arg7 : BufTy.Contents (Elt Ideal) arg7.view.ty)
  (X_arg8 : BufTy.Contents (Elt Ideal) arg8.view.ty)
  (k : Fin (k1_t1_loop i).trips)

/-- The block of keys a trip reads. -/
def tK : Vec Ideal S1x1x128x64 .fp8e4m3 := View.readAt (Elt Ideal) arg4.view (Rect.unit (s := S1x1x16384x64) (k1_off1 i k) S1x1x128x64.size (k1_off1_inb i k)).toLoadRect X_arg4
/-- The queries. -/
def tQ : Vec Ideal S1x1x64x1024 .fp8e4m3 := View.readAt (Elt Ideal) arg3.view (Rect.unit (s := S1x1x64x1024) ![0, 0, 0, 0] S1x1x64x1024.size inb_S1x1x64x1024_S1x1x64x1024_0_0_0_0).toLoadRect X_arg3
/-- The scale of the block of keys. -/
def tKs : Vec Ideal S1x1x1x128 .f32 := View.readAt (Elt Ideal) arg7.view (Rect.unit (s := S1x1x128x128) (k1_off2 i k) S1x1x1x128.size (k1_off2_inb i k)).toLoadRect X_arg7
/-- The scale of the block of values. -/
def tVs : Vec Ideal S1x1x1x128 .f32 := View.readAt (Elt Ideal) arg8.view (Rect.unit (s := S1x1x128x128) (k1_off2 i k) S1x1x1x128.size (k1_off2_inb i k)).toLoadRect X_arg8
/-- The block of values. -/
def tV : Vec Ideal S1x1x64x128 .fp8e4m3 := View.readAt (Elt Ideal) arg5.view (Rect.unit (s := S1x1x64x16384) (k1_off3 i k) S1x1x64x128.size (k1_off3_inb i k)).toLoadRect X_arg5

theorem inb_cq (t : Fin 8) : ∀ x, (![0, 0, t.val, 0] : Fin 4 → ℕ) x + S1x1x1x128.size x ≤ S1x1x8x128.size x := by
  intro x
  match x with
  | 0 => show 0 + 1 ≤ 1; omega
  | 1 => show 0 + 1 ≤ 1; omega
  | 2 => show t.val + 1 ≤ 8; omega
  | 3 => show 0 + 128 ≤ 128; omega

/-- The scale of the queries of tile `t`. -/
def tCq (t : Fin 8) : Vec Ideal S1x1x1x128 .f32 := View.readAt (Elt Ideal) arg6.view (Rect.unit (s := S1x1x8x128) ![0, 0, t.val, 0] S1x1x1x128.size (inb_cq t)).toLoadRect X_arg6

theorem slices_tile (t : Fin 8) : S128x1024.Slices ![0, 128 * t.val] S128x128 := by
  revert t; decide

/-- The hyperbolic tangents of tile `t`. -/
def tTh (t : Fin 8) : FVec Ideal S128x128 .f32 :=
  gTh (k1_pay2 (tK i arg4 X_arg4 k) (tQ arg3 X_arg3)) ![0, 128 * t.val] (slices_tile t) (tKs i arg7 X_arg7 k) (tCq arg6 X_arg6 t)

/-- Row `t` of the running maximum. -/
def tM (f : BufTy.Contents (Elt Ideal) arg10.view.ty) (t : Fin 8) : FVec Ideal S1x128 .f32 := View.readAt (Elt Ideal) arg10.view (rowRect t).toLoadRect f
/-- Row `t` of the running sum. -/
def tL (f : BufTy.Contents (Elt Ideal) arg11.view.ty) (t : Fin 8) : FVec Ideal S1x128 .f32 := View.readAt (Elt Ideal) arg11.view (rowRect t).toLoadRect f
/-- The running output. -/
def tA (f : BufTy.Contents (Elt Ideal) arg12.view.ty) : FVec Ideal S64x1024 .f32 := View.readAt (Elt Ideal) arg12.view accRect.toLoadRect f

variable (f10 : BufTy.Contents (Elt Ideal) arg10.view.ty) (f11 : BufTy.Contents (Elt Ideal) arg11.view.ty) (f12 : BufTy.Contents (Elt Ideal) arg12.view.ty)

/-- The rows of the running maximum a trip writes. -/
theorem trip_m : (trip_k1_t1 (F := Ideal) 𝒱 c bd i arg3 harg3 arg4 harg4 arg5 harg5 arg6 harg6 arg7 harg7 arg8 harg8 arg9 harg9 arg10 harg10 arg11 harg11 arg12 harg12 X_arg3 X_arg4 X_arg5 X_arg6 X_arg7 X_arg8 k).1 f10 f11 f12
    = rows8 (fun t => shapeCast S1x128 (gM (tTh i arg3 arg4 arg6 arg7 X_arg3 X_arg4 X_arg6 X_arg7 k t) (tM arg10 f10 t)) shapeCasts_S1x128_S1x128) [] := by
  unfold trip_k1_t1; dsimp only
  sl_unfold_run_names
  rfl

/-- The rows of the running sum a trip writes. -/
theorem trip_l : (trip_k1_t1 (F := Ideal) 𝒱 c bd i arg3 harg3 arg4 harg4 arg5 harg5 arg6 harg6 arg7 harg7 arg8 harg8 arg9 harg9 arg10 harg10 arg11 harg11 arg12 harg12 X_arg3 X_arg4 X_arg5 X_arg6 X_arg7 X_arg8 k).2.1 f10 f11 f12
    = rows8 (fun t => shapeCast S1x128 (gL (tTh i arg3 arg4 arg6 arg7 X_arg3 X_arg4 X_arg6 X_arg7 k t) (tM arg10 f10 t) (tL arg11 f11 t)) shapeCasts_S1x128_S1x128) [] := by
  unfold trip_k1_t1; dsimp only
  sl_unfold_run_names
  rfl

/-- The running output a trip writes. -/
theorem trip_a : (trip_k1_t1 (F := Ideal) 𝒱 c bd i arg3 harg3 arg4 harg4 arg5 harg5 arg6 harg6 arg7 harg7 arg8 harg8 arg9 harg9 arg10 harg10 arg11 harg11 arg12 harg12 X_arg3 X_arg4 X_arg5 X_arg6 X_arg7 X_arg8 k).2.2.1 f10 f11 f12
    = [⟨accRect, shapeCast S64x1024 (gAcc8 (fun t => tTh i arg3 arg4 arg6 arg7 X_arg3 X_arg4 X_arg6 X_arg7 k t) (tM arg10 f10) (tV i arg5 X_arg5 k) (tVs i arg8 X_arg8 k) (tA arg12 f12)) shapeCasts_S64x1024_S64x1024⟩] := by
  unfold trip_k1_t1; dsimp only
  sl_unfold_run_names
  rfl

end Cert.Attn

end
-- ==== Proof.Offs.lean ====
/- Where the kernel's loads start: the key block of a loop trip, and the two key blocks of the diagonal. -/
module

public import proofs.«01_k».proof.Proof.Gen.KernelIdeal.Skeleton
import all proofs.«01_k».proof.Proof.Gen.KernelIdeal.Skeleton

@[expose] public section

set_option maxRecDepth 16384

namespace Cert.Attn

open Idealize.ShloMosaic Cert.KernelIdeal Cert.KernelIdeal.Gen

/-- The grid point of pair `n` of query blocks, batch and head first. -/
def pt (n : Fin 64) : grid1.Coords := fun a => match a with
  | 0 => (0 : Fin 4)
  | 1 => (0 : Fin 4)
  | 2 => n

/-- The loop below the diagonal runs over the key blocks before the pair of query blocks. -/
theorem trips1 (i : grid1.Coords) : (k1_t1_loop i).trips = 2 * (i 2).val := by
  have h : ∀ n : Fin 64, (k1_t1_loop (pt n)).trips = 2 * n.val := by decide +kernel
  exact h (i 2)

/-- The second loop never runs. -/
theorem trips2 (i : grid1.Coords) : (k1_t2_loop i).trips = 0 := by
  have h : ∀ n : Fin 64, (k1_t2_loop (pt n)).trips = 0 := by decide +kernel
  exact h (i 2)

theorem iv_nat : ∀ n : Fin 126, (Scf.iv 0#32 1#32 n.val : BitVec 32).toNat = n.val := by decide +kernel
theorem iv_mul : ∀ n : Fin 126, (Scalar.muli (Scf.iv 0#32 1#32 n.val : BitVec 32) 128#32).toNat = 128 * n.val := by decide +kernel

theorem off1_eq (i : grid1.Coords) (k : Fin (k1_t1_loop i).trips) : k1_off1 i k = ![0, 0, 128 * k.val, 0] := by
  rw [← iv_mul ⟨k.val, lt_of_lt_of_le k.isLt (k1_t1_abs i).2.1⟩]
  rfl

theorem off2_eq (i : grid1.Coords) (k : Fin (k1_t1_loop i).trips) : k1_off2 i k = ![0, 0, k.val, 0] := by
  conv_rhs => rw [← iv_nat ⟨k.val, lt_of_lt_of_le k.isLt (k1_t1_abs i).2.1⟩]
  rfl

theorem off3_eq (i : grid1.Coords) (k : Fin (k1_t1_loop i).trips) : k1_off3 i k = ![0, 0, 0, 128 * k.val] := by
  rw [← iv_mul ⟨k.val, lt_of_lt_of_le k.isLt (k1_t1_abs i).2.1⟩]
  rfl

theorem off7_eq (i : grid1.Coords) (b : Fin 2) : k1_off7 i (BitVec.ofNat 32 b.val) = ![0, 0, 128 * (2 * (i 2).val + b.val), 0] := by
  have h : ∀ n : Fin 64, ∀ b : Fin 2, k1_off7 (pt n) (BitVec.ofNat 32 b.val) = ![0, 0, 128 * (2 * n.val + b.val), 0] := by decide +kernel
  exact h (i 2) b

theorem off8_eq (i : grid1.Coords) (b : Fin 2) : k1_off8 i (BitVec.ofNat 32 b.val) = ![0, 0, 2 * (i 2).val + b.val, 0] := by
  have h : ∀ n : Fin 64, ∀ b : Fin 2, k1_off8 (pt n) (BitVec.ofNat 32 b.val) = ![0, 0, 2 * n.val + b.val, 0] := by decide +kernel
  exact h (i 2) b

theorem off9_eq (i : grid1.Coords) (b : Fin 2) : k1_off9 i (BitVec.ofNat 32 b.val) = ![0, 0, 0, 128 * (2 * (i 2).val + b.val)] := by
  have h : ∀ n : Fin 64, ∀ b : Fin 2, k1_off9 (pt n) (BitVec.ofNat 32 b.val) = ![0, 0, 0, 128 * (2 * n.val + b.val)] := by decide +kernel
  exact h (i 2) b

theorem inb7 (i : grid1.Coords) (b : Fin 2) : ∀ a, k1_off7 i (BitVec.ofNat 32 b.val) a + S1x1x128x64.size a ≤ S1x1x16384x64.size a := by
  rw [off7_eq]
  have : (i 2).val < 64 := (i 2).isLt
  intro a
  match a with
  | 0 => show 0 + 1 ≤ 1; omega
  | 1 => show 0 + 1 ≤ 1; omega
  | 2 => show 128 * (2 * (i 2).val + b.val) + 128 ≤ 16384; omega
  | 3 => show 0 + 64 ≤ 64; omega

theorem inb8 (i : grid1.Coords) (b : Fin 2) : ∀ a, k1_off8 i (BitVec.ofNat 32 b.val) a + S1x1x1x128.size a ≤ S1x1x128x128.size a := by
  rw [off8_eq]
  have : (i 2).val < 64 := (i 2).isLt
  intro a
  match a with
  | 0 => show 0 + 1 ≤ 1; omega
  | 1 => show 0 + 1 ≤ 1; omega
  | 2 => show (2 * (i 2).val + b.val) + 1 ≤ 128; omega
  | 3 => show 0 + 128 ≤ 128; omega

theorem inb9 (i : grid1.Coords) (b : Fin 2) : ∀ a, k1_off9 i (BitVec.ofNat 32 b.val) a + S1x1x64x128.size a ≤ S1x1x64x16384.size a := by
  rw [off9_eq]
  have : (i 2).val < 64 := (i 2).isLt
  intro a
  match a with
  | 0 => show 0 + 1 ≤ 1; omega
  | 1 => show 0 + 1 ≤ 1; omega
  | 2 => show 0 + 64 ≤ 64; omega
  | 3 => show 128 * (2 * (i 2).val + b.val) + 128 ≤ 16384; omega

end Cert.Attn
-- ==== Proof.Diag.lean ====
/- The kernel's attention body at one grid point: the loop over the key blocks below the diagonal, the two key blocks of
   the diagonal, and the output it stores, as the vector functions of Tile.lean. -/
module

public import proofs.«01_k».proof.Proof.Trip
public import proofs.«01_k».proof.Proof.Offs
public import proofs.«01_k».proof.Proof.Gen.KernelIdeal.Frame
import all proofs.«01_k».proof.Proof.Gen.KernelIdeal.Frame
import all proofs.«01_k».proof.Proof.Gen.KernelIdeal.Loops
import all proofs.«01_k».proof.Proof.Gen.KernelIdeal.Skeleton

@[expose] public section

set_option maxRecDepth 16384
set_option maxHeartbeats 8000000

noncomputable section

namespace Cert.Attn

open Idealize.ShloMosaic Idealize.ShloMosaic.Exec Cert.KernelIdeal Cert.KernelIdeal.Gen

/-- Row `a + n` of eight. -/
def rix (a n : ℕ) : Fin 8 := ⟨(a + n) % 8, Nat.mod_lt _ (by decide)⟩

/-- Rows `a`, `a + 1`, … rewritten one after another, each from what it held. -/
def rowsUp {sp : Space} (v : View sig .tc sp S8x128 .f32) (a : ℕ) (g : Fin 8 → FVec Ideal S1x128 .f32 → FVec Ideal S1x128 .f32) :
    ℕ → List (View.Piece (Elt Ideal) S8x128 .f32) → List (View.Piece (Elt Ideal) S8x128 .f32)
  | 0, L => L
  | n + 1, L => rowP (rix a n) (g (rix a n) (v.readCov (rowsUp v a g n L) (rowRect (rix a n)).toLoadRect)) :: rowsUp v a g n L

/-- What row `a + n` holds when its turn comes. -/
def rowRd {sp : Space} (v : View sig .tc sp S8x128 .f32) (a : ℕ) (g : Fin 8 → FVec Ideal S1x128 .f32 → FVec Ideal S1x128 .f32)
    (L : List (View.Piece (Elt Ideal) S8x128 .f32)) (n : ℕ) : FVec Ideal S1x128 .f32 :=
  v.readCov (rowsUp v a g n L) (rowRect (rix a n)).toLoadRect

/-- The right half of the running output: the tiles of the second query block. -/
def halfRect : Rect S64x1024 := Rect.unit ![0, 512] S64x512.size inb_S64x1024_S64x512_0_512

theorem inb_col (t : Fin 8) : ∀ x, (![0, 128 * t.val] : Fin 2 → ℕ) x + S64x128.size x ≤ S64x1024.size x := by
  intro x
  match x with
  | 0 => show 0 + 64 ≤ 64; omega
  | 1 => show 128 * t.val + 128 ≤ 1024; omega

/-- The columns of tile `t` of the running output. -/
def colRect (t : Fin 8) : Rect S64x1024 := Rect.unit ![0, 128 * t.val] S64x128.size (inb_col t)

theorem slices_tile4 (n : Fin 4) : S128x512.Slices ![0, 128 * n.val] S128x128 := by
  revert n; decide

variable (c : Dev nD)
  (i : grid1.Coords)
  (arg3 : Memref sig .tc .vmem S1x1x64x1024 .fp8e4m3)
  (harg3 : arg3.IsWhole)
  (arg4 : Memref sig .tc .vmem S1x1x16384x64 .fp8e4m3)
  (harg4 : arg4.IsWhole)
  (arg5 : Memref sig .tc .vmem S1x1x64x16384 .fp8e4m3)
  (harg5 : arg5.IsWhole)
  (arg6 : Memref sig .tc .vmem S1x1x8x128 .f32)
  (harg6 : arg6.IsWhole)
  (arg7 : Memref sig .tc .vmem S1x1x128x128 .f32)
  (harg7 : arg7.IsWhole)
  (arg8 : Memref sig .tc .vmem S1x1x128x128 .f32)
  (harg8 : arg8.IsWhole)
  (arg9 : Memref sig .tc .vmem S1x256x256 .bf16)
  (harg9 : arg9.IsWhole)
  (arg10 : Memref sig .tc .vmem S8x128 .f32)
  (harg10 : arg10.IsWhole)
  (arg11 : Memref sig .tc .vmem S8x128 .f32)
  (harg11 : arg11.IsWhole)
  (arg12 : Memref sig .tc .vmem S64x1024 .f32)
  (harg12 : arg12.IsWhole)
  (x0 : Vec Ideal S1x1x64x1024 .fp8e4m3) (x1 : Vec Ideal S1x1x16384x64 .fp8e4m3) (x2 : Vec Ideal S1x1x64x16384 .fp8e4m3) (x3 : Vec Ideal S1x1x8x128 .f32) (x4 : Vec Ideal S1x1x128x128 .f32) (x5 : Vec Ideal S1x1x128x128 .f32)

/-- The key block `b` of the diagonal. -/
def dK (b : Fin 2) : Vec Ideal S1x1x128x64 .fp8e4m3 := View.readAt (Elt Ideal) arg4.view (Rect.unit (s := S1x1x16384x64) (k1_off7 i (BitVec.ofNat 32 b.val)) S1x1x128x64.size (inb7 i b)).toLoadRect (harg4.unread x1)
def dKs (b : Fin 2) : Vec Ideal S1x1x1x128 .f32 := View.readAt (Elt Ideal) arg7.view (Rect.unit (s := S1x1x128x128) (k1_off8 i (BitVec.ofNat 32 b.val)) S1x1x1x128.size (inb8 i b)).toLoadRect (harg7.unread x4)
def dVs (b : Fin 2) : Vec Ideal S1x1x1x128 .f32 := View.readAt (Elt Ideal) arg8.view (Rect.unit (s := S1x1x128x128) (k1_off8 i (BitVec.ofNat 32 b.val)) S1x1x1x128.size (inb8 i b)).toLoadRect (harg8.unread x5)
def dV (b : Fin 2) : Vec Ideal S1x1x64x128 .fp8e4m3 := View.readAt (Elt Ideal) arg5.view (Rect.unit (s := S1x1x64x16384) (k1_off9 i (BitVec.ofNat 32 b.val)) S1x1x64x128.size (inb9 i b)).toLoadRect (harg5.unread x2)
/-- The queries of the second block. -/
def dQ : Vec Ideal S1x1x64x512 .fp8e4m3 := View.readAt (Elt Ideal) arg3.view (Rect.unit (s := S1x1x64x1024) ![0, 0, 0, 512] S1x1x64x512.size inb_S1x1x64x1024_S1x1x64x512_0_0_0_512).toLoadRect (harg3.unread x0)

/-- The hyperbolic tangents of tile `t` at the first key block of the diagonal: the first query block's tiles masked. -/
def dTh0 (t : Fin 8) : FVec Ideal S128x128 .f32 :=
  if t.val < 4 then gMask (gTh (k1_pay2 (dK i arg4 harg4 x1 0) (tQ arg3 (harg3.unread x0))) ![0, 128 * t.val] (slices_tile t) (dKs i arg7 harg7 x4 0) (tCq arg6 (harg6.unread x3) t))
  else gTh (k1_pay2 (dK i arg4 harg4 x1 0) (tQ arg3 (harg3.unread x0))) ![0, 128 * t.val] (slices_tile t) (dKs i arg7 harg7 x4 0) (tCq arg6 (harg6.unread x3) t)

/-- The hyperbolic tangents of the second block's tiles at the second key block of the diagonal, masked. -/
def dTh1 (n : Fin 4) : FVec Ideal S128x128 .f32 :=
  gMask (gTh (k1_pay309 (dK i arg4 harg4 x1 1) (dQ arg3 harg3 x0)) ![0, 128 * n.val] (slices_tile4 n) (dKs i arg7 harg7 x4 1) (tCq arg6 (harg6.unread x3) (rix 4 n.val)))

/-- The tile of the second block in row `t`. -/
def nix (t : Fin 8) : Fin 4 := ⟨t.val % 4, Nat.mod_lt _ (by decide)⟩

def gm0 (t : Fin 8) (m : FVec Ideal S1x128 .f32) : FVec Ideal S1x128 .f32 := shapeCast S1x128 (gM (dTh0 i arg3 harg3 arg4 harg4 arg6 harg6 arg7 harg7 x0 x1 x3 x4 t) m) shapeCasts_S1x128_S1x128
def gm1 (t : Fin 8) (m : FVec Ideal S1x128 .f32) : FVec Ideal S1x128 .f32 := shapeCast S1x128 (gM (dTh1 i arg3 harg3 arg4 harg4 arg6 harg6 arg7 harg7 x0 x1 x3 x4 (nix t)) m) shapeCasts_S1x128_S1x128
def gl0 (LM : List (View.Piece (Elt Ideal) S8x128 .f32)) (t : Fin 8) (l : FVec Ideal S1x128 .f32) : FVec Ideal S1x128 .f32 :=
  shapeCast S1x128 (gL (dTh0 i arg3 harg3 arg4 harg4 arg6 harg6 arg7 harg7 x0 x1 x3 x4 t) (rowRd arg10.view 0 (gm0 i arg3 harg3 arg4 harg4 arg6 harg6 arg7 harg7 x0 x1 x3 x4) LM t.val) l) shapeCasts_S1x128_S1x128
def gl1 (LM : List (View.Piece (Elt Ideal) S8x128 .f32)) (t : Fin 8) (l : FVec Ideal S1x128 .f32) : FVec Ideal S1x128 .f32 :=
  shapeCast S1x128 (gL (dTh1 i arg3 harg3 arg4 harg4 arg6 harg6 arg7 harg7 x0 x1 x3 x4 (nix t)) (rowRd arg10.view 4 (gm1 i arg3 harg3 arg4 harg4 arg6 harg6 arg7 harg7 x0 x1 x3 x4) LM (t.val % 4)) l) shapeCasts_S1x128_S1x128

/-- The running maxima after the first key block of the diagonal. -/
def mL1 (LM : List (View.Piece (Elt Ideal) S8x128 .f32)) := rowsUp arg10.view 0 (gm0 i arg3 harg3 arg4 harg4 arg6 harg6 arg7 harg7 x0 x1 x3 x4) 8 LM
/-- The running sums after the first, and after both. -/
def lL1 (LM LL : List (View.Piece (Elt Ideal) S8x128 .f32)) := rowsUp arg11.view 0 (gl0 i arg3 harg3 arg4 harg4 arg6 harg6 arg7 harg7 arg10 x0 x1 x3 x4 LM) 8 LL
def lL2 (LM LL : List (View.Piece (Elt Ideal) S8x128 .f32)) := rowsUp arg11.view 4 (gl1 i arg3 harg3 arg4 harg4 arg6 harg6 arg7 harg7 arg10 x0 x1 x3 x4 (mL1 i arg3 harg3 arg4 harg4 arg6 harg6 arg7 harg7 arg10 x0 x1 x3 x4 LM)) 4
  (lL1 i arg3 harg3 arg4 harg4 arg6 harg6 arg7 harg7 arg10 arg11 x0 x1 x3 x4 LM LL)
/-- The running outputs after the first, and after both. -/
def aL1 (LM : List (View.Piece (Elt Ideal) S8x128 .f32)) (LA : List (View.Piece (Elt Ideal) S64x1024 .f32)) : List (View.Piece (Elt Ideal) S64x1024 .f32) :=
  ⟨accRect, shapeCast S64x1024 (gAcc8 (fun t => dTh0 i arg3 harg3 arg4 harg4 arg6 harg6 arg7 harg7 x0 x1 x3 x4 t) (fun t => rowRd arg10.view 0 (gm0 i arg3 harg3 arg4 harg4 arg6 harg6 arg7 harg7 x0 x1 x3 x4) LM t.val) (dV i arg5 harg5 x2 0) (dVs i arg8 harg8 x5 0) (arg12.view.readCov LA accRect.toLoadRect)) shapeCasts_S64x1024_S64x1024⟩ :: LA
def aL2 (LM : List (View.Piece (Elt Ideal) S8x128 .f32)) (LA : List (View.Piece (Elt Ideal) S64x1024 .f32)) : List (View.Piece (Elt Ideal) S64x1024 .f32) :=
  ⟨halfRect, shapeCast S64x512 (gAcc4 (fun n => dTh1 i arg3 harg3 arg4 harg4 arg6 harg6 arg7 harg7 x0 x1 x3 x4 n) (fun n => rowRd arg10.view 4 (gm1 i arg3 harg3 arg4 harg4 arg6 harg6 arg7 harg7 x0 x1 x3 x4) (mL1 i arg3 harg3 arg4 harg4 arg6 harg6 arg7 harg7 arg10 x0 x1 x3 x4 LM) n.val) (dV i arg5 harg5 x2 1) (dVs i arg8 harg8 x5 1) (arg12.view.readCov (aL1 i arg3 harg3 arg4 harg4 arg5 harg5 arg6 harg6 arg7 harg7 arg8 harg8 arg10 arg12 x0 x1 x2 x3 x4 x5 LM LA) halfRect.toLoadRect)) shapeCasts_S64x512_S64x512⟩ :: aL1 i arg3 harg3 arg4 harg4 arg5 harg5 arg6 harg6 arg7 harg7 arg8 harg8 arg10 arg12 x0 x1 x2 x3 x4 x5 LM LA

/-- Four heads' quotients, transposed to rows of positions. -/
def fin4 (a : Fin 4 → FVec Ideal S64x128 .f32) (l : Fin 4 → FVec Ideal S1x128 .f32) : FVec Ideal S1x128x256 .bf16 :=
  k1_pay364 (k1_pay362 (a 0) (l 0)) (k1_pay363 (a 1) (l 1)) (a 2) (l 2) (a 3) (l 3)

theorem inb_out (b : Fin 2) : ∀ x, (![0, 128 * b.val, 0] : Fin 3 → ℕ) x + S1x128x256.size x ≤ S1x256x256.size x := by
  intro x
  match x with
  | 0 => show 0 + 1 ≤ 1; omega
  | 1 => show 128 * b.val + 128 ≤ 256; omega
  | 2 => show 0 + 256 ≤ 256; omega

/-- The rows of query block `b` of the output. -/
def outRect (b : Fin 2) : Rect S1x256x256 := Rect.unit ![0, 128 * b.val, 0] S1x128x256.size (inb_out b)

/-- What is stored for query block `b`. -/
def outP (LM LL : List (View.Piece (Elt Ideal) S8x128 .f32)) (LA : List (View.Piece (Elt Ideal) S64x1024 .f32)) (b : Fin 2) : View.Piece (Elt Ideal) S1x256x256 .bf16 :=
  ⟨outRect b, fin4 (fun g => arg12.view.readCov (aL2 i arg3 harg3 arg4 harg4 arg5 harg5 arg6 harg6 arg7 harg7 arg8 harg8 arg10 arg12 x0 x1 x2 x3 x4 x5 LM LA) (colRect (rix (4 * b.val) g.val)).toLoadRect)
    (fun g => arg11.view.readCov (lL2 i arg3 harg3 arg4 harg4 arg6 harg6 arg7 harg7 arg10 arg11 x0 x1 x3 x4 LM LL) (rowRect (rix (4 * b.val) g.val)).toLoadRect)⟩

def m0 : List (View.Piece (Elt Ideal) S8x128 .f32) := [⟨Rect.unit ![0, 0] S8x128.size inb_S8x128_S8x128_0_0, k1_pay200 (F := Ideal)⟩]
def l0 : List (View.Piece (Elt Ideal) S8x128 .f32) := [⟨Rect.unit ![0, 0] S8x128.size inb_S8x128_S8x128_0_0, k1_pay201 (F := Ideal)⟩]
def a0 : List (View.Piece (Elt Ideal) S64x1024 .f32) := [⟨accRect, k1_pay202 (F := Ideal)⟩]

/-- The writes of the first `n` trips of the loop. -/
def lp (n : ℕ) := pb_k1_t1 (F := Ideal) Variants.none c none i arg3 harg3 arg4 harg4 arg5 harg5 arg6 harg6 arg7 harg7 arg8 harg8 arg9 harg9 arg10 harg10 arg11 harg11 arg12 harg12 (harg3.unread x0) (harg4.unread x1) (harg5.unread x2) (harg6.unread x3) (harg7.unread x4) (harg8.unread x5) (arg10.view.writes (Elt Ideal) arg10.view.junk m0) (arg11.view.writes (Elt Ideal) arg11.view.junk l0) (arg12.view.writes (Elt Ideal) arg12.view.junk a0) n
/-- The writes of the second loop, which never runs. -/
def lp2 (n : ℕ) := pb_k1_t2 (F := Ideal) Variants.none c none i arg3 harg3 arg4 harg4 arg5 harg5 arg6 harg6 arg7 harg7 arg8 harg8 arg9 harg9 arg10 harg10 arg11 harg11 arg12 harg12 (Scalar.addi 0#32 (kernelRun1_A.sl.v16 i)) (harg3.unread x0) (harg4.unread x1) (harg5.unread x2) (harg6.unread x3) (harg7.unread x4) (harg8.unread x5) (arg10.view.writes (Elt Ideal) arg10.view.junk ((lp c i arg3 harg3 arg4 harg4 arg5 harg5 arg6 harg6 arg7 harg7 arg8 harg8 arg9 harg9 arg10 harg10 arg11 harg11 arg12 harg12 x0 x1 x2 x3 x4 x5 (k1_t1_loop i).trips).1 ++ m0)) (arg11.view.writes (Elt Ideal) arg11.view.junk ((lp c i arg3 harg3 arg4 harg4 arg5 harg5 arg6 harg6 arg7 harg7 arg8 harg8 arg9 harg9 arg10 harg10 arg11 harg11 arg12 harg12 x0 x1 x2 x3 x4 x5 (k1_t1_loop i).trips).2.1 ++ l0)) (arg12.view.writes (Elt Ideal) arg12.view.junk ((lp c i arg3 harg3 arg4 harg4 arg5 harg5 arg6 harg6 arg7 harg7 arg8 harg8 arg9 harg9 arg10 harg10 arg11 harg11 arg12 harg12 x0 x1 x2 x3 x4 x5 (k1_t1_loop i).trips).2.2 ++ a0)) n

/-- The stores of the body into the output block. -/
theorem run_pieces : (kernelRun1_A (F := Ideal) c i arg3 harg3 arg4 harg4 arg5 harg5 arg6 harg6 arg7 harg7 arg8 harg8 arg9 harg9 arg10 harg10 arg11 harg11 arg12 harg12 x0 x1 x2 x3 x4 x5).1
    = [outP i arg3 harg3 arg4 harg4 arg5 harg5 arg6 harg6 arg7 harg7 arg8 harg8 arg10 arg11 arg12 x0 x1 x2 x3 x4 x5 ((lp2 c i arg3 harg3 arg4 harg4 arg5 harg5 arg6 harg6 arg7 harg7 arg8 harg8 arg9 harg9 arg10 harg10 arg11 harg11 arg12 harg12 x0 x1 x2 x3 x4 x5 (k1_t2_loop i).trips).1 ++ ((lp c i arg3 harg3 arg4 harg4 arg5 harg5 arg6 harg6 arg7 harg7 arg8 harg8 arg9 harg9 arg10 harg10 arg11 harg11 arg12 harg12 x0 x1 x2 x3 x4 x5 (k1_t1_loop i).trips).1 ++ m0)) ((lp2 c i arg3 harg3 arg4 harg4 arg5 harg5 arg6 harg6 arg7 harg7 arg8 harg8 arg9 harg9 arg10 harg10 arg11 harg11 arg12 harg12 x0 x1 x2 x3 x4 x5 (k1_t2_loop i).trips).2.1 ++ ((lp c i arg3 harg3 arg4 harg4 arg5 harg5 arg6 harg6 arg7 harg7 arg8 harg8 arg9 harg9 arg10 harg10 arg11 harg11 arg12 harg12 x0 x1 x2 x3 x4 x5 (k1_t1_loop i).trips).2.1 ++ l0)) ((lp2 c i arg3 harg3 arg4 harg4 arg5 harg5 arg6 harg6 arg7 harg7 arg8 harg8 arg9 harg9 arg10 harg10 arg11 harg11 arg12 harg12 x0 x1 x2 x3 x4 x5 (k1_t2_loop i).trips).2.2 ++ ((lp c i arg3 harg3 arg4 harg4 arg5 harg5 arg6 harg6 arg7 harg7 arg8 harg8 arg9 harg9 arg10 harg10 arg11 harg11 arg12 harg12 x0 x1 x2 x3 x4 x5 (k1_t1_loop i).trips).2.2 ++ a0)) 1,
      outP i arg3 harg3 arg4 harg4 arg5 harg5 arg6 harg6 arg7 harg7 arg8 harg8 arg10 arg11 arg12 x0 x1 x2 x3 x4 x5 ((lp2 c i arg3 harg3 arg4 harg4 arg5 harg5 arg6 harg6 arg7 harg7 arg8 harg8 arg9 harg9 arg10 harg10 arg11 harg11 arg12 harg12 x0 x1 x2 x3 x4 x5 (k1_t2_loop i).trips).1 ++ ((lp c i arg3 harg3 arg4 harg4 arg5 harg5 arg6 harg6 arg7 harg7 arg8 harg8 arg9 harg9 arg10 harg10 arg11 harg11 arg12 harg12 x0 x1 x2 x3 x4 x5 (k1_t1_loop i).trips).1 ++ m0)) ((lp2 c i arg3 harg3 arg4 harg4 arg5 harg5 arg6 harg6 arg7 harg7 arg8 harg8 arg9 harg9 arg10 harg10 arg11 harg11 arg12 harg12 x0 x1 x2 x3 x4 x5 (k1_t2_loop i).trips).2.1 ++ ((lp c i arg3 harg3 arg4 harg4 arg5 harg5 arg6 harg6 arg7 harg7 arg8 harg8 arg9 harg9 arg10 harg10 arg11 harg11 arg12 harg12 x0 x1 x2 x3 x4 x5 (k1_t1_loop i).trips).2.1 ++ l0)) ((lp2 c i arg3 harg3 arg4 harg4 arg5 harg5 arg6 harg6 arg7 harg7 arg8 harg8 arg9 harg9 arg10 harg10 arg11 harg11 arg12 harg12 x0 x1 x2 x3 x4 x5 (k1_t2_loop i).trips).2.2 ++ ((lp c i arg3 harg3 arg4 harg4 arg5 harg5 arg6 harg6 arg7 harg7 arg8 harg8 arg9 harg9 arg10 harg10 arg11 harg11 arg12 harg12 x0 x1 x2 x3 x4 x5 (k1_t1_loop i).trips).2.2 ++ a0)) 0] := by
  unfold kernelRun1_A; dsimp only
  sl_unfold_run_names
  rfl

end Cert.Attn

end
-- ==== Proof.Loop.lean ====
/- The attention body at one grid point keeps, for every query row, the weighted sums over the key blocks read so far:
   the loop's trips, then the two key blocks of the diagonal, then the quotient it stores. -/
module

public import proofs.«01_k».proof.Proof.Diag
public import Idealize.ShloMosaic.Lib.WholeRead

@[expose] public section

set_option maxRecDepth 16384
set_option maxHeartbeats 4000000

noncomputable section

namespace Cert.Attn

open Idealize.ShloMosaic Idealize.ShloMosaic.Exec Cert.KernelIdeal Cert.KernelIdeal.Gen

/-- Key block `j`. -/
def bix (j : ℕ) : Fin 128 := ⟨j % 128, Nat.mod_lt _ (by decide)⟩
/-- Key `r` of block `j`. -/
def kix (j : ℕ) (r : Fin 128) : Fin 16384 := ⟨128 * (j % 128) + r.val, by have := Nat.mod_lt j (show 0 < 128 by decide); omega⟩
/-- Column `c` of tile `t`. -/
def cix (t : Fin 8) (c : Fin 128) : Fin 1024 := ⟨128 * t.val + c.val, by omega⟩

/-- The hyperbolic tangent of the score of column `c` of tile `t` and key `r` of block `j`. -/
def thj (x0 : Vec Ideal S1x1x64x1024 .fp8e4m3) (x1 : Vec Ideal S1x1x16384x64 .fp8e4m3) (x3 : Vec Ideal S1x1x8x128 .f32) (x4 : Vec Ideal S1x1x128x128 .f32)
    (t : Fin 8) (c : Fin 128) (j : ℕ) (r : Fin 128) : EReal :=
  thAt (∑ x : Fin 64, x1 (ix4 0 0 (kix j r) x) * x0 (ix4 0 0 x (cix t c))) (x4 (ix4 0 0 (bix j) c)) (x3 (ix4 0 0 t c))

/-- The same under the causal mask, the query at position `c` of block `qb`. -/
def thm (x0 : Vec Ideal S1x1x64x1024 .fp8e4m3) (x1 : Vec Ideal S1x1x16384x64 .fp8e4m3) (x3 : Vec Ideal S1x1x8x128 .f32) (x4 : Vec Ideal S1x1x128x128 .f32)
    (qb : ℕ) (t : Fin 8) (c : Fin 128) (j : ℕ) (r : Fin 128) : EReal :=
  if j < qb ∨ (j = qb ∧ r.val ≤ c.val) then thj x0 x1 x3 x4 t c j r else ⊥

/-- The inputs are real numbers. -/
structure Reals (x0 : Vec Ideal S1x1x64x1024 .fp8e4m3) (x1 : Vec Ideal S1x1x16384x64 .fp8e4m3) (x2 : Vec Ideal S1x1x64x16384 .fp8e4m3) (x3 : Vec Ideal S1x1x8x128 .f32) (x4 : Vec Ideal S1x1x128x128 .f32) (x5 : Vec Ideal S1x1x128x128 .f32) : Prop where
  h0 : ∀ y, ∃ r : ℝ, x0 y = (r : EReal)
  h1 : ∀ y, ∃ r : ℝ, x1 y = (r : EReal)
  h2 : ∀ y, ∃ r : ℝ, x2 y = (r : EReal)
  h3 : ∀ y, ∃ r : ℝ, x3 y = (r : EReal)
  h4 : ∀ y, ∃ r : ℝ, x4 y = (r : EReal)
  h5 : ∀ y, ∃ r : ℝ, x5 y = (r : EReal)

/-- The values of key block `j`, component `d`. -/
def vj (x2 : Vec Ideal S1x1x64x16384 .fp8e4m3) (d : Fin 64) (j : ℕ) (r : Fin 128) : ℝ := (x2 (ix4 0 0 d (kix j r))).toReal
/-- Their scale. -/
def uj (x5 : Vec Ideal S1x1x128x128 .f32) (c : Fin 128) (j : ℕ) : ℝ := (x5 (ix4 0 0 (bix j) c)).toReal

theorem thAt_real {s ks cq : EReal} (hs : ∃ r : ℝ, s = r) (hk : ∃ r : ℝ, ks = r) (hc : ∃ r : ℝ, cq = r) : ∃ r : ℝ, thAt s ks cq = r := by
  obtain ⟨a, rfl⟩ := hs; obtain ⟨b, rfl⟩ := hk; obtain ⟨d, rfl⟩ := hc
  refine ⟨Real.tanh (a * (d * b)), ?_⟩
  unfold thAt
  rw [← EReal.coe_mul, ← EReal.coe_mul]
  rfl

theorem sum_real {n : ℕ} {f g : Fin n → EReal} (hf : ∀ x, ∃ r : ℝ, f x = r) (hg : ∀ x, ∃ r : ℝ, g x = r) : ∃ r : ℝ, ∑ x, f x * g x = r := by
  choose a ha using hf
  choose b hb using hg
  refine ⟨∑ x, a x * b x, ?_⟩
  rw [coe_sum]
  exact Finset.sum_congr rfl fun x _ => by rw [ha, hb, EReal.coe_mul]

theorem canon_whole2 {n m : ℕ} (inb) (w : Vec Ideal (⟨2, ![n, m]⟩ : Shape) .f32) (y : (⟨2, ![n, m]⟩ : Shape).Idx) :
    View.canon (Val := Elt Ideal) (s := (⟨2, ![n, m]⟩ : Shape)) (e := .f32) [⟨Rect.unit (s := (⟨2, ![n, m]⟩ : Shape)) ![0, 0] (⟨2, ![n, m]⟩ : Shape).size inb, w⟩] y = w y := by
  have he : (Rect.unit (s := (⟨2, ![n, m]⟩ : Shape)) ![0, 0] (⟨2, ![n, m]⟩ : Shape).size inb).emb y = y := by
    funext x; apply Fin.ext
    match x with
    | 0 => show 0 + 1 * (y 0).val = (y 0).val; omega
    | 1 => show 0 + 1 * (y 1).val = (y 1).val; omega
  conv_lhs => rw [← he]
  exact View.canon_cons_emb (Val := Elt Ideal) (e := .f32) (Rect.unit (s := (⟨2, ![n, m]⟩ : Shape)) ![0, 0] (⟨2, ![n, m]⟩ : Shape).size inb) w [] y

variable (c' : Dev nD)
  (i : grid1.Coords)
  (arg3 : Memref sig .tc .vmem S1x1x64x1024 .fp8e4m3)
  (harg3 : arg3.IsWhole)
  (arg4 : Memref sig .tc .vmem S1x1x16384x64 .fp8e4m3)
  (harg4 : arg4.IsWhole)
  (arg5 : Memref sig .tc .vmem S1x1x64x16384 .fp8e4m3)
  (harg5 : arg5.IsWhole)
  (arg6 : Memref sig .tc .vmem S1x1x8x128 .f32)
  (harg6 : arg6.IsWhole)
  (arg7 : Memref sig .tc .vmem S1x1x128x128 .f32)
  (harg7 : arg7.IsWhole)
  (arg8 : Memref sig .tc .vmem S1x1x128x128 .f32)
  (harg8 : arg8.IsWhole)
  (arg9 : Memref sig .tc .vmem S1x256x256 .bf16)
  (harg9 : arg9.IsWhole)
  (arg10 : Memref sig .tc .vmem S8x128 .f32)
  (harg10 : arg10.IsWhole)
  (arg11 : Memref sig .tc .vmem S8x128 .f32)
  (harg11 : arg11.IsWhole)
  (arg12 : Memref sig .tc .vmem S64x1024 .f32)
  (harg12 : arg12.IsWhole)
  (x0 : Vec Ideal S1x1x64x1024 .fp8e4m3) (x1 : Vec Ideal S1x1x16384x64 .fp8e4m3) (x2 : Vec Ideal S1x1x64x16384 .fp8e4m3) (x3 : Vec Ideal S1x1x8x128 .f32) (x4 : Vec Ideal S1x1x128x128 .f32) (x5 : Vec Ideal S1x1x128x128 .f32)

variable (hx : Reals x0 x1 x2 x3 x4 x5)

include hx in
theorem thj_real (t : Fin 8) (c : Fin 128) (j : ℕ) (r : Fin 128) : ∃ y : ℝ, thj x0 x1 x3 x4 t c j r = y :=
  thAt_real (sum_real (fun _ => hx.h1 _) (fun _ => hx.h0 _)) (hx.h4 _) (hx.h3 _)

include hx in
theorem thm_fin (qb : ℕ) (t : Fin 8) (c : Fin 128) (j : ℕ) : Fin' (thm x0 x1 x3 x4 qb t c j) := by
  intro r
  unfold thm
  split
  · exact Or.inr (thj_real x0 x1 x2 x3 x4 x5 hx t c j r)
  · exact Or.inl rfl

include hx in
theorem thm_some (qb : ℕ) (t : Fin 8) (c : Fin 128) (j : ℕ) (hj : j ≤ qb) : ∃ r, thm x0 x1 x3 x4 qb t c j r ≠ ⊥ := by
  refine ⟨0, ?_⟩
  unfold thm
  rw [if_pos (by rcases lt_or_eq_of_le hj with h | h; exact Or.inl h; exact Or.inr ⟨h, Nat.zero_le _⟩)]
  obtain ⟨y, hy⟩ := thj_real x0 x1 x2 x3 x4 x5 hx t c j 0
  rw [hy]; exact EReal.coe_ne_bot y

/-! ## What the loads read -/

theorem tTh_apply (k : Fin (k1_t1_loop i).trips) (t : Fin 8) (r c : Fin 128) :
    tTh i arg3 arg4 arg6 arg7 (harg3.unread x0) (harg4.unread x1) (harg6.unread x3) (harg7.unread x4) k t (ix2 r c) = thj x0 x1 x3 x4 t c k.val r := by
  have hk : k.val < 126 := lt_of_lt_of_le k.isLt (k1_t1_abs i).2.1
  unfold tTh thj
  rw [gTh_apply c r _ (128 * t.val) (by omega), pay2_apply]
  congr 1
  · refine Finset.sum_congr rfl fun x _ => ?_
    unfold tK tQ
    rw [harg4.readAt_unread, harg3.readAt_unread]
    congr 1
    · congr 1; funext a; apply Fin.ext
      match a with
      | 0 => show k1_off1 i k 0 + 1 * 0 = 0; rw [off1_eq]; rfl
      | 1 => show k1_off1 i k 1 + 1 * 0 = 0; rw [off1_eq]; rfl
      | 2 => show k1_off1 i k 2 + 1 * r.val = 128 * (k.val % 128) + r.val; rw [off1_eq]; show 128 * k.val + 1 * r.val = _; omega
      | 3 => show k1_off1 i k 3 + 1 * x.val = x.val; rw [off1_eq]; show 0 + 1 * x.val = _; omega
    · congr 1; funext a; apply Fin.ext
      match a with
      | 0 => rfl
      | 1 => rfl
      | 2 => show 0 + 1 * x.val = x.val; omega
      | 3 => show 0 + 1 * (128 * t.val + c.val) = 128 * t.val + c.val; omega
  · unfold tKs
    rw [harg7.readAt_unread]
    congr 1; funext a; apply Fin.ext
    match a with
    | 0 => show k1_off2 i k 0 + 1 * 0 = 0; rw [off2_eq]; rfl
    | 1 => show k1_off2 i k 1 + 1 * 0 = 0; rw [off2_eq]; rfl
    | 2 => show k1_off2 i k 2 + 1 * 0 = k.val % 128; rw [off2_eq]; show k.val + 1 * 0 = _; omega
    | 3 => show k1_off2 i k 3 + 1 * c.val = c.val; rw [off2_eq]; show 0 + 1 * c.val = _; omega
  · unfold tCq
    rw [harg6.readAt_unread]
    congr 1; funext a; apply Fin.ext
    match a with
    | 0 => rfl
    | 1 => rfl
    | 2 => show t.val + 1 * 0 = t.val; omega
    | 3 => show 0 + 1 * c.val = c.val; omega

include hx in
theorem tV_apply (k : Fin (k1_t1_loop i).trips) (d : Fin 64) (r : Fin 128) :
    tV i arg5 (harg5.unread x2) k (ix4 0 0 d r) = (vj x2 d k.val r : EReal) := by
  have hk : k.val < 126 := lt_of_lt_of_le k.isLt (k1_t1_abs i).2.1
  have : tV i arg5 (harg5.unread x2) k (ix4 0 0 d r) = x2 (ix4 0 0 d (kix k.val r)) := by
    unfold tV
    rw [harg5.readAt_unread]
    congr 1; funext a; apply Fin.ext
    match a with
    | 0 => show k1_off3 i k 0 + 1 * 0 = 0; rw [off3_eq]; rfl
    | 1 => show k1_off3 i k 1 + 1 * 0 = 0; rw [off3_eq]; rfl
    | 2 => show k1_off3 i k 2 + 1 * d.val = d.val; rw [off3_eq]; show 0 + 1 * d.val = _; omega
    | 3 => show k1_off3 i k 3 + 1 * r.val = 128 * (k.val % 128) + r.val; rw [off3_eq]; show 128 * k.val + 1 * r.val = _; omega
  obtain ⟨y, hy⟩ := hx.h2 (ix4 0 0 d (kix k.val r))
  rw [this, vj, hy, EReal.toReal_coe]

include hx in
theorem tVs_apply (k : Fin (k1_t1_loop i).trips) (c : Fin 128) :
    tVs i arg8 (harg8.unread x5) k (ix4 0 0 0 c) = (uj x5 c k.val : EReal) := by
  have hk : k.val < 126 := lt_of_lt_of_le k.isLt (k1_t1_abs i).2.1
  have : tVs i arg8 (harg8.unread x5) k (ix4 0 0 0 c) = x5 (ix4 0 0 (bix k.val) c) := by
    unfold tVs
    rw [harg8.readAt_unread]
    congr 1; funext a; apply Fin.ext
    match a with
    | 0 => show k1_off2 i k 0 + 1 * 0 = 0; rw [off2_eq]; rfl
    | 1 => show k1_off2 i k 1 + 1 * 0 = 0; rw [off2_eq]; rfl
    | 2 => show k1_off2 i k 2 + 1 * 0 = k.val % 128; rw [off2_eq]; show k.val + 1 * 0 = _; omega
    | 3 => show k1_off2 i k 3 + 1 * c.val = c.val; rw [off2_eq]; show 0 + 1 * c.val = _; omega
  obtain ⟨y, hy⟩ := hx.h5 (ix4 0 0 (bix k.val) c)
  rw [this, uj, hy, EReal.toReal_coe]

/-! ## The loop -/

theorem rows8_append (g : Fin 8 → FVec Ideal S1x128 .f32) (L L' : List (View.Piece (Elt Ideal) S8x128 .f32)) : rows8 g [] ++ L ++ L' = rows8 g (L ++ L') := rfl

/-- Three lists of writes leave the sums over the first `n` key blocks, at column `c` of tile `t` and component `d`. -/
def Q (qb : ℕ) (LM LL : List (View.Piece (Elt Ideal) S8x128 .f32)) (LA : List (View.Piece (Elt Ideal) S64x1024 .f32)) (n : ℕ) (t : Fin 8) (c : Fin 128) (d : Fin 64) : Prop :=
  Inv (View.canon LM (ix2 t c)) (View.canon LL (ix2 t c)) (View.canon LA (ix2 d (cix t c)))
    (wsum (thm x0 x1 x3 x4 qb t c) n) (vsum (thm x0 x1 x3 x4 qb t c) (vj x2 d) (uj x5 c) n)

include hx in
/-- One more key block, of columns whose three new entries are the steps. -/
theorem Q.next {qb n : ℕ} {LM LL LM' LL' : List (View.Piece (Elt Ideal) S8x128 .f32)} {LA LA' : List (View.Piece (Elt Ideal) S64x1024 .f32)}
    {t : Fin 8} {c : Fin 128} {d : Fin 64} (hQ : Q x0 x1 x2 x3 x4 x5 qb LM LL LA n t c d) (hn : n ≤ qb)
    {v : Fin 128 → EReal} {vs : EReal} (hv : ∀ r, v r = (vj x2 d n r : EReal)) (hvs : vs = (uj x5 c n : EReal))
    (hm : View.canon LM' (ix2 t c) = mStep (thm x0 x1 x3 x4 qb t c n) (View.canon LM (ix2 t c)))
    (hl : View.canon LL' (ix2 t c) = lStep (thm x0 x1 x3 x4 qb t c n) (View.canon LM (ix2 t c)) (View.canon LL (ix2 t c)))
    (ha : View.canon LA' (ix2 d (cix t c)) = accStep (thm x0 x1 x3 x4 qb t c n) v vs (View.canon LM (ix2 t c)) (View.canon LA (ix2 d (cix t c)))) :
    Q x0 x1 x2 x3 x4 x5 qb LM' LL' LA' (n + 1) t c d := by
  unfold Q
  rw [hm, hl, ha]
  have := Inv.step hQ (thm_fin x0 x1 x2 x3 x4 x5 hx qb t c n) (thm_some x0 x1 x2 x3 x4 x5 hx qb t c n hn) hv hvs
  unfold wsum vsum at this ⊢
  rw [Finset.sum_range_succ, Finset.sum_range_succ]
  exact this

theorem shapeCast_row (x : FVec Ideal S1x128 .f32) : shapeCast S1x128 x shapeCasts_S1x128_S1x128 = x := shapeCast_self _ _

include hx in
/-- After the first `n` trips. -/
theorem loop_Q (qb n : ℕ) (hn : n ≤ (k1_t1_loop i).trips) (hq : 2 * (i 2).val ≤ qb) (t : Fin 8) (c : Fin 128) (d : Fin 64) :
    Q x0 x1 x2 x3 x4 x5 qb ((lp c' i arg3 harg3 arg4 harg4 arg5 harg5 arg6 harg6 arg7 harg7 arg8 harg8 arg9 harg9 arg10 harg10 arg11 harg11 arg12 harg12 x0 x1 x2 x3 x4 x5 n).1 ++ m0) ((lp c' i arg3 harg3 arg4 harg4 arg5 harg5 arg6 harg6 arg7 harg7 arg8 harg8 arg9 harg9 arg10 harg10 arg11 harg11 arg12 harg12 x0 x1 x2 x3 x4 x5 n).2.1 ++ l0) ((lp c' i arg3 harg3 arg4 harg4 arg5 harg5 arg6 harg6 arg7 harg7 arg8 harg8 arg9 harg9 arg10 harg10 arg11 harg11 arg12 harg12 x0 x1 x2 x3 x4 x5 n).2.2 ++ a0) n t c d := by
  induction n with
  | zero =>
    have e : lp c' i arg3 harg3 arg4 harg4 arg5 harg5 arg6 harg6 arg7 harg7 arg8 harg8 arg9 harg9 arg10 harg10 arg11 harg11 arg12 harg12 x0 x1 x2 x3 x4 x5 0 = ([], [], []) := by unfold lp; rw [pb_k1_t1.eq_1]
    rw [e]
    unfold Q
    have h1 : View.canon m0 (ix2 t c) = ⊥ := by
      unfold m0
      rw [show View.canon _ _ = _ from canon_whole2 _ _ _]
      unfold k1_pay200; pointwise; simp [Ideal.ofBits, Ideal.ieee]
    have h2 : View.canon l0 (ix2 t c) = 0 := by
      unfold l0
      rw [show View.canon _ _ = _ from canon_whole2 _ _ _]
      unfold k1_pay201; pointwise
    have h3 : View.canon a0 (ix2 d (cix t c)) = 0 := by
      unfold a0
      rw [canon_acc]
      unfold k1_pay202; pointwise
    show Inv (View.canon m0 _) (View.canon l0 _) (View.canon a0 _) _ _
    rw [h1, h2, h3]
    unfold wsum vsum
    rw [Finset.sum_range_zero, Finset.sum_range_zero]
    exact Inv.init
  | succ n ih =>
    have ih := ih (by omega)
    have hk : n < (k1_t1_loop i).trips := by omega
    have hk2 : n < 2 * (i 2).val := by rw [← trips1]; exact hk
    have e := pb_k1_t1_succ (F := Ideal) Variants.none c' none i arg3 harg3 arg4 harg4 arg5 harg5 arg6 harg6 arg7 harg7 arg8 harg8 arg9 harg9 arg10 harg10 arg11 harg11 arg12 harg12 (harg3.unread x0) (harg4.unread x1) (harg5.unread x2) (harg6.unread x3) (harg7.unread x4) (harg8.unread x5) (arg10.view.writes (Elt Ideal) arg10.view.junk m0) (arg11.view.writes (Elt Ideal) arg11.view.junk l0) (arg12.view.writes (Elt Ideal) arg12.view.junk a0) ⟨n, hk⟩
    have w10 : arg10.view.writes (Elt Ideal) (arg10.view.writes (Elt Ideal) arg10.view.junk m0) (lp c' i arg3 harg3 arg4 harg4 arg5 harg5 arg6 harg6 arg7 harg7 arg8 harg8 arg9 harg9 arg10 harg10 arg11 harg11 arg12 harg12 x0 x1 x2 x3 x4 x5 n).1 = arg10.view.writes (Elt Ideal) arg10.view.junk ((lp c' i arg3 harg3 arg4 harg4 arg5 harg5 arg6 harg6 arg7 harg7 arg8 harg8 arg9 harg9 arg10 harg10 arg11 harg11 arg12 harg12 x0 x1 x2 x3 x4 x5 n).1 ++ m0) := (View.writes_append _ _ _ _).symm
    have w11 : arg11.view.writes (Elt Ideal) (arg11.view.writes (Elt Ideal) arg11.view.junk l0) (lp c' i arg3 harg3 arg4 harg4 arg5 harg5 arg6 harg6 arg7 harg7 arg8 harg8 arg9 harg9 arg10 harg10 arg11 harg11 arg12 harg12 x0 x1 x2 x3 x4 x5 n).2.1 = arg11.view.writes (Elt Ideal) arg11.view.junk ((lp c' i arg3 harg3 arg4 harg4 arg5 harg5 arg6 harg6 arg7 harg7 arg8 harg8 arg9 harg9 arg10 harg10 arg11 harg11 arg12 harg12 x0 x1 x2 x3 x4 x5 n).2.1 ++ l0) := (View.writes_append _ _ _ _).symm
    have w12 : arg12.view.writes (Elt Ideal) (arg12.view.writes (Elt Ideal) arg12.view.junk a0) (lp c' i arg3 harg3 arg4 harg4 arg5 harg5 arg6 harg6 arg7 harg7 arg8 harg8 arg9 harg9 arg10 harg10 arg11 harg11 arg12 harg12 x0 x1 x2 x3 x4 x5 n).2.2 = arg12.view.writes (Elt Ideal) arg12.view.junk ((lp c' i arg3 harg3 arg4 harg4 arg5 harg5 arg6 harg6 arg7 harg7 arg8 harg8 arg9 harg9 arg10 harg10 arg11 harg11 arg12 harg12 x0 x1 x2 x3 x4 x5 n).2.2 ++ a0) := (View.writes_append _ _ _ _).symm
    have rm : ∀ t : Fin 8, tM arg10 (arg10.view.writes (Elt Ideal) arg10.view.junk ((lp c' i arg3 harg3 arg4 harg4 arg5 harg5 arg6 harg6 arg7 harg7 arg8 harg8 arg9 harg9 arg10 harg10 arg11 harg11 arg12 harg12 x0 x1 x2 x3 x4 x5 n).1 ++ m0)) t (ix2 0 c) = View.canon ((lp c' i arg3 harg3 arg4 harg4 arg5 harg5 arg6 harg6 arg7 harg7 arg8 harg8 arg9 harg9 arg10 harg10 arg11 harg11 arg12 harg12 x0 x1 x2 x3 x4 x5 n).1 ++ m0) (ix2 t c) := fun t => by
      unfold tM; rw [View.readAt_writes_junk_eq_canon]; exact congrArg _ (rowRect_emb t c)
    have rl : ∀ t : Fin 8, tL arg11 (arg11.view.writes (Elt Ideal) arg11.view.junk ((lp c' i arg3 harg3 arg4 harg4 arg5 harg5 arg6 harg6 arg7 harg7 arg8 harg8 arg9 harg9 arg10 harg10 arg11 harg11 arg12 harg12 x0 x1 x2 x3 x4 x5 n).2.1 ++ l0)) t (ix2 0 c) = View.canon ((lp c' i arg3 harg3 arg4 harg4 arg5 harg5 arg6 harg6 arg7 harg7 arg8 harg8 arg9 harg9 arg10 harg10 arg11 harg11 arg12 harg12 x0 x1 x2 x3 x4 x5 n).2.1 ++ l0) (ix2 t c) := fun t => by
      unfold tL; rw [View.readAt_writes_junk_eq_canon]; exact congrArg _ (rowRect_emb t c)
    have ra : ∀ y, tA arg12 (arg12.view.writes (Elt Ideal) arg12.view.junk ((lp c' i arg3 harg3 arg4 harg4 arg5 harg5 arg6 harg6 arg7 harg7 arg8 harg8 arg9 harg9 arg10 harg10 arg11 harg11 arg12 harg12 x0 x1 x2 x3 x4 x5 n).2.2 ++ a0)) y = View.canon ((lp c' i arg3 harg3 arg4 harg4 arg5 harg5 arg6 harg6 arg7 harg7 arg8 harg8 arg9 harg9 arg10 harg10 arg11 harg11 arg12 harg12 x0 x1 x2 x3 x4 x5 n).2.2 ++ a0) y := fun y => by
      unfold tA; rw [View.readAt_writes_junk_eq_canon]; exact congrArg _ (accRect_emb y)
    have et : (fun r => tTh i arg3 arg4 arg6 arg7 (harg3.unread x0) (harg4.unread x1) (harg6.unread x3) (harg7.unread x4) ⟨n, hk⟩ t (ix2 r c)) = thm x0 x1 x3 x4 qb t c n := by
      funext r
      rw [tTh_apply, thm, if_pos (Or.inl (by omega))]
    have e' : lp c' i arg3 harg3 arg4 harg4 arg5 harg5 arg6 harg6 arg7 harg7 arg8 harg8 arg9 harg9 arg10 harg10 arg11 harg11 arg12 harg12 x0 x1 x2 x3 x4 x5 (n + 1) = ((trip_k1_t1 (F := Ideal) Variants.none c' none i arg3 harg3 arg4 harg4 arg5 harg5 arg6 harg6 arg7 harg7 arg8 harg8 arg9 harg9 arg10 harg10 arg11 harg11 arg12 harg12 (harg3.unread x0) (harg4.unread x1) (harg5.unread x2) (harg6.unread x3) (harg7.unread x4) (harg8.unread x5) ⟨n, hk⟩).1 (arg10.view.writes (Elt Ideal) arg10.view.junk ((lp c' i arg3 harg3 arg4 harg4 arg5 harg5 arg6 harg6 arg7 harg7 arg8 harg8 arg9 harg9 arg10 harg10 arg11 harg11 arg12 harg12 x0 x1 x2 x3 x4 x5 n).1 ++ m0)) (arg11.view.writes (Elt Ideal) arg11.view.junk ((lp c' i arg3 harg3 arg4 harg4 arg5 harg5 arg6 harg6 arg7 harg7 arg8 harg8 arg9 harg9 arg10 harg10 arg11 harg11 arg12 harg12 x0 x1 x2 x3 x4 x5 n).2.1 ++ l0)) (arg12.view.writes (Elt Ideal) arg12.view.junk ((lp c' i arg3 harg3 arg4 harg4 arg5 harg5 arg6 harg6 arg7 harg7 arg8 harg8 arg9 harg9 arg10 harg10 arg11 harg11 arg12 harg12 x0 x1 x2 x3 x4 x5 n).2.2 ++ a0)) ++ (lp c' i arg3 harg3 arg4 harg4 arg5 harg5 arg6 harg6 arg7 harg7 arg8 harg8 arg9 harg9 arg10 harg10 arg11 harg11 arg12 harg12 x0 x1 x2 x3 x4 x5 n).1, (trip_k1_t1 (F := Ideal) Variants.none c' none i arg3 harg3 arg4 harg4 arg5 harg5 arg6 harg6 arg7 harg7 arg8 harg8 arg9 harg9 arg10 harg10 arg11 harg11 arg12 harg12 (harg3.unread x0) (harg4.unread x1) (harg5.unread x2) (harg6.unread x3) (harg7.unread x4) (harg8.unread x5) ⟨n, hk⟩).2.1 (arg10.view.writes (Elt Ideal) arg10.view.junk ((lp c' i arg3 harg3 arg4 harg4 arg5 harg5 arg6 harg6 arg7 harg7 arg8 harg8 arg9 harg9 arg10 harg10 arg11 harg11 arg12 harg12 x0 x1 x2 x3 x4 x5 n).1 ++ m0)) (arg11.view.writes (Elt Ideal) arg11.view.junk ((lp c' i arg3 harg3 arg4 harg4 arg5 harg5 arg6 harg6 arg7 harg7 arg8 harg8 arg9 harg9 arg10 harg10 arg11 harg11 arg12 harg12 x0 x1 x2 x3 x4 x5 n).2.1 ++ l0)) (arg12.view.writes (Elt Ideal) arg12.view.junk ((lp c' i arg3 harg3 arg4 harg4 arg5 harg5 arg6 harg6 arg7 harg7 arg8 harg8 arg9 harg9 arg10 harg10 arg11 harg11 arg12 harg12 x0 x1 x2 x3 x4 x5 n).2.2 ++ a0)) ++ (lp c' i arg3 harg3 arg4 harg4 arg5 harg5 arg6 harg6 arg7 harg7 arg8 harg8 arg9 harg9 arg10 harg10 arg11 harg11 arg12 harg12 x0 x1 x2 x3 x4 x5 n).2.1, (trip_k1_t1 (F := Ideal) Variants.none c' none i arg3 harg3 arg4 harg4 arg5 harg5 arg6 harg6 arg7 harg7 arg8 harg8 arg9 harg9 arg10 harg10 arg11 harg11 arg12 harg12 (harg3.unread x0) (harg4.unread x1) (harg5.unread x2) (harg6.unread x3) (harg7.unread x4) (harg8.unread x5) ⟨n, hk⟩).2.2.1 (arg10.view.writes (Elt Ideal) arg10.view.junk ((lp c' i arg3 harg3 arg4 harg4 arg5 harg5 arg6 harg6 arg7 harg7 arg8 harg8 arg9 harg9 arg10 harg10 arg11 harg11 arg12 harg12 x0 x1 x2 x3 x4 x5 n).1 ++ m0)) (arg11.view.writes (Elt Ideal) arg11.view.junk ((lp c' i arg3 harg3 arg4 harg4 arg5 harg5 arg6 harg6 arg7 harg7 arg8 harg8 arg9 harg9 arg10 harg10 arg11 harg11 arg12 harg12 x0 x1 x2 x3 x4 x5 n).2.1 ++ l0)) (arg12.view.writes (Elt Ideal) arg12.view.junk ((lp c' i arg3 harg3 arg4 harg4 arg5 harg5 arg6 harg6 arg7 harg7 arg8 harg8 arg9 harg9 arg10 harg10 arg11 harg11 arg12 harg12 x0 x1 x2 x3 x4 x5 n).2.2 ++ a0)) ++ (lp c' i arg3 harg3 arg4 harg4 arg5 harg5 arg6 harg6 arg7 harg7 arg8 harg8 arg9 harg9 arg10 harg10 arg11 harg11 arg12 harg12 x0 x1 x2 x3 x4 x5 n).2.2) := by
      rw [← w10, ← w11, ← w12]; exact e
    refine Q.next x0 x1 x2 x3 x4 x5 hx ih (by omega)
      (v := fun r => tV i arg5 (harg5.unread x2) ⟨n, hk⟩ (ix4 0 0 d r)) (vs := tVs i arg8 (harg8.unread x5) ⟨n, hk⟩ (ix4 0 0 0 c))
      (fun r => tV_apply i arg5 harg5 x0 x1 x2 x3 x4 x5 hx ⟨n, hk⟩ d r) (tVs_apply i arg8 harg8 x0 x1 x2 x3 x4 x5 hx ⟨n, hk⟩ c) ?_ ?_ ?_
    · rw [congrArg Prod.fst e']
      simp only
      rw [trip_m, rows8_append, canon_rows8, shapeCast_row, gM_apply, rm, et]
    · rw [congrArg (fun p => p.2.1) e']
      simp only
      rw [trip_l, rows8_append, canon_rows8, shapeCast_row, gL_apply, rm, rl, et]
    · rw [congrArg (fun p => p.2.2) e']
      simp only
      rw [trip_a, List.singleton_append, List.cons_append, canon_acc, shapeCast_self, gAcc8_apply _ _ _ _ _ d (cix t c) t c rfl, rm, ra, et]

end Cert.Attn

end
-- ==== Proof.Spec.lean ====
/- What both programs compute, on real numbers: each head's softmax-weighted mean of the value codes under the capped causal
   scores of the query and key codes. -/
module

public import proofs.«01_k».proof.Proof.Scal
public import proofs.«01_k».proof.Proof.Loop

@[expose] public section

set_option maxRecDepth 16384
set_option maxHeartbeats 4000000

noncomputable section

namespace Cert.Attn

open Idealize.ShloMosaic Cert.KernelIdeal

/-- One head's block of 128 rows of an array with 1024 columns. -/
def famq (X : S4x16384x1024.Idx → EReal) (b : Fin 4) (n : Fin 128) (h : Fin 16) (r : Fin 128) (d : Fin 64) : EReal :=
  X (ix3 b ⟨128 * n.val + r.val, by omega⟩ ⟨64 * h.val + d.val, by omega⟩)

/-- One head's block of 128 rows of an array with 256 columns. -/
def famk (X : S4x16384x256.Idx → EReal) (b : Fin 4) (n : Fin 128) (h : Fin 4) (r : Fin 128) (d : Fin 64) : EReal :=
  X (ix3 b ⟨128 * n.val + r.val, by omega⟩ ⟨64 * h.val + d.val, by omega⟩)

/-- Query head `g` of group `h`. -/
def hq (h g : Fin 4) : Fin 16 := ⟨4 * h.val + g.val, by omega⟩

variable (X : S4x16384x1024.Idx → EReal) (K V : S4x16384x256.Idx → EReal)

/-- The hyperbolic tangent of the scaled score of query row `c` of block `n` and key `r` of block `j`, over the cap. -/
def th1 (b h g : Fin 4) (n c : Fin 128) (j : Fin 128) (r : Fin 128) : ℝ :=
  Real.tanh ((∑ x : Fin 64, qcd (famk K b j h) r x * qcd (famq X b n (hq h g)) c x) * (qsc (famq X b n (hq h g)) * lit * qsc (famk K b j h)))

/-- The same under the causal mask. -/
def th (b h g : Fin 4) (n c : Fin 128) (j : ℕ) (r : Fin 128) : EReal :=
  if j < n.val ∨ (j = n.val ∧ r.val ≤ c.val) then ((th1 X K b h g n c (bix j) r : ℝ) : EReal) else ⊥

/-- The value codes. -/
def vv (b h : Fin 4) (d : Fin 64) (j : ℕ) (r : Fin 128) : ℝ := qcd (famk V b (bix j) h) r d
/-- The value scales. -/
def uu (b h : Fin 4) (j : ℕ) : ℝ := qsc (famk V b (bix j) h)

/-- The result at query row `c` of block `n`, head `g` of group `h`, coordinate `d`. -/
def yv (b h g : Fin 4) (n c : Fin 128) (d : Fin 64) : ℝ :=
  vsum (th X K b h g n c) (vv V b h d) (uu V b h) (n.val + 1) / wsum (th X K b h g n c) (n.val + 1)

/-- Every element is a real number at most `2 ^ 128` in absolute value. -/
def Bx {s : Shape} (Z : s.Idx → EReal) : Prop := ∀ p, ∃ x : ℝ, Z p = (x : EReal) ∧ |x| ≤ (2 : ℝ) ^ (128 : ℤ)

theorem Bx.q {X : S4x16384x1024.Idx → EReal} (h : Bx X) (b : Fin 4) (n : Fin 128) (g : Fin 16) : Bd (famq X b n g) := fun r d => h _
theorem Bx.k {K : S4x16384x256.Idx → EReal} (h : Bx K) (b : Fin 4) (n : Fin 128) (g : Fin 4) : Bd (famk K b n g) := fun r d => h _

end Cert.Attn

end
-- ==== Proof.Arr0.lean ====
/- What the first kernel leaves in its arrays, as functions of the three arguments. -/
module

public import proofs.«01_k».proof.Proof.QuantT
public import proofs.«01_k».proof.Proof.Spec
import all proofs.«01_k».proof.Proof.Gen.KernelIdeal.Frame
public import proofs.«01_k».proof.Proof.Gen.KernelIdeal.Frame
public import Idealize.ShloMosaic.Lib.Pipeline.ValueKit.Geometry

@[expose] public section

set_option maxRecDepth 16384
set_option maxHeartbeats 4000000

noncomputable section

namespace Cert.Attn

open Idealize.ShloMosaic Idealize.ShloMosaic.TcCoe Idealize.ShloMosaic.Tactic Cert.KernelIdeal Cert.KernelIdeal.Gen
open Idealize.ShloMosaic.Pipeline (Dat Cfg Window)

variable (V : (c : Dev nD) → (b : Ref sig .tc) → Buf (Elt Ideal) ((c : Thread nD τ).loc b)) (c : Dev nD)

theorem e0_0 : ∀ t : Fin cfg0.N, win0_0.index t = ![t.val / 128, t.val % 128, 0] := (by decide +kernel : ∀ t : Fin grid0.N, _)
theorem e0_1 : ∀ t : Fin cfg0.N, win0_1.index t = ![t.val / 128, t.val % 128, 0] := (by decide +kernel : ∀ t : Fin grid0.N, _)
theorem e0_2 : ∀ t : Fin cfg0.N, win0_2.index t = ![t.val / 128, t.val % 128, 0] := (by decide +kernel : ∀ t : Fin grid0.N, _)
theorem e0_4 : ∀ t : Fin cfg0.N, win0_4.index t = ![t.val, 0, 0] := (by decide +kernel : ∀ t : Fin grid0.N, _)
theorem e0_6 : ∀ t : Fin cfg0.N, win0_6.index t = ![t.val, 0, 0] := (by decide +kernel : ∀ t : Fin grid0.N, _)
theorem e0_8 : ∀ t : Fin cfg0.N, win0_8.index t = ![t.val, 0, 0] := (by decide +kernel : ∀ t : Fin grid0.N, _)
theorem e0_9 : ∀ t : Fin cfg0.N, win0_9.index t = ![t.val / 128, 0, 0, t.val % 128] := (by decide +kernel : ∀ t : Fin grid0.N, _)
theorem e0_10 : ∀ t : Fin cfg0.N, win0_10.index t = ![t.val / 128, 0, t.val % 128, 0] := (by decide +kernel : ∀ t : Fin grid0.N, _)
theorem e0_11 : ∀ t : Fin cfg0.N, win0_11.index t = ![t.val / 128, 0, 0, t.val % 128] := (by decide +kernel : ∀ t : Fin grid0.N, _)

theorem t_lt (t : Fin cfg0.N) : t.val < 512 := t.isLt

theorem in0 (t : Fin cfg0.N) (r : Fin 128) (j : Fin 1024) :
    iblk0 V c 0 t (ix3 0 r j) = V c main_arg0 (ix3 ⟨t.val / 128, by have := t_lt t; omega⟩ ⟨128 * (t.val % 128) + r.val, by omega⟩ j) := by
  blk_simp [iblk0, e0_0]
  refine congrArg (V c main_arg0) ?_
  blk_ext [e0_0]
  all_goals (simp only [ix3]; omega)

theorem in1 (t : Fin cfg0.N) (r : Fin 128) (j : Fin 256) :
    iblk0 V c 1 t (ix3 0 r j) = V c main_arg1 (ix3 ⟨t.val / 128, by have := t_lt t; omega⟩ ⟨128 * (t.val % 128) + r.val, by omega⟩ j) := by
  blk_simp [iblk0, e0_1]
  refine congrArg (V c main_arg1) ?_
  blk_ext [e0_1]
  all_goals (simp only [ix3]; omega)

theorem in2 (t : Fin cfg0.N) (r : Fin 128) (j : Fin 256) :
    iblk0 V c 2 t (ix3 0 r j) = V c main_arg2 (ix3 ⟨t.val / 128, by have := t_lt t; omega⟩ ⟨128 * (t.val % 128) + r.val, by omega⟩ j) := by
  blk_simp [iblk0, e0_2]
  refine congrArg (V c main_arg2) ?_
  blk_ext [e0_2]
  all_goals (simp only [ix3]; omega)

theorem fam0 (t : Fin cfg0.N) (b : Fin 4) (n : Fin 128) (h : Fin 16) (hb : b.val = t.val / 128) (hn : n.val = t.val % 128) (k : ℕ) (hk : k = h.val) (hk' : k < 16) :
    (fun (r : Fin 128) (d : Fin 64) => iblk0 V c 0 t (ix3 0 r ⟨64 * k + d.val, by omega⟩)) = famq (V c main_arg0) b n h := by
  subst hk
  have hb' : b = ⟨t.val / 128, by have := t_lt t; omega⟩ := Fin.ext hb
  have hn' : n = ⟨t.val % 128, by omega⟩ := Fin.ext hn
  rw [hb', hn']
  funext r d
  exact in0 V c t r _

theorem fam1 (t : Fin cfg0.N) (b : Fin 4) (n : Fin 128) (h : Fin 4) (hb : b.val = t.val / 128) (hn : n.val = t.val % 128) (k : ℕ) (hk : k = h.val) (hk' : k < 4) :
    (fun (r : Fin 128) (d : Fin 64) => iblk0 V c 1 t (ix3 0 r ⟨64 * k + d.val, by omega⟩)) = famk (V c main_arg1) b n h := by
  subst hk
  have hb' : b = ⟨t.val / 128, by have := t_lt t; omega⟩ := Fin.ext hb
  have hn' : n = ⟨t.val % 128, by omega⟩ := Fin.ext hn
  rw [hb', hn']
  funext r d
  exact in1 V c t r _

theorem fam2 (t : Fin cfg0.N) (b : Fin 4) (n : Fin 128) (h : Fin 4) (hb : b.val = t.val / 128) (hn : n.val = t.val % 128) (k : ℕ) (hk : k = h.val) (hk' : k < 4) :
    (fun (r : Fin 128) (d : Fin 64) => iblk0 V c 2 t (ix3 0 r ⟨64 * k + d.val, by omega⟩)) = famk (V c main_arg2) b n h := by
  subst hk
  have hb' : b = ⟨t.val / 128, by have := t_lt t; omega⟩ := Fin.ext hb
  have hn' : n = ⟨t.val % 128, by omega⟩ := Fin.ext hn
  rw [hb', hn']
  funext r d
  exact in2 V c t r _

/-- The scales array of argument 0. -/
theorem arr4 : (dat0 V c).arrAt 4 cfg0.N = (fun p : S512x1x1024.Idx =>
    kScl (famq (V c main_arg0) ⟨(p 0).val / 128, by have : (p 0).val < 512 := (p 0).isLt; omega⟩ ⟨(p 0).val % 128, by omega⟩ ⟨(p 2).val / 64, by have : (p 2).val < 1024 := (p 2).isLt; omega⟩)) := by
  refine Dat.arrAt_eq_of_covers _ 4 _ (by decide +kernel) fun t hf y => ?_
  blk_simp [e0_4]
  rw [after0_4]
  have ey : y = ix3 0 0 (y 2) := by
    funext a; apply Fin.ext
    match a with
    | 0 => show (y 0).val = 0; have : (y 0).val < 1 := (y 0).isLt; omega
    | 1 => show (y 1).val = 0; have : (y 1).val < 1 := (y 1).isLt; omega
    | 2 => rfl
  have h2 : (y 2).val < 1024 := (y 2).isLt
  refine (congrArg (out0_4 _ _ _) ey).trans ((out4_apply _ _ _ (y 2)).trans (congrArg kScl ?_))
  exact fam0 V c t ⟨t.val / 128, by have := t_lt t; omega⟩ ⟨t.val % 128, by omega⟩ ⟨(y 2).val / 64, by omega⟩ rfl rfl _ rfl (by omega)

/-- The scales array of argument 1. -/
theorem arr6 : (dat0 V c).arrAt 6 cfg0.N = (fun p : S512x1x256.Idx =>
    kScl (famk (V c main_arg1) ⟨(p 0).val / 128, by have : (p 0).val < 512 := (p 0).isLt; omega⟩ ⟨(p 0).val % 128, by omega⟩ ⟨(p 2).val / 64, by have : (p 2).val < 256 := (p 2).isLt; omega⟩)) := by
  refine Dat.arrAt_eq_of_covers _ 6 _ (by decide +kernel) fun t hf y => ?_
  blk_simp [e0_6]
  rw [after0_6]
  have ey : y = ix3 0 0 (y 2) := by
    funext a; apply Fin.ext
    match a with
    | 0 => show (y 0).val = 0; have : (y 0).val < 1 := (y 0).isLt; omega
    | 1 => show (y 1).val = 0; have : (y 1).val < 1 := (y 1).isLt; omega
    | 2 => rfl
  have h2 : (y 2).val < 256 := (y 2).isLt
  refine (congrArg (out0_6 _ _ _) ey).trans ((out6_apply _ _ _ (y 2)).trans (congrArg kScl ?_))
  exact fam1 V c t ⟨t.val / 128, by have := t_lt t; omega⟩ ⟨t.val % 128, by omega⟩ ⟨(y 2).val / 64, by omega⟩ rfl rfl _ rfl (by omega)

/-- The scales array of argument 2. -/
theorem arr8 : (dat0 V c).arrAt 8 cfg0.N = (fun p : S512x1x256.Idx =>
    kScl (famk (V c main_arg2) ⟨(p 0).val / 128, by have : (p 0).val < 512 := (p 0).isLt; omega⟩ ⟨(p 0).val % 128, by omega⟩ ⟨(p 2).val / 64, by have : (p 2).val < 256 := (p 2).isLt; omega⟩)) := by
  refine Dat.arrAt_eq_of_covers _ 8 _ (by decide +kernel) fun t hf y => ?_
  blk_simp [e0_8]
  rw [after0_8]
  have ey : y = ix3 0 0 (y 2) := by
    funext a; apply Fin.ext
    match a with
    | 0 => show (y 0).val = 0; have : (y 0).val < 1 := (y 0).isLt; omega
    | 1 => show (y 1).val = 0; have : (y 1).val < 1 := (y 1).isLt; omega
    | 2 => rfl
  have h2 : (y 2).val < 256 := (y 2).isLt
  refine (congrArg (out0_8 _ _ _) ey).trans ((out8_apply _ _ _ (y 2)).trans (congrArg kScl ?_))
  exact fam2 V c t ⟨t.val / 128, by have := t_lt t; omega⟩ ⟨t.val % 128, by omega⟩ ⟨(y 2).val / 64, by omega⟩ rfl rfl _ rfl (by omega)

/-- The query codes, transposed and regrouped. -/
theorem arr9 : (dat0 V c).arrAt 9 cfg0.N = (fun p : S4x4x64x65536.Idx =>
    cod (famq (V c main_arg0) ⟨(p 0).val, (p 0).isLt⟩ ⟨(p 3).val / 512, by have : (p 3).val < 65536 := (p 3).isLt; omega⟩ ⟨4 * (p 1).val + (p 3).val / 128 % 4, by have : (p 1).val < 4 := (p 1).isLt; omega⟩) ⟨(p 3).val % 128, by omega⟩ ⟨(p 2).val, (p 2).isLt⟩) := by
  refine Dat.arrAt_eq_of_covers _ 9 _ (by decide +kernel) fun t hf y => ?_
  blk_simp [e0_9]
  rw [after0_9]
  have ey : y = ix4 0 (y 1) (y 2) (y 3) := by
    funext a; apply Fin.ext
    match a with
    | 0 => show (y 0).val = 0; have : (y 0).val < 1 := (y 0).isLt; omega
    | 1 => rfl
    | 2 => rfl
    | 3 => rfl
  have h1 : (y 1).val < 4 := (y 1).isLt
  have h2 : (y 2).val < 64 := (y 2).isLt
  have h3 : (y 3).val < 512 := (y 3).isLt
  refine (congrArg (out0_9 _ _ _) ey).trans ((out9_apply _ _ _ (y 1) (y 2) (y 3) ⟨64 * (4 * (y 1).val + (y 3).val / 128) + (y 2).val, by omega⟩ rfl ⟨(y 3).val % 128, by omega⟩ rfl).trans ?_)
  have ef := fam0 V c t ⟨t.val / 128, by have := t_lt t; omega⟩ ⟨t.val % 128, by omega⟩ ⟨4 * (y 1).val + (y 3).val / 128, by omega⟩ rfl rfl
    ((64 * (4 * (y 1).val + (y 3).val / 128) + (y 2).val) / 64) (by show _ / 64 = 4 * (y 1).val + _; omega) (by omega)
  have ep := in0 V c t ⟨(y 3).val % 128, by omega⟩ ⟨64 * (4 * (y 1).val + (y 3).val / 128) + (y 2).val, by omega⟩
  refine (congrArg₂ kCode ef ep).trans ?_
  simp only [cod, famq]
  have a1 : (t.val % 128 * 512 + (y 3).val) / 512 = t.val % 128 := by omega
  have a2 : (t.val % 128 * 512 + (y 3).val) / 128 % 4 = (y 3).val / 128 := by omega
  have a3 : (t.val % 128 * 512 + (y 3).val) % 128 = (y 3).val % 128 := by omega
  simp only [a1, a2, a3]

/-- The key codes, regrouped. -/
theorem arr10 : (dat0 V c).arrAt 10 cfg0.N = (fun p : S4x4x16384x64.Idx =>
    cod (famk (V c main_arg1) ⟨(p 0).val, (p 0).isLt⟩ ⟨(p 2).val / 128, by have : (p 2).val < 16384 := (p 2).isLt; omega⟩ ⟨(p 1).val, (p 1).isLt⟩) ⟨(p 2).val % 128, by omega⟩ ⟨(p 3).val, (p 3).isLt⟩) := by
  refine Dat.arrAt_eq_of_covers _ 10 _ (by decide +kernel) fun t hf y => ?_
  blk_simp [e0_10]
  rw [after0_10]
  have ey : y = ix4 0 (y 1) (y 2) (y 3) := by
    funext a; apply Fin.ext
    match a with
    | 0 => show (y 0).val = 0; have : (y 0).val < 1 := (y 0).isLt; omega
    | 1 => rfl
    | 2 => rfl
    | 3 => rfl
  have h1 : (y 1).val < 4 := (y 1).isLt
  have h2 : (y 2).val < 128 := (y 2).isLt
  have h3 : (y 3).val < 64 := (y 3).isLt
  refine (congrArg (out0_10 _ _ _) ey).trans ((out10_apply _ _ _ (y 1) (y 2) (y 3) ⟨64 * (y 1).val + (y 3).val, by omega⟩ rfl).trans ?_)
  have ef := fam1 V c t ⟨t.val / 128, by have := t_lt t; omega⟩ ⟨t.val % 128, by omega⟩ ⟨(y 1).val, by omega⟩ rfl rfl
    ((64 * (y 1).val + (y 3).val) / 64) (by show _ / 64 = (y 1).val; omega) (by omega)
  have ep := in1 V c t ⟨(y 2).val, by omega⟩ ⟨64 * (y 1).val + (y 3).val, by omega⟩
  refine (congrArg₂ kCode ef ep).trans ?_
  simp only [cod, famk]
  have a1 : (t.val % 128 * 128 + (y 2).val) / 128 = t.val % 128 := by omega
  have a3 : (t.val % 128 * 128 + (y 2).val) % 128 = (y 2).val := by omega
  simp only [a1, a3]

/-- The value codes, transposed and regrouped. -/
theorem arr11 : (dat0 V c).arrAt 11 cfg0.N = (fun p : S4x4x64x16384.Idx =>
    cod (famk (V c main_arg2) ⟨(p 0).val, (p 0).isLt⟩ ⟨(p 3).val / 128, by have : (p 3).val < 16384 := (p 3).isLt; omega⟩ ⟨(p 1).val, (p 1).isLt⟩) ⟨(p 3).val % 128, by omega⟩ ⟨(p 2).val, (p 2).isLt⟩) := by
  refine Dat.arrAt_eq_of_covers _ 11 _ (by decide +kernel) fun t hf y => ?_
  blk_simp [e0_11]
  rw [after0_11]
  have ey : y = ix4 0 (y 1) (y 2) (y 3) := by
    funext a; apply Fin.ext
    match a with
    | 0 => show (y 0).val = 0; have : (y 0).val < 1 := (y 0).isLt; omega
    | 1 => rfl
    | 2 => rfl
    | 3 => rfl
  have h1 : (y 1).val < 4 := (y 1).isLt
  have h2 : (y 2).val < 64 := (y 2).isLt
  have h3 : (y 3).val < 128 := (y 3).isLt
  refine (congrArg (out0_11 _ _ _) ey).trans ((out11_apply _ _ _ (y 1) (y 2) (y 3) ⟨64 * (y 1).val + (y 2).val, by omega⟩ rfl).trans ?_)
  have ef := fam2 V c t ⟨t.val / 128, by have := t_lt t; omega⟩ ⟨t.val % 128, by omega⟩ ⟨(y 1).val, by omega⟩ rfl rfl
    ((64 * (y 1).val + (y 2).val) / 64) (by show _ / 64 = (y 1).val; omega) (by omega)
  have ep := in2 V c t ⟨(y 3).val, by omega⟩ ⟨64 * (y 1).val + (y 2).val, by omega⟩
  refine (congrArg₂ kCode ef ep).trans ?_
  simp only [cod, famk]
  have a1 : (t.val % 128 * 128 + (y 3).val) / 128 = t.val % 128 := by omega
  have a3 : (t.val % 128 * 128 + (y 3).val) % 128 = (y 3).val := by omega
  simp only [a1, a3]

end Cert.Attn

end
-- ==== Proof.Final.lean ====
/- The attention body at one grid point: the two key blocks of the diagonal, and the output it stores — for every row,
   head and component the weighted mean of the values over the keys the causal mask lets through. -/
module

public import proofs.«01_k».proof.Proof.Loop
import all proofs.«01_k».proof.Proof.Gen.KernelIdeal.Frame

@[expose] public section

set_option maxRecDepth 16384
set_option maxHeartbeats 4000000

noncomputable section

namespace Cert.Attn

open Idealize.ShloMosaic Idealize.ShloMosaic.Exec Cert.KernelIdeal Cert.KernelIdeal.Gen

/-! ## Rows rewritten one after another -/

section
variable {sp : Space} (v : View sig .tc sp S8x128 .f32) (a : ℕ) (g : Fin 8 → FVec Ideal S1x128 .f32 → FVec Ideal S1x128 .f32)
    (L : List (View.Piece (Elt Ideal) S8x128 .f32))

theorem rowsUp_ne (n : ℕ) (t : Fin 8) (h : ∀ m < n, rix a m ≠ t) (c : Fin 128) :
    View.canon (rowsUp v a g n L) (ix2 t c) = View.canon L (ix2 t c) := by
  induction n with
  | zero => rfl
  | succ n ih =>
    show View.canon (rowP _ _ :: rowsUp v a g n L) (ix2 t c) = _
    rw [canon_row_ne _ _ (h n (by omega)), ih fun m hm => h m (by omega)]

theorem rix_ne {m n : ℕ} (hm : m ≠ n) (h1 : a + m < 8) (h2 : a + n < 8) : rix a m ≠ rix a n := by
  intro h
  have := congrArg Fin.val h
  simp only [rix] at this
  omega

theorem rowRd_apply (n : ℕ) (hn : a + n < 8) (c : Fin 128) :
    rowRd v a g L n (ix2 (0 : Fin 1) c) = View.canon L (ix2 (rix a n) c) := by
  unfold rowRd
  rw [readCov_row, rowsUp_ne v a g L n _ fun m hm => rix_ne a (by omega) (by omega) hn]

theorem rowsUp_at (n m : ℕ) (hm : m < n) (hn : a + n ≤ 8) (c : Fin 128) :
    View.canon (rowsUp v a g n L) (ix2 (rix a m) c) = g (rix a m) (rowRd v a g L m) (ix2 0 c) := by
  induction n with
  | zero => omega
  | succ n ih =>
    show View.canon (rowP _ _ :: rowsUp v a g n L) (ix2 (rix a m) c) = _
    by_cases h : m = n
    · subst h
      rw [canon_row]; rfl
    · rw [canon_row_ne _ _ (rix_ne a (fun e => h e.symm) (by omega) (by omega)), ih (by omega) (by omega)]

end

theorem rix0 (t : Fin 8) : rix 0 t.val = t := Fin.ext (by simp only [rix]; omega)

/-! ## The stored quotients -/

/-- One head's quotients. -/
def quot (a : FVec Ideal S64x128 .f32) (l : FVec Ideal S1x128 .f32) : FVec Ideal S64x128 .f32 := divf a (broadcastTo S64x128 l broadcasts_S1x128_S64x128)

theorem quot_apply (a : FVec Ideal S64x128 .f32) (l : FVec Ideal S1x128 .f32) (d : Fin 64) (c : Fin 128) :
    quot a l (ix2 d c) = Ideal.div (a (ix2 d c)) (l (ix2 0 c)) := by
  unfold quot; pointwise

/-- Four heads' quotients, one below another. -/
def quots (a : Fin 4 → FVec Ideal S64x128 .f32) (l : Fin 4 → FVec Ideal S1x128 .f32) : FVec Ideal S256x128 .f32 :=
  concatenate S256x128 0 [⟨S64x128, quot (a 0) (l 0)⟩, ⟨S64x128, quot (a 1) (l 1)⟩, ⟨S64x128, quot (a 2) (l 2)⟩, ⟨S64x128, quot (a 3) (l 3)⟩]
    concatenates_S64x128_S64x128_S64x128_S64x128_S256x128_d0

theorem quots_apply (a : Fin 4 → FVec Ideal S64x128 .f32) (l : Fin 4 → FVec Ideal S1x128 .f32) (j : Fin 256) (g : Fin 4) (d : Fin 64) (hj : j.val = 64 * g.val + d.val) (c : Fin 128) :
    quots a l (ix2 j c) = quot (a g) (l g) (ix2 d c) := by
  have hg : (⟨j.val / 64, by omega⟩ : Fin 4) = g := Fin.ext (by simp only; omega)
  have hd : (⟨j.val % 64, by omega⟩ : Fin 64) = d := Fin.ext (by simp only; omega)
  have := concatenate_ofFn_apply (t := S256x128) 0 (fun g => quot (a g) (l g)) concatenates_S64x128_S64x128_S64x128_S64x128_S256x128_d0 rfl 64 rfl (ix2 j c)
    ⟨j.val / 64, by omega⟩ rfl (ix2 ⟨j.val % 64, by omega⟩ c) rfl (by
      intro b hb
      match b with
      | 0 => exact absurd rfl hb
      | 1 => rfl)
  rw [hg, hd] at this
  exact this

theorem fin4_apply (a : Fin 4 → FVec Ideal S64x128 .f32) (l : Fin 4 → FVec Ideal S1x128 .f32) (j : Fin 256) (g : Fin 4) (d : Fin 64) (hj : j.val = 64 * g.val + d.val) (c : Fin 128) :
    fin4 a l (ix3 0 c j) = Ideal.div (a g (ix2 d c)) (l g (ix2 0 c)) := by
  have e : fin4 a l = shapeCast S1x128x256 (truncf .bf16 (transpose S128x256 [1, 0] (quots a l) transposes_S256x128_p1_0_S128x256) bitsLt_bf16_f32) shapeCasts_S128x256_S1x128x256 := rfl
  rw [e]
  pointwise
  rw [quots_apply a l j g d hj c, quot_apply]

theorem outRect_emb (b : Fin 2) (c : Fin 128) (j : Fin 256) :
    (outRect b).emb (ix3 (0 : Fin 1) c j : S1x128x256.Idx) = (ix3 0 ⟨128 * b.val + c.val, by omega⟩ j : S1x256x256.Idx) := by
  funext x; apply Fin.ext
  match x with
  | 0 => rfl
  | 1 => show 128 * b.val + 1 * c.val = 128 * b.val + c.val; omega
  | 2 => show 0 + 1 * j.val = j.val; omega

theorem colRect_emb (t : Fin 8) (d : Fin 64) (c : Fin 128) :
    (colRect t).emb (ix2 d c : S64x128.Idx) = (ix2 d (cix t c) : S64x1024.Idx) := by
  funext x; apply Fin.ext
  match x with
  | 0 => show 0 + 1 * d.val = d.val; omega
  | 1 => show 128 * t.val + 1 * c.val = 128 * t.val + c.val; omega

theorem readCov_col {sp : Space} (v : View sig .tc sp S64x1024 .f32) (L : List (View.Piece (Elt Ideal) S64x1024 .f32)) (t : Fin 8) (d : Fin 64) (c : Fin 128) :
    (v.readCov L (colRect t).toLoadRect : FVec Ideal S64x128 .f32) (ix2 d c) = View.canon L (ix2 d (cix t c)) := by
  rw [View.readCov_eq_canon']
  exact congrArg (View.canon L) (colRect_emb t d c)

theorem readCov_acc {sp : Space} (v : View sig .tc sp S64x1024 .f32) (L : List (View.Piece (Elt Ideal) S64x1024 .f32)) (y : S64x1024.Idx) :
    (v.readCov L accRect.toLoadRect : FVec Ideal S64x1024 .f32) y = View.canon L y := by
  rw [View.readCov_eq_canon']
  exact congrArg (View.canon L) (accRect_emb y)

theorem halfRect_emb (d : Fin 64) (n : Fin 4) (c : Fin 128) :
    halfRect.emb (ix2 d ⟨128 * n.val + c.val, by omega⟩ : S64x512.Idx) = (ix2 d (cix (rix 4 n.val) c) : S64x1024.Idx) := by
  funext x; apply Fin.ext
  match x with
  | 0 => show 0 + 1 * d.val = d.val; omega
  | 1 => show 512 + 1 * (128 * n.val + c.val) = 128 * ((4 + n.val) % 8) + c.val; omega

theorem readCov_half {sp : Space} (v : View sig .tc sp S64x1024 .f32) (L : List (View.Piece (Elt Ideal) S64x1024 .f32)) (d : Fin 64) (n : Fin 4) (c : Fin 128) :
    (v.readCov L halfRect.toLoadRect : FVec Ideal S64x512 .f32) (ix2 d ⟨128 * n.val + c.val, by omega⟩) = View.canon L (ix2 d (cix (rix 4 n.val) c)) := by
  rw [View.readCov_eq_canon']
  exact congrArg (View.canon L) (halfRect_emb d n c)

theorem canon_half (g : FVec Ideal S64x512 .f32) (L : List (View.Piece (Elt Ideal) S64x1024 .f32)) (d : Fin 64) (n : Fin 4) (c : Fin 128) :
    View.canon (⟨halfRect, g⟩ :: L) (ix2 d (cix (rix 4 n.val) c)) = g (ix2 d ⟨128 * n.val + c.val, by omega⟩) := by
  rw [← halfRect_emb]
  exact View.canon_cons_emb halfRect g L _

theorem canon_half_ne (g : FVec Ideal S64x512 .f32) (L : List (View.Piece (Elt Ideal) S64x1024 .f32)) (d : Fin 64) (t : Fin 8) (ht : t.val < 4) (c : Fin 128) :
    View.canon (⟨halfRect, g⟩ :: L) (ix2 d (cix t c)) = View.canon L (ix2 d (cix t c)) := by
  refine View.canon_cons_of_not_mem _ L ?_
  intro hm
  obtain ⟨k, hk, he⟩ := (LoadRect.mem_set _).mp hm (1 : Fin 2)
  have he' : 128 * t.val + c.val = 512 + 1 * k := he
  omega

theorem canon_out (f : Fin 2 → FVec Ideal S1x128x256 .bf16) (b : Fin 2) (c : Fin 128) (j : Fin 256) :
    View.canon (Val := Elt Ideal) (e := .bf16) [⟨outRect 1, f 1⟩, ⟨outRect 0, f 0⟩] ((outRect b).emb (ix3 (0 : Fin 1) c j : S1x128x256.Idx)) = f b (ix3 0 c j) := by
  match b with
  | 0 =>
    refine (View.canon_cons_of_not_mem _ _ ?_).trans ?_
    · intro hm
      obtain ⟨k, hk, he⟩ := (LoadRect.mem_set _).mp hm (1 : Fin 3)
      have he' : 0 + 1 * c.val = 128 + 1 * k := he
      omega
    · exact View.canon_cons_emb (Val := Elt Ideal) (e := .bf16) (outRect 0) (f 0) [] (ix3 (0 : Fin 1) c j)
  | 1 => exact View.canon_cons_emb (Val := Elt Ideal) (e := .bf16) (outRect 1) (f 1) _ (ix3 (0 : Fin 1) c j)

variable (c' : Dev nD)
  (i : grid1.Coords)
  (arg3 : Memref sig .tc .vmem S1x1x64x1024 .fp8e4m3)
  (harg3 : arg3.IsWhole)
  (arg4 : Memref sig .tc .vmem S1x1x16384x64 .fp8e4m3)
  (harg4 : arg4.IsWhole)
  (arg5 : Memref sig .tc .vmem S1x1x64x16384 .fp8e4m3)
  (harg5 : arg5.IsWhole)
  (arg6 : Memref sig .tc .vmem S1x1x8x128 .f32)
  (harg6 : arg6.IsWhole)
  (arg7 : Memref sig .tc .vmem S1x1x128x128 .f32)
  (harg7 : arg7.IsWhole)
  (arg8 : Memref sig .tc .vmem S1x1x128x128 .f32)
  (harg8 : arg8.IsWhole)
  (arg9 : Memref sig .tc .vmem S1x256x256 .bf16)
  (harg9 : arg9.IsWhole)
  (arg10 : Memref sig .tc .vmem S8x128 .f32)
  (harg10 : arg10.IsWhole)
  (arg11 : Memref sig .tc .vmem S8x128 .f32)
  (harg11 : arg11.IsWhole)
  (arg12 : Memref sig .tc .vmem S64x1024 .f32)
  (harg12 : arg12.IsWhole)
  (x0 : Vec Ideal S1x1x64x1024 .fp8e4m3) (x1 : Vec Ideal S1x1x16384x64 .fp8e4m3) (x2 : Vec Ideal S1x1x64x16384 .fp8e4m3) (x3 : Vec Ideal S1x1x8x128 .f32) (x4 : Vec Ideal S1x1x128x128 .f32) (x5 : Vec Ideal S1x1x128x128 .f32)

variable (hx : Reals x0 x1 x2 x3 x4 x5)

/-! ## What the loads of the diagonal read -/

theorem dScore (b : Fin 2) (t : Fin 8) (r c : Fin 128) :
    thAt (∑ x : Fin 64, dK i arg4 harg4 x1 b (ix4 0 0 r x) * x0 (ix4 0 0 x (cix t c))) (dKs i arg7 harg7 x4 b (ix4 0 0 0 c)) (tCq arg6 (harg6.unread x3) t (ix4 0 0 0 c))
      = thj x0 x1 x3 x4 t c (2 * (i 2).val + b.val) r := by
  have hi : (i 2).val < 64 := (i 2).isLt
  unfold thj
  congr 1
  · refine Finset.sum_congr rfl fun x _ => ?_
    unfold dK
    rw [harg4.readAt_unread]
    congr 2; funext a; apply Fin.ext
    match a with
    | 0 => show k1_off7 i (BitVec.ofNat 32 b.val) 0 + 1 * 0 = 0; rw [off7_eq]; rfl
    | 1 => show k1_off7 i (BitVec.ofNat 32 b.val) 1 + 1 * 0 = 0; rw [off7_eq]; rfl
    | 2 => show k1_off7 i (BitVec.ofNat 32 b.val) 2 + 1 * r.val = 128 * ((2 * (i 2).val + b.val) % 128) + r.val; rw [off7_eq]; show 128 * (2 * (i 2).val + b.val) + 1 * r.val = _; omega
    | 3 => show k1_off7 i (BitVec.ofNat 32 b.val) 3 + 1 * x.val = x.val; rw [off7_eq]; show 0 + 1 * x.val = _; omega
  · unfold dKs
    rw [harg7.readAt_unread]
    congr 1; funext a; apply Fin.ext
    match a with
    | 0 => show k1_off8 i (BitVec.ofNat 32 b.val) 0 + 1 * 0 = 0; rw [off8_eq]; rfl
    | 1 => show k1_off8 i (BitVec.ofNat 32 b.val) 1 + 1 * 0 = 0; rw [off8_eq]; rfl
    | 2 => show k1_off8 i (BitVec.ofNat 32 b.val) 2 + 1 * 0 = (2 * (i 2).val + b.val) % 128; rw [off8_eq]; show (2 * (i 2).val + b.val) + 1 * 0 = _; omega
    | 3 => show k1_off8 i (BitVec.ofNat 32 b.val) 3 + 1 * c.val = c.val; rw [off8_eq]; show 0 + 1 * c.val = _; omega
  · unfold tCq
    rw [harg6.readAt_unread]
    congr 1; funext a; apply Fin.ext
    match a with
    | 0 => rfl
    | 1 => rfl
    | 2 => show t.val + 1 * 0 = t.val; omega
    | 3 => show 0 + 1 * c.val = c.val; omega

theorem tQ_apply (x : Fin 64) (j : Fin 1024) : tQ arg3 (harg3.unread x0) (ix4 0 0 x j) = x0 (ix4 0 0 x j) := by
  unfold tQ
  rw [harg3.readAt_unread]
  congr 1; funext a; apply Fin.ext
  match a with
  | 0 => rfl
  | 1 => rfl
  | 2 => show 0 + 1 * x.val = x.val; omega
  | 3 => show 0 + 1 * j.val = j.val; omega

theorem dQ_apply (x : Fin 64) (n : Fin 4) (c : Fin 128) : dQ arg3 harg3 x0 (ix4 0 0 x ⟨128 * n.val + c.val, by omega⟩) = x0 (ix4 0 0 x (cix (rix 4 n.val) c)) := by
  unfold dQ
  rw [harg3.readAt_unread]
  congr 1; funext a; apply Fin.ext
  match a with
  | 0 => rfl
  | 1 => rfl
  | 2 => show 0 + 1 * x.val = x.val; omega
  | 3 => show 512 + 1 * (128 * n.val + c.val) = 128 * ((4 + n.val) % 8) + c.val; omega

theorem dTh0_apply (t : Fin 8) (r c : Fin 128) : dTh0 i arg3 harg3 arg4 harg4 arg6 harg6 arg7 harg7 x0 x1 x3 x4 t (ix2 r c) = thm x0 x1 x3 x4 (2 * (i 2).val + t.val / 4) t c (2 * (i 2).val) r := by
  have e : gTh (k1_pay2 (dK i arg4 harg4 x1 0) (tQ arg3 (harg3.unread x0))) ![0, 128 * t.val] (slices_tile t) (dKs i arg7 harg7 x4 0) (tCq arg6 (harg6.unread x3) t) (ix2 r c)
      = thj x0 x1 x3 x4 t c (2 * (i 2).val) r := by
    rw [gTh_apply c r _ (128 * t.val) (by omega), pay2_apply]
    refine Eq.trans ?_ (dScore i arg4 harg4 arg6 harg6 arg7 harg7 x0 x1 x3 x4 0 t r c)
    congr 1
    refine Finset.sum_congr rfl fun x _ => ?_
    rw [tQ_apply]; rfl
  unfold dTh0 thm
  split
  · next h =>
    rw [gMask_apply, e]
    by_cases hr : r.val ≤ c.val
    · rw [if_pos hr, if_pos (Or.inr ⟨by omega, hr⟩)]
    · rw [if_neg hr, if_neg (by omega)]
  · next h => rw [e, if_pos (Or.inl (by omega))]

theorem dTh1_apply (n : Fin 4) (r c : Fin 128) : dTh1 i arg3 harg3 arg4 harg4 arg6 harg6 arg7 harg7 x0 x1 x3 x4 n (ix2 r c) = thm x0 x1 x3 x4 (2 * (i 2).val + 1) (rix 4 n.val) c (2 * (i 2).val + 1) r := by
  have e : gTh (k1_pay309 (dK i arg4 harg4 x1 1) (dQ arg3 harg3 x0)) ![0, 128 * n.val] (slices_tile4 n) (dKs i arg7 harg7 x4 1) (tCq arg6 (harg6.unread x3) (rix 4 n.val)) (ix2 r c)
      = thj x0 x1 x3 x4 (rix 4 n.val) c (2 * (i 2).val + 1) r := by
    rw [gTh_apply' c r _ (128 * n.val) (by omega), pay309_apply]
    refine Eq.trans ?_ (dScore i arg4 harg4 arg6 harg6 arg7 harg7 x0 x1 x3 x4 1 (rix 4 n.val) r c)
    congr 1
    refine Finset.sum_congr rfl fun x _ => ?_
    rw [dQ_apply]
  unfold dTh1 thm
  rw [gMask_apply, e]
  by_cases hr : r.val ≤ c.val
  · rw [if_pos hr, if_pos (Or.inr ⟨rfl, hr⟩)]
  · rw [if_neg hr, if_neg (by omega)]

include hx in
theorem dV_apply (b : Fin 2) (d : Fin 64) (r : Fin 128) : dV i arg5 harg5 x2 b (ix4 0 0 d r) = (vj x2 d (2 * (i 2).val + b.val) r : EReal) := by
  have hi : (i 2).val < 64 := (i 2).isLt
  have : dV i arg5 harg5 x2 b (ix4 0 0 d r) = x2 (ix4 0 0 d (kix (2 * (i 2).val + b.val) r)) := by
    unfold dV
    rw [harg5.readAt_unread]
    congr 1; funext a; apply Fin.ext
    match a with
    | 0 => show k1_off9 i (BitVec.ofNat 32 b.val) 0 + 1 * 0 = 0; rw [off9_eq]; rfl
    | 1 => show k1_off9 i (BitVec.ofNat 32 b.val) 1 + 1 * 0 = 0; rw [off9_eq]; rfl
    | 2 => show k1_off9 i (BitVec.ofNat 32 b.val) 2 + 1 * d.val = d.val; rw [off9_eq]; show 0 + 1 * d.val = _; omega
    | 3 => show k1_off9 i (BitVec.ofNat 32 b.val) 3 + 1 * r.val = 128 * ((2 * (i 2).val + b.val) % 128) + r.val; rw [off9_eq]; show 128 * (2 * (i 2).val + b.val) + 1 * r.val = _; omega
  obtain ⟨y, hy⟩ := hx.h2 (ix4 0 0 d (kix (2 * (i 2).val + b.val) r))
  rw [this, vj, hy, EReal.toReal_coe]

include hx in
theorem dVs_apply (b : Fin 2) (c : Fin 128) : dVs i arg8 harg8 x5 b (ix4 0 0 0 c) = (uj x5 c (2 * (i 2).val + b.val) : EReal) := by
  have hi : (i 2).val < 64 := (i 2).isLt
  have : dVs i arg8 harg8 x5 b (ix4 0 0 0 c) = x5 (ix4 0 0 (bix (2 * (i 2).val + b.val)) c) := by
    unfold dVs
    rw [harg8.readAt_unread]
    congr 1; funext a; apply Fin.ext
    match a with
    | 0 => show k1_off8 i (BitVec.ofNat 32 b.val) 0 + 1 * 0 = 0; rw [off8_eq]; rfl
    | 1 => show k1_off8 i (BitVec.ofNat 32 b.val) 1 + 1 * 0 = 0; rw [off8_eq]; rfl
    | 2 => show k1_off8 i (BitVec.ofNat 32 b.val) 2 + 1 * 0 = (2 * (i 2).val + b.val) % 128; rw [off8_eq]; show (2 * (i 2).val + b.val) + 1 * 0 = _; omega
    | 3 => show k1_off8 i (BitVec.ofNat 32 b.val) 3 + 1 * c.val = c.val; rw [off8_eq]; show 0 + 1 * c.val = _; omega
  obtain ⟨y, hy⟩ := hx.h5 (ix4 0 0 (bix (2 * (i 2).val + b.val)) c)
  rw [this, uj, hy, EReal.toReal_coe]

/-! ## The two key blocks of the diagonal -/

include hx in
theorem diag0_Q (LM LL : List (View.Piece (Elt Ideal) S8x128 .f32)) (LA : List (View.Piece (Elt Ideal) S64x1024 .f32)) (t : Fin 8) (c : Fin 128) (d : Fin 64)
    (hQ : Q x0 x1 x2 x3 x4 x5 (2 * (i 2).val + t.val / 4) LM LL LA (2 * (i 2).val) t c d) :
    Q x0 x1 x2 x3 x4 x5 (2 * (i 2).val + t.val / 4) (mL1 i arg3 harg3 arg4 harg4 arg6 harg6 arg7 harg7 arg10 x0 x1 x3 x4 LM) (lL1 i arg3 harg3 arg4 harg4 arg6 harg6 arg7 harg7 arg10 arg11 x0 x1 x3 x4 LM LL) (aL1 i arg3 harg3 arg4 harg4 arg5 harg5 arg6 harg6 arg7 harg7 arg8 harg8 arg10 arg12 x0 x1 x2 x3 x4 x5 LM LA) (2 * (i 2).val + 1) t c d := by
  have rm : rowRd arg10.view 0 (gm0 i arg3 harg3 arg4 harg4 arg6 harg6 arg7 harg7 x0 x1 x3 x4) LM t.val (ix2 (0 : Fin 1) c) = View.canon LM (ix2 t c) := by
    rw [rowRd_apply _ _ _ _ _ (by omega), rix0]
  have et : (fun r => dTh0 i arg3 harg3 arg4 harg4 arg6 harg6 arg7 harg7 x0 x1 x3 x4 t (ix2 r c)) = thm x0 x1 x3 x4 (2 * (i 2).val + t.val / 4) t c (2 * (i 2).val) := funext fun r => dTh0_apply i arg3 harg3 arg4 harg4 arg6 harg6 arg7 harg7 x0 x1 x3 x4 t r c
  refine Q.next x0 x1 x2 x3 x4 x5 hx hQ (by omega) (v := fun r => dV i arg5 harg5 x2 0 (ix4 0 0 d r)) (vs := dVs i arg8 harg8 x5 0 (ix4 0 0 0 c))
      (fun r => dV_apply i arg5 harg5 x0 x1 x2 x3 x4 x5 hx 0 d r) (dVs_apply i arg8 harg8 x0 x1 x2 x3 x4 x5 hx 0 c) ?_ ?_ ?_
  · unfold mL1
    have h := rowsUp_at arg10.view 0 (gm0 i arg3 harg3 arg4 harg4 arg6 harg6 arg7 harg7 x0 x1 x3 x4) LM 8 t.val (by omega) (by omega) c
    rw [rix0] at h
    rw [h, gm0, shapeCast_row, gM_apply, rm, et]
  · unfold lL1
    have h := rowsUp_at arg11.view 0 (gl0 i arg3 harg3 arg4 harg4 arg6 harg6 arg7 harg7 arg10 x0 x1 x3 x4 LM) LL 8 t.val (by omega) (by omega) c
    have h2 := rowRd_apply arg11.view 0 (gl0 i arg3 harg3 arg4 harg4 arg6 harg6 arg7 harg7 arg10 x0 x1 x3 x4 LM) LL t.val (by omega) c
    rw [rix0] at h h2
    rw [h, gl0, shapeCast_row, gL_apply, rm, h2, et]
  · unfold aL1
    rw [canon_acc, shapeCast_self]
    refine (gAcc8_apply _ _ _ _ _ d (cix t c) t c rfl).trans ?_
    beta_reduce
    rw [rm, et]
    exact congrArg (accStep _ _ _ _) (readCov_acc _ _ _)

include hx in
theorem diag1_Q (LM LL : List (View.Piece (Elt Ideal) S8x128 .f32)) (LA : List (View.Piece (Elt Ideal) S64x1024 .f32)) (n : Fin 4) (c : Fin 128) (d : Fin 64)
    (hQ : Q x0 x1 x2 x3 x4 x5 (2 * (i 2).val + 1) (mL1 i arg3 harg3 arg4 harg4 arg6 harg6 arg7 harg7 arg10 x0 x1 x3 x4 LM) (lL1 i arg3 harg3 arg4 harg4 arg6 harg6 arg7 harg7 arg10 arg11 x0 x1 x3 x4 LM LL) (aL1 i arg3 harg3 arg4 harg4 arg5 harg5 arg6 harg6 arg7 harg7 arg8 harg8 arg10 arg12 x0 x1 x2 x3 x4 x5 LM LA) (2 * (i 2).val + 1) (rix 4 n.val) c d) :
    Q x0 x1 x2 x3 x4 x5 (2 * (i 2).val + 1) (rowsUp arg10.view 4 (gm1 i arg3 harg3 arg4 harg4 arg6 harg6 arg7 harg7 x0 x1 x3 x4) 4 (mL1 i arg3 harg3 arg4 harg4 arg6 harg6 arg7 harg7 arg10 x0 x1 x3 x4 LM)) (lL2 i arg3 harg3 arg4 harg4 arg6 harg6 arg7 harg7 arg10 arg11 x0 x1 x3 x4 LM LL) (aL2 i arg3 harg3 arg4 harg4 arg5 harg5 arg6 harg6 arg7 harg7 arg8 harg8 arg10 arg12 x0 x1 x2 x3 x4 x5 LM LA) (2 * (i 2).val + 1 + 1) (rix 4 n.val) c d := by
  have hn : nix (rix 4 n.val) = n := Fin.ext (by simp only [rix, nix]; omega)
  have hn' : (rix 4 n.val).val % 4 = n.val := by simp only [rix]; omega
  have rm : rowRd arg10.view 4 (gm1 i arg3 harg3 arg4 harg4 arg6 harg6 arg7 harg7 x0 x1 x3 x4) (mL1 i arg3 harg3 arg4 harg4 arg6 harg6 arg7 harg7 arg10 x0 x1 x3 x4 LM) n.val (ix2 (0 : Fin 1) c) = View.canon (mL1 i arg3 harg3 arg4 harg4 arg6 harg6 arg7 harg7 arg10 x0 x1 x3 x4 LM) (ix2 (rix 4 n.val) c) :=
    rowRd_apply _ _ _ _ _ (by omega) c
  have et : (fun r => dTh1 i arg3 harg3 arg4 harg4 arg6 harg6 arg7 harg7 x0 x1 x3 x4 n (ix2 r c)) = thm x0 x1 x3 x4 (2 * (i 2).val + 1) (rix 4 n.val) c (2 * (i 2).val + 1) := funext fun r => dTh1_apply i arg3 harg3 arg4 harg4 arg6 harg6 arg7 harg7 x0 x1 x3 x4 n r c
  refine Q.next x0 x1 x2 x3 x4 x5 hx hQ (by omega) (v := fun r => dV i arg5 harg5 x2 1 (ix4 0 0 d r)) (vs := dVs i arg8 harg8 x5 1 (ix4 0 0 0 c))
      (fun r => dV_apply i arg5 harg5 x0 x1 x2 x3 x4 x5 hx 1 d r) (dVs_apply i arg8 harg8 x0 x1 x2 x3 x4 x5 hx 1 c) ?_ ?_ ?_
  · rw [rowsUp_at arg10.view 4 (gm1 i arg3 harg3 arg4 harg4 arg6 harg6 arg7 harg7 x0 x1 x3 x4) (mL1 i arg3 harg3 arg4 harg4 arg6 harg6 arg7 harg7 arg10 x0 x1 x3 x4 LM) 4 n.val (by omega) (by omega) c, gm1, shapeCast_row, gM_apply, rm, hn, et]
  · unfold lL2
    have h2 := rowRd_apply arg11.view 4 (gl1 i arg3 harg3 arg4 harg4 arg6 harg6 arg7 harg7 arg10 x0 x1 x3 x4 (mL1 i arg3 harg3 arg4 harg4 arg6 harg6 arg7 harg7 arg10 x0 x1 x3 x4 LM)) (lL1 i arg3 harg3 arg4 harg4 arg6 harg6 arg7 harg7 arg10 arg11 x0 x1 x3 x4 LM LL) n.val (by omega) c
    rw [rowsUp_at arg11.view 4 (gl1 i arg3 harg3 arg4 harg4 arg6 harg6 arg7 harg7 arg10 x0 x1 x3 x4 (mL1 i arg3 harg3 arg4 harg4 arg6 harg6 arg7 harg7 arg10 x0 x1 x3 x4 LM)) (lL1 i arg3 harg3 arg4 harg4 arg6 harg6 arg7 harg7 arg10 arg11 x0 x1 x3 x4 LM LL) 4 n.val (by omega) (by omega) c, gl1, shapeCast_row, gL_apply, hn', rm, h2, hn, et]
  · unfold aL2
    refine (canon_half _ _ d n c).trans ?_
    rw [shapeCast_self]
    refine (gAcc4_apply _ _ _ _ _ d ⟨128 * n.val + c.val, by omega⟩ n c rfl).trans ?_
    have ra := readCov_half arg12.view (aL1 i arg3 harg3 arg4 harg4 arg5 harg5 arg6 harg6 arg7 harg7 arg8 harg8 arg10 arg12 x0 x1 x2 x3 x4 x5 LM LA) d n c
    rw [rm, et]
    exact congrArg (accStep _ _ _ _) ra

include hx in
/-- Query block `b`, column `c`, head `g` of the four, component `d`: the maximum, sum and output before the quotient. -/
theorem final_Q (LM LL : List (View.Piece (Elt Ideal) S8x128 .f32)) (LA : List (View.Piece (Elt Ideal) S64x1024 .f32)) (b : Fin 2) (g : Fin 4) (c : Fin 128) (d : Fin 64)
    (hQ : ∀ qb, 2 * (i 2).val ≤ qb → ∀ t, Q x0 x1 x2 x3 x4 x5 qb LM LL LA (2 * (i 2).val) t c d) :
    ∃ M, Q x0 x1 x2 x3 x4 x5 (2 * (i 2).val + b.val) M (lL2 i arg3 harg3 arg4 harg4 arg6 harg6 arg7 harg7 arg10 arg11 x0 x1 x3 x4 LM LL) (aL2 i arg3 harg3 arg4 harg4 arg5 harg5 arg6 harg6 arg7 harg7 arg8 harg8 arg10 arg12 x0 x1 x2 x3 x4 x5 LM LA) (2 * (i 2).val + b.val + 1) (rix (4 * b.val) g.val) c d := by
  match b with
  | 0 =>
    have h := diag0_Q i arg3 harg3 arg4 harg4 arg5 harg5 arg6 harg6 arg7 harg7 arg8 harg8 arg10 arg11 arg12 x0 x1 x2 x3 x4 x5 hx LM LL LA (rix 0 g.val) c d (hQ _ (by omega) _)
    have e : (rix 0 g.val).val / 4 = 0 := by simp only [rix]; omega
    rw [e] at h
    refine ⟨mL1 i arg3 harg3 arg4 harg4 arg6 harg6 arg7 harg7 arg10 x0 x1 x3 x4 LM, ?_⟩
    show Q x0 x1 x2 x3 x4 x5 (2 * (i 2).val + 0) _ _ _ (2 * (i 2).val + 0 + 1) (rix 0 g.val) c d
    unfold Q at h ⊢
    have e1 : View.canon (lL2 i arg3 harg3 arg4 harg4 arg6 harg6 arg7 harg7 arg10 arg11 x0 x1 x3 x4 LM LL) (ix2 (rix 0 g.val) c) = View.canon (lL1 i arg3 harg3 arg4 harg4 arg6 harg6 arg7 harg7 arg10 arg11 x0 x1 x3 x4 LM LL) (ix2 (rix 0 g.val) c) := by
      unfold lL2
      refine rowsUp_ne _ _ _ _ 4 _ (fun m hm he => ?_) c
      have := congrArg Fin.val he
      simp only [rix] at this
      omega
    have e2 : View.canon (aL2 i arg3 harg3 arg4 harg4 arg5 harg5 arg6 harg6 arg7 harg7 arg8 harg8 arg10 arg12 x0 x1 x2 x3 x4 x5 LM LA) (ix2 d (cix (rix 0 g.val) c)) = View.canon (aL1 i arg3 harg3 arg4 harg4 arg5 harg5 arg6 harg6 arg7 harg7 arg8 harg8 arg10 arg12 x0 x1 x2 x3 x4 x5 LM LA) (ix2 d (cix (rix 0 g.val) c)) := by
      unfold aL2
      exact canon_half_ne _ _ d _ (by simp only [rix]; omega) c
    rw [e1, e2]
    exact h
  | 1 =>
    have h := diag0_Q i arg3 harg3 arg4 harg4 arg5 harg5 arg6 harg6 arg7 harg7 arg8 harg8 arg10 arg11 arg12 x0 x1 x2 x3 x4 x5 hx LM LL LA (rix 4 g.val) c d (hQ _ (by omega) _)
    have e : (rix 4 g.val).val / 4 = 1 := by simp only [rix]; omega
    rw [e] at h
    exact ⟨_, diag1_Q i arg3 harg3 arg4 harg4 arg5 harg5 arg6 harg6 arg7 harg7 arg8 harg8 arg10 arg11 arg12 x0 x1 x2 x3 x4 x5 hx LM LL LA g c d h⟩

include hx in
/-- The output block: at row `c` of query block `b`, head `g`, component `d`, the weighted mean of the values. -/
theorem out_apply (b : Fin 2) (g : Fin 4) (c : Fin 128) (d : Fin 64) (y : Fin 256) (hy : y.val = 128 * b.val + c.val) (j : Fin 256) (hj : j.val = 64 * g.val + d.val) :
    out1_A_6 (F := Ideal) c' i arg3 harg3 arg4 harg4 arg5 harg5 arg6 harg6 arg7 harg7 arg8 harg8 arg9 harg9 arg10 harg10 arg11 harg11 arg12 harg12 x0 x1 x2 x3 x4 x5 (ix3 0 y j)
      = ((vsum (thm x0 x1 x3 x4 (2 * (i 2).val + b.val) (rix (4 * b.val) g.val) c) (vj x2 d) (uj x5 c) (2 * (i 2).val + b.val + 1)
          / wsum (thm x0 x1 x3 x4 (2 * (i 2).val + b.val) (rix (4 * b.val) g.val) c) (2 * (i 2).val + b.val + 1) : ℝ) : EReal) := by
  unfold out1_A_6
  rw [View.read_writes_junk_eq_canon, run_pieces]
  have e0 : ∀ n, n = 0 → lp2 c' i arg3 harg3 arg4 harg4 arg5 harg5 arg6 harg6 arg7 harg7 arg8 harg8 arg9 harg9 arg10 harg10 arg11 harg11 arg12 harg12 x0 x1 x2 x3 x4 x5 n = ([], [], []) := by
    rintro n rfl; unfold lp2; rw [pb_k1_t2.eq_1]
  rw [e0 _ (trips2 i)]
  simp only [List.nil_append]
  obtain ⟨M, hQ⟩ := final_Q i arg3 harg3 arg4 harg4 arg5 harg5 arg6 harg6 arg7 harg7 arg8 harg8 arg10 arg11 arg12 x0 x1 x2 x3 x4 x5 hx ((lp c' i arg3 harg3 arg4 harg4 arg5 harg5 arg6 harg6 arg7 harg7 arg8 harg8 arg9 harg9 arg10 harg10 arg11 harg11 arg12 harg12 x0 x1 x2 x3 x4 x5 (k1_t1_loop i).trips).1 ++ m0) ((lp c' i arg3 harg3 arg4 harg4 arg5 harg5 arg6 harg6 arg7 harg7 arg8 harg8 arg9 harg9 arg10 harg10 arg11 harg11 arg12 harg12 x0 x1 x2 x3 x4 x5 (k1_t1_loop i).trips).2.1 ++ l0) ((lp c' i arg3 harg3 arg4 harg4 arg5 harg5 arg6 harg6 arg7 harg7 arg8 harg8 arg9 harg9 arg10 harg10 arg11 harg11 arg12 harg12 x0 x1 x2 x3 x4 x5 (k1_t1_loop i).trips).2.2 ++ a0) b g c d
    (fun qb hq t => by
      have := loop_Q c' i arg3 harg3 arg4 harg4 arg5 harg5 arg6 harg6 arg7 harg7 arg8 harg8 arg9 harg9 arg10 harg10 arg11 harg11 arg12 harg12 x0 x1 x2 x3 x4 x5 hx qb (k1_t1_loop i).trips le_rfl hq t c d
      rw [show 2 * (i 2).val = (k1_t1_loop i).trips from (trips1 i).symm]
      exact this)
  have hp : 0 < wsum (thm x0 x1 x3 x4 (2 * (i 2).val + b.val) (rix (4 * b.val) g.val) c) (2 * (i 2).val + b.val + 1) := by
    obtain ⟨z, hz⟩ := thj_real x0 x1 x2 x3 x4 x5 hx (rix (4 * b.val) g.val) c 0 0
    refine wsum_pos (j := 0) (r := 0) (t := z) (by omega) ?_
    rw [thm, if_pos (by rcases Nat.eq_zero_or_pos (2 * (i 2).val + b.val) with h | h; exact Or.inr ⟨h.symm, Nat.zero_le _⟩; exact Or.inl h), hz]
  rw [← Inv.div hQ hp]
  have hy' : (ix3 0 y j : S1x256x256.Idx) = (outRect b).emb (ix3 (0 : Fin 1) c j : S1x128x256.Idx) := by
    rw [outRect_emb]
    exact congrArg (fun y => (ix3 0 y j : S1x256x256.Idx)) (Fin.ext hy)
  rw [hy']
  refine (canon_out (fun b => fin4 (fun g => arg12.view.readCov (aL2 i arg3 harg3 arg4 harg4 arg5 harg5 arg6 harg6 arg7 harg7 arg8 harg8 arg10 arg12 x0 x1 x2 x3 x4 x5 ((lp c' i arg3 harg3 arg4 harg4 arg5 harg5 arg6 harg6 arg7 harg7 arg8 harg8 arg9 harg9 arg10 harg10 arg11 harg11 arg12 harg12 x0 x1 x2 x3 x4 x5 (k1_t1_loop i).trips).1 ++ m0) ((lp c' i arg3 harg3 arg4 harg4 arg5 harg5 arg6 harg6 arg7 harg7 arg8 harg8 arg9 harg9 arg10 harg10 arg11 harg11 arg12 harg12 x0 x1 x2 x3 x4 x5 (k1_t1_loop i).trips).2.2 ++ a0)) (colRect (rix (4 * b.val) g.val)).toLoadRect)
    (fun g => arg11.view.readCov (lL2 i arg3 harg3 arg4 harg4 arg6 harg6 arg7 harg7 arg10 arg11 x0 x1 x3 x4 ((lp c' i arg3 harg3 arg4 harg4 arg5 harg5 arg6 harg6 arg7 harg7 arg8 harg8 arg9 harg9 arg10 harg10 arg11 harg11 arg12 harg12 x0 x1 x2 x3 x4 x5 (k1_t1_loop i).trips).1 ++ m0) ((lp c' i arg3 harg3 arg4 harg4 arg5 harg5 arg6 harg6 arg7 harg7 arg8 harg8 arg9 harg9 arg10 harg10 arg11 harg11 arg12 harg12 x0 x1 x2 x3 x4 x5 (k1_t1_loop i).trips).2.1 ++ l0)) (rowRect (rix (4 * b.val) g.val)).toLoadRect)) b c j).trans ?_
  refine (fin4_apply _ _ j g d hj c).trans ?_
  exact congrArg₂ Ideal.div (readCov_col _ _ _ d c) (readCov_row _ _ _ c)

end Cert.Attn

end
-- ==== Proof.Reg1.lean ====
/- The second kernel's result: at every grid point the blocks it reads are the codes and scales of the first kernel, so that
   what it stores is the specification's real numbers. -/
module

public import proofs.«01_k».proof.Proof.Final
public import proofs.«01_k».proof.Proof.Spec
import all proofs.«01_k».proof.Proof.Gen.KernelIdeal.Frame
public import proofs.«01_k».proof.Proof.Gen.KernelIdeal.Frame
public import Idealize.ShloMosaic.Lib.Pipeline.ValueKit.Geometry

@[expose] public section

set_option maxRecDepth 16384
set_option maxHeartbeats 4000000

noncomputable section

namespace Cert.Attn

open Idealize.ShloMosaic Idealize.ShloMosaic.TcCoe Idealize.ShloMosaic.Tactic Cert.KernelIdeal Cert.KernelIdeal.Gen
open Idealize.ShloMosaic.Pipeline (Dat Cfg Window)

variable (V : (c : Dev nD) → (b : Ref sig .tc) → Buf (Elt Ideal) ((c : Thread nD τ).loc b)) (c : Dev nD)

theorem t1_lt (t : Fin cfg1.N) : t.val < 1024 := t.isLt
/-- The batch of a grid point. -/
def tb (t : Fin cfg1.N) : Fin 4 := ⟨t.val / 256, by have := t1_lt t; omega⟩
/-- Its group of heads. -/
def tk (t : Fin cfg1.N) : Fin 4 := ⟨t.val / 64 % 4, by omega⟩

theorem e1_i2 : ∀ t : Fin cfg1.N, (grid1.coords t 2).val = t.val % 64 := (by decide +kernel : ∀ t : Fin grid1.N, _)
theorem e1_6 : ∀ t : Fin cfg1.N, win1_6.index t = ![t.val / 256, t.val % 64, t.val / 64 % 4] := (by decide +kernel : ∀ t : Fin grid1.N, _)
theorem e1_0 : ∀ t : Fin cfg1.N, win1_0.index t = ![t.val / 256, t.val / 64 % 4, 0, t.val % 64] := (by decide +kernel : ∀ t : Fin grid1.N, _)
theorem e1_1 : ∀ t : Fin cfg1.N, win1_1.index t = ![t.val / 256, t.val / 64 % 4, 0, 0] := (by decide +kernel : ∀ t : Fin grid1.N, _)
theorem e1_2 : ∀ t : Fin cfg1.N, win1_2.index t = ![t.val / 256, t.val / 64 % 4, 0, 0] := (by decide +kernel : ∀ t : Fin grid1.N, _)
theorem e1_3 : ∀ t : Fin cfg1.N, win1_3.index t = ![t.val / 256, t.val / 64 % 4, t.val % 64, 0] := (by decide +kernel : ∀ t : Fin grid1.N, _)
theorem e1_4 : ∀ t : Fin cfg1.N, win1_4.index t = ![t.val / 256, t.val / 64 % 4, 0, 0] := (by decide +kernel : ∀ t : Fin grid1.N, _)
theorem e1_5 : ∀ t : Fin cfg1.N, win1_5.index t = ![t.val / 256, t.val / 64 % 4, 0, 0] := (by decide +kernel : ∀ t : Fin grid1.N, _)

theorem rd0 (t : Fin cfg1.N) (d : Fin 64) (l : Fin 1024) : iblk1 V c 0 t (ix4 0 0 d l) = V c main_v0_6 (ix4 (tb t) (tk t) d ⟨1024 * (t.val % 64) + l.val, by omega⟩) := by
  blk_simp [iblk1, e1_0]
  refine congrArg (V c main_v0_6) ?_
  blk_ext [e1_0]
  all_goals (simp only [ix4, tb, tk]; omega)

theorem rd1 (t : Fin cfg1.N) (p : Fin 16384) (d : Fin 64) : iblk1 V c 1 t (ix4 0 0 p d) = V c main_v0_7 (ix4 (tb t) (tk t) p d) := by
  blk_simp [iblk1, e1_1]
  refine congrArg (V c main_v0_7) ?_
  blk_ext [e1_1]
  all_goals (simp only [ix4, tb, tk]; omega)

theorem rd2 (t : Fin cfg1.N) (d : Fin 64) (p : Fin 16384) : iblk1 V c 2 t (ix4 0 0 d p) = V c main_v0_8 (ix4 (tb t) (tk t) d p) := by
  blk_simp [iblk1, e1_2]
  refine congrArg (V c main_v0_8) ?_
  blk_ext [e1_2]
  all_goals (simp only [ix4, tb, tk]; omega)

theorem rd3 (t : Fin cfg1.N) (l : Fin 8) (r : Fin 128) : iblk1 V c 3 t (ix4 0 0 l r) = V c main_v15 (ix4 (tb t) (tk t) ⟨8 * (t.val % 64) + l.val, by omega⟩ r) := by
  blk_simp [iblk1, e1_3]
  refine congrArg (V c main_v15) ?_
  blk_ext [e1_3]
  all_goals (simp only [ix4, tb, tk]; omega)

theorem rd4 (t : Fin cfg1.N) (j : Fin 128) (r : Fin 128) : iblk1 V c 4 t (ix4 0 0 j r) = V c main_v18 (ix4 (tb t) (tk t) j r) := by
  blk_simp [iblk1, e1_4]
  refine congrArg (V c main_v18) ?_
  blk_ext [e1_4]
  all_goals (simp only [ix4, tb, tk]; omega)

theorem rd5 (t : Fin cfg1.N) (j : Fin 128) (r : Fin 128) : iblk1 V c 5 t (ix4 0 0 j r) = V c main_v21 (ix4 (tb t) (tk t) j r) := by
  blk_simp [iblk1, e1_5]
  refine congrArg (V c main_v21) ?_
  blk_ext [e1_5]
  all_goals (simp only [ix4, tb, tk]; omega)

/-- What the second kernel finds in its inputs. -/
structure Ins (X : S4x16384x1024.Idx → EReal) (K U : S4x16384x256.Idx → EReal) : Prop where
  q : ∀ (b h : Fin 4) (d : Fin 64) (p : Fin 65536), V c main_v0_6 (ix4 b h d p) = cod (famq X b ⟨p.val / 512, by omega⟩ (hq h ⟨p.val / 128 % 4, by omega⟩)) ⟨p.val % 128, by omega⟩ d
  k : ∀ (b h : Fin 4) (p : Fin 16384) (d : Fin 64), V c main_v0_7 (ix4 b h p d) = cod (famk K b ⟨p.val / 128, by omega⟩ h) ⟨p.val % 128, by omega⟩ d
  v : ∀ (b h : Fin 4) (d : Fin 64) (p : Fin 16384), V c main_v0_8 (ix4 b h d p) = cod (famk U b ⟨p.val / 128, by omega⟩ h) ⟨p.val % 128, by omega⟩ d
  cq : ∀ (b h : Fin 4) (l : Fin 512) (r : Fin 128), (V c main_v15 (ix4 b h l r) : EReal) = (kScl (famq X b ⟨l.val / 4, by omega⟩ (hq h ⟨l.val % 4, by omega⟩)) : EReal) * ((lit : ℝ) : EReal)
  ks : ∀ (b h : Fin 4) (j r : Fin 128), V c main_v18 (ix4 b h j r) = kScl (famk K b j h)
  vs : ∀ (b h : Fin 4) (j r : Fin 128), V c main_v21 (ix4 b h j r) = kScl (famk U b j h)

variable {V c} {X : S4x16384x1024.Idx → EReal} {K U : S4x16384x256.Idx → EReal} (hI : Ins V c X K U) (hX : Bx X) (hK : Bx K) (hU : Bx U)
include hI

include hX in
theorem r0 (t : Fin cfg1.N) (d : Fin 64) (l : Fin 1024) : iblk1 V c 0 t (ix4 0 0 d l) = ((qcd (famq X (tb t) ⟨2 * (t.val % 64) + l.val / 512, by omega⟩ (hq (tk t) ⟨l.val / 128 % 4, by omega⟩)) ⟨l.val % 128, by omega⟩ d : ℝ) : EReal) := by
  rw [rd0, hI.q, (hX.q _ _ _).cod]
  have e1 : (1024 * (t.val % 64) + l.val) / 512 = 2 * (t.val % 64) + l.val / 512 := by omega
  have e2 : (1024 * (t.val % 64) + l.val) / 128 % 4 = l.val / 128 % 4 := by omega
  have e3 : (1024 * (t.val % 64) + l.val) % 128 = l.val % 128 := by omega
  simp only [e1, e2, e3]

include hK in
theorem r1 (t : Fin cfg1.N) (p : Fin 16384) (d : Fin 64) : iblk1 V c 1 t (ix4 0 0 p d) = ((qcd (famk K (tb t) ⟨p.val / 128, by omega⟩ (tk t)) ⟨p.val % 128, by omega⟩ d : ℝ) : EReal) := by
  rw [rd1, hI.k, (hK.k _ _ _).cod]

include hU in
theorem r2 (t : Fin cfg1.N) (d : Fin 64) (p : Fin 16384) : iblk1 V c 2 t (ix4 0 0 d p) = ((qcd (famk U (tb t) ⟨p.val / 128, by omega⟩ (tk t)) ⟨p.val % 128, by omega⟩ d : ℝ) : EReal) := by
  rw [rd2, hI.v, (hU.k _ _ _).cod]

include hX in
theorem r3 (t : Fin cfg1.N) (l : Fin 8) (r : Fin 128) : iblk1 V c 3 t (ix4 0 0 l r) = ((qsc (famq X (tb t) ⟨2 * (t.val % 64) + l.val / 4, by omega⟩ (hq (tk t) ⟨l.val % 4, by omega⟩)) * lit : ℝ) : EReal) := by
  rw [rd3, hI.cq, (hX.q _ _ _).scl, ← EReal.coe_mul]
  have e1 : (8 * (t.val % 64) + l.val) / 4 = 2 * (t.val % 64) + l.val / 4 := by omega
  have e2 : (8 * (t.val % 64) + l.val) % 4 = l.val % 4 := by omega
  simp only [e1, e2]

include hK in
theorem r4 (t : Fin cfg1.N) (j r : Fin 128) : iblk1 V c 4 t (ix4 0 0 j r) = ((qsc (famk K (tb t) j (tk t)) : ℝ) : EReal) := by
  rw [rd4, hI.ks, (hK.k _ _ _).scl]

include hU in
theorem r5 (t : Fin cfg1.N) (j r : Fin 128) : iblk1 V c 5 t (ix4 0 0 j r) = ((qsc (famk U (tb t) j (tk t)) : ℝ) : EReal) := by
  rw [rd5, hI.vs, (hU.k _ _ _).scl]

omit hI in
theorem ix4_unit {n m : ℕ} (y : (⟨4, ![1, 1, n, m]⟩ : Shape).Idx) : y = ix4 0 0 (⟨(y 2).val, (y 2).isLt⟩ : Fin n) (⟨(y 3).val, (y 3).isLt⟩ : Fin m) := by
  funext a; apply Fin.ext
  match a with
  | 0 => show (y 0).val = 0; have : (y 0).val < 1 := (y 0).isLt; omega
  | 1 => show (y 1).val = 0; have : (y 1).val < 1 := (y 1).isLt; omega
  | 2 => rfl
  | 3 => rfl

include hX hK hU in
theorem reals (t : Fin cfg1.N) : Reals (iblk1 V c 0 t) (iblk1 V c 1 t) (iblk1 V c 2 t) (iblk1 V c 3 t) (iblk1 V c 4 t) (iblk1 V c 5 t) where
  h0 y := ⟨_, (congrArg (iblk1 V c 0 t) (ix4_unit y)).trans (r0 hI hX t _ _)⟩
  h1 y := ⟨_, (congrArg (iblk1 V c 1 t) (ix4_unit y)).trans (r1 hI hK t _ _)⟩
  h2 y := ⟨_, (congrArg (iblk1 V c 2 t) (ix4_unit y)).trans (r2 hI hU t _ _)⟩
  h3 y := ⟨_, (congrArg (iblk1 V c 3 t) (ix4_unit y)).trans (r3 hI hX t _ _)⟩
  h4 y := ⟨_, (congrArg (iblk1 V c 4 t) (ix4_unit y)).trans (r4 hI hK t _ _)⟩
  h5 y := ⟨_, (congrArg (iblk1 V c 5 t) (ix4_unit y)).trans (r5 hI hU t _ _)⟩

include hX hK in
theorem thj_eq (t : Fin cfg1.N) (b : Fin 2) (g : Fin 4) (cc : Fin 128) (j : ℕ) (r : Fin 128) :
    thj (iblk1 V c 0 t) (iblk1 V c 1 t) (iblk1 V c 3 t) (iblk1 V c 4 t) (rix (4 * b.val) g.val) cc j r
      = ((th1 X K (tb t) (tk t) g ⟨2 * (t.val % 64) + b.val, by omega⟩ cc (bix j) r : ℝ) : EReal) := by
  have hr : (rix (4 * b.val) g.val).val = 4 * b.val + g.val := by show (4 * b.val + g.val) % 8 = _; omega
  have hs : (∑ x : Fin 64, HMul.hMul (α := EReal) (β := EReal) (γ := EReal) (iblk1 V c 1 t (ix4 0 0 (kix j r) x)) (iblk1 V c 0 t (ix4 0 0 x (cix (rix (4 * b.val) g.val) cc))))
      = ((∑ x : Fin 64, qcd (famk K (tb t) (bix j) (tk t)) r x * qcd (famq X (tb t) ⟨2 * (t.val % 64) + b.val, by omega⟩ (hq (tk t) g)) cc x : ℝ) : EReal) := by
    rw [coe_sum]
    refine Finset.sum_congr rfl fun x _ => ?_
    rw [r0 hI hX, r1 hI hK, ← EReal.coe_mul]
    have hc : (cix (rix (4 * b.val) g.val) cc).val = 128 * (4 * b.val + g.val) + cc.val := by show 128 * (rix (4 * b.val) g.val).val + cc.val = _; rw [hr]
    have hkv : (kix j r).val = 128 * (j % 128) + r.val := rfl
    have a1 : (⟨(kix j r).val / 128, by omega⟩ : Fin 128) = bix j := Fin.ext (by show (kix j r).val / 128 = j % 128; omega)
    have a2 : (⟨(kix j r).val % 128, by omega⟩ : Fin 128) = r := Fin.ext (by show (kix j r).val % 128 = r.val; omega)
    have a3 : (⟨2 * (t.val % 64) + (cix (rix (4 * b.val) g.val) cc).val / 512, by omega⟩ : Fin 128) = ⟨2 * (t.val % 64) + b.val, by omega⟩ := Fin.ext (by show 2 * (t.val % 64) + (cix (rix (4 * b.val) g.val) cc).val / 512 = 2 * (t.val % 64) + b.val; omega)
    have a4 : (⟨(cix (rix (4 * b.val) g.val) cc).val / 128 % 4, by omega⟩ : Fin 4) = g := Fin.ext (by show (cix (rix (4 * b.val) g.val) cc).val / 128 % 4 = g.val; omega)
    have a5 : (⟨(cix (rix (4 * b.val) g.val) cc).val % 128, by omega⟩ : Fin 128) = cc := Fin.ext (by show (cix (rix (4 * b.val) g.val) cc).val % 128 = cc.val; omega)
    rw [a1, a2, a3, a4, a5]
  unfold thj
  refine (congrArg (fun s => thAt s _ _) hs).trans ?_
  unfold thAt
  rw [r3 hI hX, r4 hI hK, ← EReal.coe_mul, ← EReal.coe_mul, Ideal.tanh_coe]
  have b1 : (⟨2 * (t.val % 64) + (rix (4 * b.val) g.val).val / 4, by omega⟩ : Fin 128) = ⟨2 * (t.val % 64) + b.val, by omega⟩ := Fin.ext (by show 2 * (t.val % 64) + (rix (4 * b.val) g.val).val / 4 = 2 * (t.val % 64) + b.val; omega)
  have b2 : (⟨(rix (4 * b.val) g.val).val % 4, by omega⟩ : Fin 4) = g := Fin.ext (by show (rix (4 * b.val) g.val).val % 4 = g.val; omega)
  rw [b1, b2]
  rfl

include hX hK hU in
/-- What the second kernel stores at a grid point. -/
theorem out_blk (t : Fin cfg1.N) (b : Fin 2) (g : Fin 4) (cc : Fin 128) (d : Fin 64) (y : Fin 256) (hy : y.val = 128 * b.val + cc.val) (j : Fin 256) (hj : j.val = 64 * g.val + d.val) :
    outsAt1 V c t (ix3 0 y j) = ((yv X K U (tb t) (tk t) g ⟨2 * (t.val % 64) + b.val, by omega⟩ cc d : ℝ) : EReal) := by
  unfold outsAt1
  refine (out_apply (hx := reals hI hX hK hU t) (b := b) (g := g) (c := cc) (d := d) (y := y) (hy := hy) (j := j) (hj := hj) ..).trans ?_
  have et : thm (iblk1 V c 0 t) (iblk1 V c 1 t) (iblk1 V c 3 t) (iblk1 V c 4 t) (2 * (t.val % 64) + b.val) (rix (4 * b.val) g.val) cc
      = th X K (tb t) (tk t) g ⟨2 * (t.val % 64) + b.val, by omega⟩ cc := by
    funext k r
    unfold thm th
    rw [thj_eq hI hX hK]
  have ev : vj (iblk1 V c 2 t) d = vv U (tb t) (tk t) d := by
    funext k r
    unfold vj vv
    have hkv : (kix k r).val = 128 * (k % 128) + r.val := rfl
    have a1 : (⟨(kix k r).val / 128, by omega⟩ : Fin 128) = bix k := Fin.ext (by show (kix k r).val / 128 = k % 128; omega)
    have a2 : (⟨(kix k r).val % 128, by omega⟩ : Fin 128) = r := Fin.ext (by show (kix k r).val % 128 = r.val; omega)
    rw [r2 hI hU, a1, a2]
    rfl
  have eu : uj (iblk1 V c 5 t) cc = uu U (tb t) (tk t) := by
    funext k
    unfold uj uu
    rw [r5 hI hU]
    rfl
  rw [e1_i2, et, ev, eu]
  rfl

include hX hK hU in
/-- The result array. -/
theorem arr_y : (dat1 V c).arrAt 6 cfg1.N = (fun p : S4x16384x1024.Idx =>
    ((yv X K U ⟨(p 0).val, (p 0).isLt⟩ ⟨(p 2).val / 256, by have : (p 2).val < 1024 := (p 2).isLt; omega⟩ ⟨(p 2).val / 64 % 4, by omega⟩
      ⟨(p 1).val / 128, by have : (p 1).val < 16384 := (p 1).isLt; omega⟩ ⟨(p 1).val % 128, by omega⟩ ⟨(p 2).val % 64, by omega⟩ : ℝ) : EReal)) := by
  refine Dat.arrAt_eq_of_covers _ 6 _ (by decide +kernel) fun t hf y => ?_
  blk_simp [e1_6]
  rw [after1_6]
  have ey : y = ix3 0 (y 1) (y 2) := by
    funext a; apply Fin.ext
    match a with
    | 0 => show (y 0).val = 0; have : (y 0).val < 1 := (y 0).isLt; omega
    | 1 => rfl
    | 2 => rfl
  have h1 : (y 1).val < 256 := (y 1).isLt
  have h2 : (y 2).val < 256 := (y 2).isLt
  have ht := t1_lt t
  refine (congrArg (outsAt1 V c t) ey).trans ((out_blk hI hX hK hU t ⟨(y 1).val / 128, by omega⟩ ⟨(y 2).val / 64, by omega⟩ ⟨(y 1).val % 128, by omega⟩ ⟨(y 2).val % 64, by omega⟩ (y 1)
    (by show (y 1).val = 128 * ((y 1).val / 128) + (y 1).val % 128; omega) (y 2) (by show (y 2).val = 64 * ((y 2).val / 64) + (y 2).val % 64; omega)).trans ?_)
  have a1 : (t.val / 64 % 4 * 256 + (y 2).val) / 256 = t.val / 64 % 4 := by omega
  have a2 : (t.val / 64 % 4 * 256 + (y 2).val) / 64 % 4 = (y 2).val / 64 := by omega
  have a3 : (t.val / 64 % 4 * 256 + (y 2).val) % 64 = (y 2).val % 64 := by omega
  have a4 : (t.val % 64 * 256 + (y 1).val) / 128 = 2 * (t.val % 64) + (y 1).val / 128 := by omega
  have a5 : (t.val % 64 * 256 + (y 1).val) % 128 = (y 1).val % 128 := by omega
  simp only [a1, a2, a3, a4, a5]
  rfl

end Cert.Attn

end
-- ==== Proof.Host.lean ====
/- What the host operations between the two kernels hand to the second: the rows of scales. -/
module

public import proofs.«01_k».proof.Proof.QuantT
import all proofs.«01_k».proof.Proof.Gen.KernelIdeal.Frame
public import proofs.«01_k».proof.Proof.Gen.KernelIdeal.Frame

@[expose] public section

set_option maxRecDepth 16384
set_option maxHeartbeats 4000000

noncomputable section

namespace Cert.Attn

open Idealize.ShloMosaic Idealize.ShloMosaic.TcCoe Idealize.ShloMosaic.Tactic Idealize.ShloMosaic.StableHlo Cert.KernelIdeal Cert.KernelIdeal.Gen

variable (Wv : Valuation τ sig (Elt Ideal))

theorem host15 : StableHlo.after hostOps1 Wv (Proc.devRef .tc main_v15) =
    broadcastInDim S4x4x512x128 ![0, 1, 2, 3] bcast_S4x4x512x1_S4x4x512x128_0_1_2_3
      (shapeCast S4x4x512x1 (transpose S4x4x128x4 [0, 2, 1, 3] (shapeCast S4x128x4x4 (mulf (F := Ideal) (φ := .f32)
        (shapeCast S4x128x16 (extractStridedSlice S4x128x16x1 ![0, 0, 0, 0] (shapeCast S4x128x16x64 (Wv (Proc.devRef .tc main_v0_1)) shapeCasts_S512x1x1024_S4x128x16x64) slices_S4x128x16x64_S4x128x16x1_0_0_0_0) shapeCasts_S4x128x16x1_S4x128x16)
        (broadcastInDim S4x128x16 ![] bcast_S_S4x128x16 (constant (F := Ideal) S_ .f32 0x3B23D70A#32))) shapeCasts_S4x128x16_S4x128x4x4)
          transposes_S4x128x4x4_S4x4x128x4_0_2_1_3) shapeCasts_S4x4x128x4_S4x4x512x1) := by
  unfold hostOps1
  after_results
  rfl

theorem host18 : StableHlo.after hostOps1 Wv (Proc.devRef .tc main_v18) =
    broadcastInDim S4x4x128x128 ![0, 1, 2, 3] bcast_S4x4x128x1_S4x4x128x128_0_1_2_3
      (transpose S4x4x128x1 [0, 2, 1, 3] (shapeCast S4x128x4x1
        (shapeCast S4x128x4 (extractStridedSlice S4x128x4x1 ![0, 0, 0, 0] (shapeCast S4x128x4x64 (Wv (Proc.devRef .tc main_v0_3)) shapeCasts_S512x1x256_S4x128x4x64) slices_S4x128x4x64_S4x128x4x1_0_0_0_0) shapeCasts_S4x128x4x1_S4x128x4)
        shapeCasts_S4x128x4_S4x128x4x1) transposes_S4x128x4x1_S4x4x128x1_0_2_1_3) := by
  unfold hostOps1
  after_results
  rfl

theorem host21 : StableHlo.after hostOps1 Wv (Proc.devRef .tc main_v21) =
    broadcastInDim S4x4x128x128 ![0, 1, 2, 3] bcast_S4x4x128x1_S4x4x128x128_0_1_2_3
      (transpose S4x4x128x1 [0, 2, 1, 3] (shapeCast S4x128x4x1
        (shapeCast S4x128x4 (extractStridedSlice S4x128x4x1 ![0, 0, 0, 0] (shapeCast S4x128x4x64 (Wv (Proc.devRef .tc main_v0_5)) shapeCasts_S512x1x256_S4x128x4x64) slices_S4x128x4x64_S4x128x4x1_0_0_0_0) shapeCasts_S4x128x4x1_S4x128x4)
        shapeCasts_S4x128x4_S4x128x4x1) transposes_S4x128x4x1_S4x4x128x1_0_2_1_3) := by
  unfold hostOps1
  after_results
  rfl

/-- A row of key scales. -/
theorem host18_apply (b h : Fin 4) (j r : Fin 128) :
    StableHlo.after hostOps1 Wv (Proc.devRef .tc main_v18) (ix4 b h j r) = Wv (Proc.devRef .tc main_v0_3) (ix3 (⟨128 * b.val + j.val, by omega⟩ : Fin 512) (0 : Fin 1) (⟨64 * h.val, by omega⟩ : Fin 256)) := by
  rw [host18]
  generalize Wv (Proc.devRef .tc main_v0_3) = z
  pointwise
  simp only [Nat.mul_comm]

/-- A row of value scales. -/
theorem host21_apply (b h : Fin 4) (j r : Fin 128) :
    StableHlo.after hostOps1 Wv (Proc.devRef .tc main_v21) (ix4 b h j r) = Wv (Proc.devRef .tc main_v0_5) (ix3 (⟨128 * b.val + j.val, by omega⟩ : Fin 512) (0 : Fin 1) (⟨64 * h.val, by omega⟩ : Fin 256)) := by
  rw [host21]
  generalize Wv (Proc.devRef .tc main_v0_5) = z
  pointwise
  simp only [Nat.mul_comm]

/-- A row of query scales, times the literal of the score's scale over the cap. -/
theorem host15_apply (b h : Fin 4) (l : Fin 512) (r : Fin 128) :
    StableHlo.after hostOps1 Wv (Proc.devRef .tc main_v15) (ix4 b h l r)
      = HMul.hMul (α := EReal) (β := EReal) (γ := EReal) (Wv (Proc.devRef .tc main_v0_1) (ix3 (⟨128 * b.val + l.val / 4, by omega⟩ : Fin 512) (0 : Fin 1) (⟨64 * (4 * h.val + l.val % 4), by omega⟩ : Fin 1024))) (Ideal.ofBits .f32 0x3B23D70A#32) := by
  rw [host15]
  generalize Wv (Proc.devRef .tc main_v0_1) = z
  pointwise
  simp only [Nat.mul_comm]

end Cert.Attn

end
-- ==== Proof.Val.lean ====
/- The whole kernel's run: its result array ends holding the specification's real numbers of its three arguments. -/
module

public import proofs.«01_k».proof.Proof.Arr0
public import proofs.«01_k».proof.Proof.Reg1
public import proofs.«01_k».proof.Proof.Host
import all proofs.«01_k».proof.Proof.Gen.KernelIdeal.Frame
public import proofs.«01_k».proof.Proof.Gen.KernelIdeal.Frame

@[expose] public section

set_option maxRecDepth 16384
set_option maxHeartbeats 4000000

noncomputable section

namespace Cert.Attn

open Idealize.ShloMosaic Idealize.ShloMosaic.TcCoe Idealize.ShloMosaic.Tactic Cert.KernelIdeal Cert.KernelIdeal.Gen
open Idealize.ShloMosaic.Pipeline (Dat Cfg Window)

variable (m : (ℓ : Loc nD τ sig) → Buf (Elt Ideal) ℓ) (ρ : Dev nD → PrngReg) (c : Dev nD)

theorem kScl_congrq {x : S4x16384x1024.Idx → EReal} {b b' : Fin 4} {n n' : Fin 128} {h h' : Fin 16} (hb : b.val = b'.val) (hn : n.val = n'.val) (hh : h.val = h'.val) :
    kScl (famq x b n h) = kScl (famq x b' n' h') := by
  rw [Fin.ext hb, Fin.ext hn, Fin.ext hh]

theorem kScl_congrk {x : S4x16384x256.Idx → EReal} {b b' : Fin 4} {n n' : Fin 128} {h h' : Fin 4} (hb : b.val = b'.val) (hn : n.val = n'.val) (hh : h.val = h'.val) :
    kScl (famk x b n h) = kScl (famk x b' n' h') := by
  rw [Fin.ext hb, Fin.ext hn, Fin.ext hh]

theorem w6 : V2 m ρ c main_v0_6 = (dat0 (V0 m ρ) c).arrAt 9 cfg0.N := (W2_of m ρ c main_v0_6 (by decide)).trans (W1_arr m ρ c 9)
theorem w7 : V2 m ρ c main_v0_7 = (dat0 (V0 m ρ) c).arrAt 10 cfg0.N := (W2_of m ρ c main_v0_7 (by decide)).trans (W1_arr m ρ c 10)
theorem w8 : V2 m ρ c main_v0_8 = (dat0 (V0 m ρ) c).arrAt 11 cfg0.N := (W2_of m ρ c main_v0_8 (by decide)).trans (W1_arr m ρ c 11)

/-- The second kernel finds the codes and scales of the three arguments. -/
theorem ins : Ins (V2 m ρ) c (V0 m ρ c main_arg0) (V0 m ρ c main_arg1) (V0 m ρ c main_arg2) where
  q b h d p := by rw [w6, arr9]; rfl
  k b h p d := by rw [w7, arr10]; rfl
  v b h d p := by rw [w8, arr11]; rfl
  cq b h l r := by
    refine (host15_apply (W1 m ρ c) b h l r).trans ?_
    rw [lit_kernel]
    refine congrArg (fun z : EReal => z * ((lit : ℝ) : EReal)) ?_
    refine (congrFun ((W1_arr m ρ c 4).trans (arr4 (V0 m ρ) c)) _).trans (kScl_congrq ?_ ?_ ?_)
    · show (128 * b.val + l.val / 4) / 128 = b.val; omega
    · show (128 * b.val + l.val / 4) % 128 = l.val / 4; omega
    · show 64 * (4 * h.val + l.val % 4) / 64 = 4 * h.val + l.val % 4; omega
  ks b h j r := by
    refine (host18_apply (W1 m ρ c) b h j r).trans ?_
    refine (congrFun ((W1_arr m ρ c 6).trans (arr6 (V0 m ρ) c)) _).trans (kScl_congrk ?_ ?_ ?_)
    · show (128 * b.val + j.val) / 128 = b.val; omega
    · show (128 * b.val + j.val) % 128 = j.val; omega
    · show 64 * h.val / 64 = h.val; omega
  vs b h j r := by
    refine (host21_apply (W1 m ρ c) b h j r).trans ?_
    refine (congrFun ((W1_arr m ρ c 8).trans (arr8 (V0 m ρ) c)) _).trans (kScl_congrk ?_ ?_ ?_)
    · show (128 * b.val + j.val) / 128 = b.val; omega
    · show (128 * b.val + j.val) % 128 = j.val; omega
    · show 64 * h.val / 64 = h.val; omega

/-- The specification's result as an array. -/
def yarr (X : S4x16384x1024.Idx → EReal) (K U : S4x16384x256.Idx → EReal) : S4x16384x1024.Idx → EReal := fun p =>
    ((yv X K U ⟨(p 0).val, (p 0).isLt⟩ ⟨(p 2).val / 256, by have : (p 2).val < 1024 := (p 2).isLt; omega⟩ ⟨(p 2).val / 64 % 4, by omega⟩
      ⟨(p 1).val / 128, by have : (p 1).val < 16384 := (p 1).isLt; omega⟩ ⟨(p 1).val % 128, by omega⟩ ⟨(p 2).val % 64, by omega⟩ : ℝ) : EReal)

/-- The kernel's result array at its end. -/
theorem w22 (hX : Bx (s := S4x16384x1024) (m ((c : Thread nD τ).loc main_arg0))) (hK : Bx (s := S4x16384x256) (m ((c : Thread nD τ).loc main_arg1))) (hU : Bx (s := S4x16384x256) (m ((c : Thread nD τ).loc main_arg2))) :
    W3 m ρ c (Proc.devRef .tc main_v22) = yarr (m ((c : Thread nD τ).loc main_arg0)) (m ((c : Thread nD τ).loc main_arg1)) (m ((c : Thread nD τ).loc main_arg2)) :=
  (W3_arr m ρ c 6).trans (arr_y (ins m ρ c) hX hK hU)

end Cert.Attn

namespace Cert.KernelIdeal.Gen

open Idealize.ShloMosaic Idealize.ShloMosaic.TcCoe Idealize.ShloMosaic.Tactic Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F] (m : (ℓ : Loc nD τ sig) → Buf (Elt F) ℓ) (ρ : Dev nD → PrngReg)

set_option backward.isDefEq.respectTransparency.types false in
/-- The run of the kernel read at its result: it ends at the last boundary's contents, the arguments unchanged. -/
theorem value : θ_run defs (onTc (τ := τ) (main (F := F))) ⟨m, fun _ => 0, ρ⟩ (fun r => ∀ c : Dev nD,
      r.2.mem ((c.tc : Thread nD τ).loc main_v22) = W3 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨h c _ (mem_uc main_v22 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.Gen

end
-- ==== Proof.RefQ.lean ====
/- The quantiser of the reference, read at an element: the codes and scales of the queries, keys and values are the real
   numbers of Scal.lean. -/
module

public import proofs.«01_k».proof.Proof.Spec
import all proofs.«01_k».proof.Proof.Gen.ReferenceIdeal.Read
public import proofs.«01_k».proof.Proof.Gen.ReferenceIdeal.Read

@[expose] public section

set_option maxRecDepth 16384
set_option maxHeartbeats 4000000

noncomputable section

namespace Cert.Attn

open Idealize.ShloMosaic Cert.ReferenceIdeal Cert.ReferenceIdeal.Gen Cert.ReferenceIdeal.Read

theorem ninf : Ideal.ofBits .f32 0xFF800000#32 = ⊥ := by simp [Ideal.ofBits, Ideal.ieee]

theorem ofb (w : BitVec 32) : (FloatOps.ofBits (F := Ideal) .f32 w : EReal) = Ideal.ofBits .f32 w := rfl

theorem fold_sup {ι : Type} [Fintype ι] (z : EReal) (f : ι → EReal) (hz : z = ⊥) : Finset.univ.fold max z f = Finset.univ.sup f := by
  rw [hz]; rfl

theorem abs_val (x y : EReal) (h : x = y) : (FloatOps.hostAbsf (F := Ideal) (φ := .f32) x : EReal) = max y (-y) := by
  rw [h]; rfl

theorem amx_sup (f : Fin 128 → Fin 64 → EReal) : amx f = Finset.univ.sup fun d : Fin 64 => Finset.univ.sup fun r : Fin 128 => max (f r d) (-(f r d)) := by
  refine eq_of_forall_ge_iff fun B => ?_
  rw [amx_le]
  simp only [Finset.sup_le_iff, Finset.mem_univ, true_implies]
  exact ⟨fun h d r => h r d, fun h r d => h d r⟩

/-- An element of the q block. -/
theorem rq_val (x : (⟨S4x16384x1024, .bf16⟩ : BufTy).Contents (Elt Ideal)) (i : S4x128x128x16x64.Idx) : val_main_v1 (F := Ideal) x i = (famq x ⟨(i 0).val, (i 0).isLt⟩ ⟨(i 1).val, (i 1).isLt⟩ ⟨(i 3).val, (i 3).isLt⟩) ⟨(i 2).val, (i 2).isLt⟩ ⟨(i 4).val, (i 4).isLt⟩ := by
  rw [val_main_v1_apply, val_main_v0_apply]
  show x (idx_main_v1 i) = famq x _ _ _ _ _
  unfold famq
  congr 1
  funext a; apply Fin.ext
  have h0 : (i 0).val < 4 := (i 0).isLt
  have h1 : (i 1).val < 128 := (i 1).isLt
  have h2 : (i 2).val < 128 := (i 2).isLt
  have h3 : (i 3).val < 16 := (i 3).isLt
  have h4 : (i 4).val < 64 := (i 4).isLt
  match a with
  | 0 => show _ = (i 0).val; dsimp only [idx_main_v1]; omega
  | 1 => show _ = 128 * (i 1).val + (i 2).val; dsimp only [idx_main_v1]; omega
  | 2 => show _ = 64 * (i 3).val + (i 4).val; dsimp only [idx_main_v1]; omega

theorem rq_max1 (x : (⟨S4x16384x1024, .bf16⟩ : BufTy).Contents (Elt Ideal)) (i : S4x128x1x16x64.Idx) :
    val_main_v4 (F := Ideal) x i = Finset.univ.sup fun r : Fin 128 => max ((famq x ⟨(i 0).val, (i 0).isLt⟩ ⟨(i 1).val, (i 1).isLt⟩ ⟨(i 3).val, (i 3).isLt⟩) r ⟨(i 4).val, (i 4).isLt⟩) (-((famq x ⟨(i 0).val, (i 0).isLt⟩ ⟨(i 1).val, (i 1).isLt⟩ ⟨(i 3).val, (i 3).isLt⟩) r ⟨(i 4).val, (i 4).isLt⟩)) := by
  rw [val_main_v4_apply]
  have e : val_main_v3 (F := Ideal) x = Host.reduce (max : EReal → EReal → EReal) (val_main_v2 (F := Ideal) x) (val_main_cst (F := Ideal)) reducesTo_S4x128x128x16x64_S4x128x16x64_d2 h_S_ := rfl
  rw [e, Host.reduce_eq_fold_single _ _ _ _ (by decide : S4x128x128x16x64.Reduces [2] S4x128x16x64)]
  refine (fold_sup _ _ ninf).trans ?_
  refine Finset.sup_congr rfl fun r _ => ?_
  refine (abs_val _ _ (rq_val x _)).trans ?_
  rfl

/-- The largest absolute value of a q block. -/
theorem rq_amx (x : (⟨S4x16384x1024, .bf16⟩ : BufTy).Contents (Elt Ideal)) (i : S4x128x1x16x1.Idx) : val_main_v6 (F := Ideal) x i = amx (famq x ⟨(i 0).val, (i 0).isLt⟩ ⟨(i 1).val, (i 1).isLt⟩ ⟨(i 3).val, (i 3).isLt⟩) := by
  rw [val_main_v6_apply]
  have e : val_main_v5 (F := Ideal) x = Host.reduce (max : EReal → EReal → EReal) (val_main_v4 (F := Ideal) x) (val_main_cst_0 (F := Ideal)) reducesTo_S4x128x1x16x64_S4x128x1x16_d4 h_S_ := rfl
  rw [e, Host.reduce_eq_fold_single _ _ _ _ (by decide : S4x128x1x16x64.Reduces [4] S4x128x1x16), amx_sup]
  refine (fold_sup _ _ ninf).trans ?_
  refine Finset.sup_congr rfl fun d _ => ?_
  rw [Function.comp_apply, rq_max1]
  rfl

theorem rq_exp (x : (⟨S4x16384x1024, .bf16⟩ : BufTy).Contents (Elt Ideal)) (i : S4x128x1x16x1.Idx) : val_main_v18 (F := Ideal) x i = rexp (amx (famq x ⟨(i 0).val, (i 0).isLt⟩ ⟨(i 1).val, (i 1).isLt⟩ ⟨(i 3).val, (i 3).isLt⟩) * ((c448 : ℝ) : EReal)) := by
  rw [← rq_amx, ← ofBits_c448]
  rw [val_main_v18_apply, val_main_v17_apply, val_main_v16_apply, val_main_cst_4_apply, val_main_v15_apply, val_main_v14_apply, val_main_cst_3_apply, val_main_v13_apply, val_main_v12_apply, val_main_v9_apply, val_main_v8_apply, val_main_v7_apply, val_main_cst_1_apply, val_main_v11_apply, val_main_v10_apply, val_main_cst_2_apply, val_main_call0_v1_apply, val_main_call0_v0_apply, val_main_cst_5_apply, ofb, ofb, ofb, ofb, ofb]
  unfold rexp
  generalize val_main_v6 (F := Ideal) x i = a
  generalize Ideal.ofBits .f32 0x3B124925#32 = c1
  generalize Ideal.ofBits .f32 0x40000000#32 = c2
  generalize Ideal.ofBits .f32 0x3F800000#32 = c3
  generalize Ideal.ofBits .f32 0x00800000#32 = c4
  generalize Ideal.ofBits .f32 0x00000000#32 = c5
  rfl

/-- The scale of a q block. -/
theorem rq_scl (x : (⟨S4x16384x1024, .bf16⟩ : BufTy).Contents (Elt Ideal)) (i : S4x128x1x16x1.Idx) (h : Bd (famq x ⟨(i 0).val, (i 0).isLt⟩ ⟨(i 1).val, (i 1).isLt⟩ ⟨(i 3).val, (i 3).isLt⟩)) : val_main_v26 (F := Ideal) x i = ((qsc (famq x ⟨(i 0).val, (i 0).isLt⟩ ⟨(i 1).val, (i 1).isLt⟩ ⟨(i 3).val, (i 3).isLt⟩) : ℝ) : EReal) := by
  have e : val_main_v26 (F := Ideal) x i = rpow (val_main_v18 (F := Ideal) x i) := by
    rw [val_main_v26_apply, val_main_v25_apply, val_main_cst_9_apply]
    generalize val_main_v18 (F := Ideal) x i = a
    rfl
  rw [e, rq_exp, h.amx]
  exact rscale h.nonneg

/-- The codes of a q block. -/
theorem rq_cod (x : (⟨S4x16384x1024, .bf16⟩ : BufTy).Contents (Elt Ideal)) (i : S4x128x128x16x64.Idx) (h : Bd (famq x ⟨(i 0).val, (i 0).isLt⟩ ⟨(i 1).val, (i 1).isLt⟩ ⟨(i 3).val, (i 3).isLt⟩)) :
    val_main_v24 (F := Ideal) x i = ((qcd (famq x ⟨(i 0).val, (i 0).isLt⟩ ⟨(i 1).val, (i 1).isLt⟩ ⟨(i 3).val, (i 3).isLt⟩) ⟨(i 2).val, (i 2).isLt⟩ ⟨(i 4).val, (i 4).isLt⟩ : ℝ) : EReal) := by
  have e : val_main_v24 (F := Ideal) x i = min (Ideal.ofBits .f32 0x43E00000#32) (max (Ideal.ofBits .f32 0xC3E00000#32) (val_main_v1 (F := Ideal) x i * rpow (-(val_main_v18 (F := Ideal) x (idx_main_v22 i))))) := by
    rw [val_main_v24_apply, val_main_call1_v4_apply, val_main_call1_v3_apply, val_main_cst_8_apply, val_main_call1_v2_apply, val_main_v23_apply, val_main_v22_apply, val_main_v21_apply, val_main_v20_apply, val_main_cst_6_apply, val_main_v19_apply, val_main_call1_v1_apply, val_main_call1_v0_apply, val_main_cst_7_apply]
    generalize val_main_v18 (F := Ideal) x (idx_main_v22 i) = a
    generalize val_main_v1 (F := Ideal) x i = b
    rfl
  rw [e, c448p, c448n, rq_val, rq_exp]
  have h' : Bd (famq x ⟨((idx_main_v22 i) 0).val, ((idx_main_v22 i) 0).isLt⟩ ⟨((idx_main_v22 i) 1).val, ((idx_main_v22 i) 1).isLt⟩ ⟨((idx_main_v22 i) 3).val, ((idx_main_v22 i) 3).isLt⟩) := h
  have ea : amx (famq x ⟨((idx_main_v22 i) 0).val, ((idx_main_v22 i) 0).isLt⟩ ⟨((idx_main_v22 i) 1).val, ((idx_main_v22 i) 1).isLt⟩ ⟨((idx_main_v22 i) 3).val, ((idx_main_v22 i) 3).isLt⟩) = ((amr (famq x ⟨(i 0).val, (i 0).isLt⟩ ⟨(i 1).val, (i 1).isLt⟩ ⟨(i 3).val, (i 3).isLt⟩) : ℝ) : EReal) := h'.amx
  rw [ea, h.coe]
  exact requant (h.le _ _)

/-- An element of the k block. -/
theorem rk_val (x : (⟨S4x16384x256, .bf16⟩ : BufTy).Contents (Elt Ideal)) (i : S4x128x128x4x64.Idx) : val_main_v28 (F := Ideal) x i = (famk x ⟨(i 0).val, (i 0).isLt⟩ ⟨(i 1).val, (i 1).isLt⟩ ⟨(i 3).val, (i 3).isLt⟩) ⟨(i 2).val, (i 2).isLt⟩ ⟨(i 4).val, (i 4).isLt⟩ := by
  rw [val_main_v28_apply, val_main_v27_apply]
  show x (idx_main_v28 i) = famk x _ _ _ _ _
  unfold famk
  congr 1
  funext a; apply Fin.ext
  have h0 : (i 0).val < 4 := (i 0).isLt
  have h1 : (i 1).val < 128 := (i 1).isLt
  have h2 : (i 2).val < 128 := (i 2).isLt
  have h3 : (i 3).val < 4 := (i 3).isLt
  have h4 : (i 4).val < 64 := (i 4).isLt
  match a with
  | 0 => show _ = (i 0).val; dsimp only [idx_main_v28]; omega
  | 1 => show _ = 128 * (i 1).val + (i 2).val; dsimp only [idx_main_v28]; omega
  | 2 => show _ = 64 * (i 3).val + (i 4).val; dsimp only [idx_main_v28]; omega

theorem rk_max1 (x : (⟨S4x16384x256, .bf16⟩ : BufTy).Contents (Elt Ideal)) (i : S4x128x1x4x64.Idx) :
    val_main_v31 (F := Ideal) x i = Finset.univ.sup fun r : Fin 128 => max ((famk x ⟨(i 0).val, (i 0).isLt⟩ ⟨(i 1).val, (i 1).isLt⟩ ⟨(i 3).val, (i 3).isLt⟩) r ⟨(i 4).val, (i 4).isLt⟩) (-((famk x ⟨(i 0).val, (i 0).isLt⟩ ⟨(i 1).val, (i 1).isLt⟩ ⟨(i 3).val, (i 3).isLt⟩) r ⟨(i 4).val, (i 4).isLt⟩)) := by
  rw [val_main_v31_apply]
  have e : val_main_v30 (F := Ideal) x = Host.reduce (max : EReal → EReal → EReal) (val_main_v29 (F := Ideal) x) (val_main_cst_10 (F := Ideal)) reducesTo_S4x128x128x4x64_S4x128x4x64_d2 h_S_ := rfl
  rw [e, Host.reduce_eq_fold_single _ _ _ _ (by decide : S4x128x128x4x64.Reduces [2] S4x128x4x64)]
  refine (fold_sup _ _ ninf).trans ?_
  refine Finset.sup_congr rfl fun r _ => ?_
  refine (abs_val _ _ (rk_val x _)).trans ?_
  rfl

/-- The largest absolute value of a k block. -/
theorem rk_amx (x : (⟨S4x16384x256, .bf16⟩ : BufTy).Contents (Elt Ideal)) (i : S4x128x1x4x1.Idx) : val_main_v33 (F := Ideal) x i = amx (famk x ⟨(i 0).val, (i 0).isLt⟩ ⟨(i 1).val, (i 1).isLt⟩ ⟨(i 3).val, (i 3).isLt⟩) := by
  rw [val_main_v33_apply]
  have e : val_main_v32 (F := Ideal) x = Host.reduce (max : EReal → EReal → EReal) (val_main_v31 (F := Ideal) x) (val_main_cst_11 (F := Ideal)) reducesTo_S4x128x1x4x64_S4x128x1x4_d4 h_S_ := rfl
  rw [e, Host.reduce_eq_fold_single _ _ _ _ (by decide : S4x128x1x4x64.Reduces [4] S4x128x1x4), amx_sup]
  refine (fold_sup _ _ ninf).trans ?_
  refine Finset.sup_congr rfl fun d _ => ?_
  rw [Function.comp_apply, rk_max1]
  rfl

theorem rk_exp (x : (⟨S4x16384x256, .bf16⟩ : BufTy).Contents (Elt Ideal)) (i : S4x128x1x4x1.Idx) : val_main_v45 (F := Ideal) x i = rexp (amx (famk x ⟨(i 0).val, (i 0).isLt⟩ ⟨(i 1).val, (i 1).isLt⟩ ⟨(i 3).val, (i 3).isLt⟩) * ((c448 : ℝ) : EReal)) := by
  rw [← rk_amx, ← ofBits_c448]
  rw [val_main_v45_apply, val_main_v44_apply, val_main_v43_apply, val_main_cst_15_apply, val_main_v42_apply, val_main_v41_apply, val_main_cst_14_apply, val_main_v40_apply, val_main_v39_apply, val_main_v38_apply, val_main_v37_apply, val_main_cst_13_apply, val_main_v36_apply, val_main_v35_apply, val_main_v34_apply, val_main_cst_12_apply, val_main_call2_v1_apply, val_main_call2_v0_apply, val_main_cst_16_apply, ofb, ofb, ofb, ofb, ofb]
  unfold rexp
  generalize val_main_v33 (F := Ideal) x i = a
  generalize Ideal.ofBits .f32 0x3B124925#32 = c1
  generalize Ideal.ofBits .f32 0x40000000#32 = c2
  generalize Ideal.ofBits .f32 0x3F800000#32 = c3
  generalize Ideal.ofBits .f32 0x00800000#32 = c4
  generalize Ideal.ofBits .f32 0x00000000#32 = c5
  rfl

/-- The scale of a k block. -/
theorem rk_scl (x : (⟨S4x16384x256, .bf16⟩ : BufTy).Contents (Elt Ideal)) (i : S4x128x1x4x1.Idx) (h : Bd (famk x ⟨(i 0).val, (i 0).isLt⟩ ⟨(i 1).val, (i 1).isLt⟩ ⟨(i 3).val, (i 3).isLt⟩)) : val_main_v53 (F := Ideal) x i = ((qsc (famk x ⟨(i 0).val, (i 0).isLt⟩ ⟨(i 1).val, (i 1).isLt⟩ ⟨(i 3).val, (i 3).isLt⟩) : ℝ) : EReal) := by
  have e : val_main_v53 (F := Ideal) x i = rpow (val_main_v45 (F := Ideal) x i) := by
    rw [val_main_v53_apply, val_main_v52_apply, val_main_cst_20_apply]
    generalize val_main_v45 (F := Ideal) x i = a
    rfl
  rw [e, rk_exp, h.amx]
  exact rscale h.nonneg

/-- The codes of a k block. -/
theorem rk_cod (x : (⟨S4x16384x256, .bf16⟩ : BufTy).Contents (Elt Ideal)) (i : S4x128x128x4x64.Idx) (h : Bd (famk x ⟨(i 0).val, (i 0).isLt⟩ ⟨(i 1).val, (i 1).isLt⟩ ⟨(i 3).val, (i 3).isLt⟩)) :
    val_main_v51 (F := Ideal) x i = ((qcd (famk x ⟨(i 0).val, (i 0).isLt⟩ ⟨(i 1).val, (i 1).isLt⟩ ⟨(i 3).val, (i 3).isLt⟩) ⟨(i 2).val, (i 2).isLt⟩ ⟨(i 4).val, (i 4).isLt⟩ : ℝ) : EReal) := by
  have e : val_main_v51 (F := Ideal) x i = min (Ideal.ofBits .f32 0x43E00000#32) (max (Ideal.ofBits .f32 0xC3E00000#32) (val_main_v28 (F := Ideal) x i * rpow (-(val_main_v45 (F := Ideal) x (idx_main_v49 i))))) := by
    rw [val_main_v51_apply, val_main_call3_v4_apply, val_main_call3_v3_apply, val_main_cst_19_apply, val_main_call3_v2_apply, val_main_v50_apply, val_main_v49_apply, val_main_v48_apply, val_main_v47_apply, val_main_cst_17_apply, val_main_v46_apply, val_main_call3_v1_apply, val_main_call3_v0_apply, val_main_cst_18_apply]
    generalize val_main_v45 (F := Ideal) x (idx_main_v49 i) = a
    generalize val_main_v28 (F := Ideal) x i = b
    rfl
  rw [e, c448p, c448n, rk_val, rk_exp]
  have h' : Bd (famk x ⟨((idx_main_v49 i) 0).val, ((idx_main_v49 i) 0).isLt⟩ ⟨((idx_main_v49 i) 1).val, ((idx_main_v49 i) 1).isLt⟩ ⟨((idx_main_v49 i) 3).val, ((idx_main_v49 i) 3).isLt⟩) := h
  have ea : amx (famk x ⟨((idx_main_v49 i) 0).val, ((idx_main_v49 i) 0).isLt⟩ ⟨((idx_main_v49 i) 1).val, ((idx_main_v49 i) 1).isLt⟩ ⟨((idx_main_v49 i) 3).val, ((idx_main_v49 i) 3).isLt⟩) = ((amr (famk x ⟨(i 0).val, (i 0).isLt⟩ ⟨(i 1).val, (i 1).isLt⟩ ⟨(i 3).val, (i 3).isLt⟩) : ℝ) : EReal) := h'.amx
  rw [ea, h.coe]
  exact requant (h.le _ _)

/-- An element of the v block. -/
theorem rv_val (x : (⟨S4x16384x256, .bf16⟩ : BufTy).Contents (Elt Ideal)) (i : S4x128x128x4x64.Idx) : val_main_v55 (F := Ideal) x i = (famk x ⟨(i 0).val, (i 0).isLt⟩ ⟨(i 1).val, (i 1).isLt⟩ ⟨(i 3).val, (i 3).isLt⟩) ⟨(i 2).val, (i 2).isLt⟩ ⟨(i 4).val, (i 4).isLt⟩ := by
  rw [val_main_v55_apply, val_main_v54_apply]
  show x (idx_main_v55 i) = famk x _ _ _ _ _
  unfold famk
  congr 1
  funext a; apply Fin.ext
  have h0 : (i 0).val < 4 := (i 0).isLt
  have h1 : (i 1).val < 128 := (i 1).isLt
  have h2 : (i 2).val < 128 := (i 2).isLt
  have h3 : (i 3).val < 4 := (i 3).isLt
  have h4 : (i 4).val < 64 := (i 4).isLt
  match a with
  | 0 => show _ = (i 0).val; dsimp only [idx_main_v55]; omega
  | 1 => show _ = 128 * (i 1).val + (i 2).val; dsimp only [idx_main_v55]; omega
  | 2 => show _ = 64 * (i 3).val + (i 4).val; dsimp only [idx_main_v55]; omega

theorem rv_max1 (x : (⟨S4x16384x256, .bf16⟩ : BufTy).Contents (Elt Ideal)) (i : S4x128x1x4x64.Idx) :
    val_main_v58 (F := Ideal) x i = Finset.univ.sup fun r : Fin 128 => max ((famk x ⟨(i 0).val, (i 0).isLt⟩ ⟨(i 1).val, (i 1).isLt⟩ ⟨(i 3).val, (i 3).isLt⟩) r ⟨(i 4).val, (i 4).isLt⟩) (-((famk x ⟨(i 0).val, (i 0).isLt⟩ ⟨(i 1).val, (i 1).isLt⟩ ⟨(i 3).val, (i 3).isLt⟩) r ⟨(i 4).val, (i 4).isLt⟩)) := by
  rw [val_main_v58_apply]
  have e : val_main_v57 (F := Ideal) x = Host.reduce (max : EReal → EReal → EReal) (val_main_v56 (F := Ideal) x) (val_main_cst_21 (F := Ideal)) reducesTo_S4x128x128x4x64_S4x128x4x64_d2 h_S_ := rfl
  rw [e, Host.reduce_eq_fold_single _ _ _ _ (by decide : S4x128x128x4x64.Reduces [2] S4x128x4x64)]
  refine (fold_sup _ _ ninf).trans ?_
  refine Finset.sup_congr rfl fun r _ => ?_
  refine (abs_val _ _ (rv_val x _)).trans ?_
  rfl

/-- The largest absolute value of a v block. -/
theorem rv_amx (x : (⟨S4x16384x256, .bf16⟩ : BufTy).Contents (Elt Ideal)) (i : S4x128x1x4x1.Idx) : val_main_v60 (F := Ideal) x i = amx (famk x ⟨(i 0).val, (i 0).isLt⟩ ⟨(i 1).val, (i 1).isLt⟩ ⟨(i 3).val, (i 3).isLt⟩) := by
  rw [val_main_v60_apply]
  have e : val_main_v59 (F := Ideal) x = Host.reduce (max : EReal → EReal → EReal) (val_main_v58 (F := Ideal) x) (val_main_cst_22 (F := Ideal)) reducesTo_S4x128x1x4x64_S4x128x1x4_d4 h_S_ := rfl
  rw [e, Host.reduce_eq_fold_single _ _ _ _ (by decide : S4x128x1x4x64.Reduces [4] S4x128x1x4), amx_sup]
  refine (fold_sup _ _ ninf).trans ?_
  refine Finset.sup_congr rfl fun d _ => ?_
  rw [Function.comp_apply, rv_max1]
  rfl

theorem rv_exp (x : (⟨S4x16384x256, .bf16⟩ : BufTy).Contents (Elt Ideal)) (i : S4x128x1x4x1.Idx) : val_main_v72 (F := Ideal) x i = rexp (amx (famk x ⟨(i 0).val, (i 0).isLt⟩ ⟨(i 1).val, (i 1).isLt⟩ ⟨(i 3).val, (i 3).isLt⟩) * ((c448 : ℝ) : EReal)) := by
  rw [← rv_amx, ← ofBits_c448]
  rw [val_main_v72_apply, val_main_v71_apply, val_main_v70_apply, val_main_cst_26_apply, val_main_v69_apply, val_main_v68_apply, val_main_cst_25_apply, val_main_v67_apply, val_main_v66_apply, val_main_v65_apply, val_main_v64_apply, val_main_cst_24_apply, val_main_v63_apply, val_main_v62_apply, val_main_v61_apply, val_main_cst_23_apply, val_main_call4_v1_apply, val_main_call4_v0_apply, val_main_cst_27_apply, ofb, ofb, ofb, ofb, ofb]
  unfold rexp
  generalize val_main_v60 (F := Ideal) x i = a
  generalize Ideal.ofBits .f32 0x3B124925#32 = c1
  generalize Ideal.ofBits .f32 0x40000000#32 = c2
  generalize Ideal.ofBits .f32 0x3F800000#32 = c3
  generalize Ideal.ofBits .f32 0x00800000#32 = c4
  generalize Ideal.ofBits .f32 0x00000000#32 = c5
  rfl

/-- The scale of a v block. -/
theorem rv_scl (x : (⟨S4x16384x256, .bf16⟩ : BufTy).Contents (Elt Ideal)) (i : S4x128x1x4x1.Idx) (h : Bd (famk x ⟨(i 0).val, (i 0).isLt⟩ ⟨(i 1).val, (i 1).isLt⟩ ⟨(i 3).val, (i 3).isLt⟩)) : val_main_v80 (F := Ideal) x i = ((qsc (famk x ⟨(i 0).val, (i 0).isLt⟩ ⟨(i 1).val, (i 1).isLt⟩ ⟨(i 3).val, (i 3).isLt⟩) : ℝ) : EReal) := by
  have e : val_main_v80 (F := Ideal) x i = rpow (val_main_v72 (F := Ideal) x i) := by
    rw [val_main_v80_apply, val_main_v79_apply, val_main_cst_31_apply]
    generalize val_main_v72 (F := Ideal) x i = a
    rfl
  rw [e, rv_exp, h.amx]
  exact rscale h.nonneg

/-- The codes of a v block. -/
theorem rv_cod (x : (⟨S4x16384x256, .bf16⟩ : BufTy).Contents (Elt Ideal)) (i : S4x128x128x4x64.Idx) (h : Bd (famk x ⟨(i 0).val, (i 0).isLt⟩ ⟨(i 1).val, (i 1).isLt⟩ ⟨(i 3).val, (i 3).isLt⟩)) :
    val_main_v78 (F := Ideal) x i = ((qcd (famk x ⟨(i 0).val, (i 0).isLt⟩ ⟨(i 1).val, (i 1).isLt⟩ ⟨(i 3).val, (i 3).isLt⟩) ⟨(i 2).val, (i 2).isLt⟩ ⟨(i 4).val, (i 4).isLt⟩ : ℝ) : EReal) := by
  have e : val_main_v78 (F := Ideal) x i = min (Ideal.ofBits .f32 0x43E00000#32) (max (Ideal.ofBits .f32 0xC3E00000#32) (val_main_v55 (F := Ideal) x i * rpow (-(val_main_v72 (F := Ideal) x (idx_main_v76 i))))) := by
    rw [val_main_v78_apply, val_main_call5_v4_apply, val_main_call5_v3_apply, val_main_cst_30_apply, val_main_call5_v2_apply, val_main_v77_apply, val_main_v76_apply, val_main_v75_apply, val_main_v74_apply, val_main_cst_28_apply, val_main_v73_apply, val_main_call5_v1_apply, val_main_call5_v0_apply, val_main_cst_29_apply]
    generalize val_main_v72 (F := Ideal) x (idx_main_v76 i) = a
    generalize val_main_v55 (F := Ideal) x i = b
    rfl
  rw [e, c448p, c448n, rv_val, rv_exp]
  have h' : Bd (famk x ⟨((idx_main_v76 i) 0).val, ((idx_main_v76 i) 0).isLt⟩ ⟨((idx_main_v76 i) 1).val, ((idx_main_v76 i) 1).isLt⟩ ⟨((idx_main_v76 i) 3).val, ((idx_main_v76 i) 3).isLt⟩) := h
  have ea : amx (famk x ⟨((idx_main_v76 i) 0).val, ((idx_main_v76 i) 0).isLt⟩ ⟨((idx_main_v76 i) 1).val, ((idx_main_v76 i) 1).isLt⟩ ⟨((idx_main_v76 i) 3).val, ((idx_main_v76 i) 3).isLt⟩) = ((amr (famk x ⟨(i 0).val, (i 0).isLt⟩ ⟨(i 1).val, (i 1).isLt⟩ ⟨(i 3).val, (i 3).isLt⟩) : ℝ) : EReal) := h'.amx
  rw [ea, h.coe]
  exact requant (h.le _ _)

end Cert.Attn

end
-- ==== Proof.SoftM.lean ====
/- The reference's two-pass softmax over all keys, its probabilities quantised block by block: on real numbers it is the
   weighted mean. -/
module

public import proofs.«01_k».proof.Proof.Spec

@[expose] public section

set_option maxRecDepth 16384
set_option maxHeartbeats 4000000

noncomputable section

namespace Cert.Attn

open Idealize.ShloMosaic

variable (t : ℕ → Fin 128 → EReal)

/-- The largest capped score of a query. -/
def sM : EReal := Finset.univ.sup fun j : Fin 128 => Finset.univ.sup fun r : Fin 128 => ((50 : ℝ) : EReal) * t j.val r
/-- A key's probability before the division. -/
def pr (j : Fin 128) (r : Fin 128) : EReal := Ideal.exp (((50 : ℝ) : EReal) * t j.val r - sM t)
/-- A block's largest probability. -/
def am (j : Fin 128) : EReal := Finset.univ.sup fun r : Fin 128 => max (pr t j r) (-(pr t j r))
/-- A block's exponent. -/
def pe (j : Fin 128) : EReal := rexp (am t j * ((c448 : ℝ) : EReal))
/-- A key's code. -/
def pc (j r : Fin 128) : EReal := min ((448 : ℝ) : EReal) (max (((-448 : ℝ)) : EReal) (pr t j r * rpow (-(pe t j))))

variable {t}

theorem fifty_bot : ((50 : ℝ) : EReal) * ⊥ = ⊥ := EReal.coe_mul_bot_of_pos (by norm_num)

theorem sup_real {f : Fin 128 → EReal} (h : ∀ r, f r = ⊥ ∨ ∃ x : ℝ, f r = x) {r0 : Fin 128} {x0 : ℝ} (h0 : f r0 = x0) :
    ∃ M : ℝ, Finset.univ.sup f = M := by
  obtain ⟨r, -, hr⟩ := Finset.exists_mem_eq_sup (Finset.univ : Finset (Fin 128)) ⟨0, Finset.mem_univ _⟩ f
  rcases h r with h' | ⟨x, hx⟩
  · exfalso
    have : f r0 ≤ Finset.univ.sup f := Finset.le_sup (Finset.mem_univ r0)
    rw [hr, h', h0] at this
    exact absurd this (not_le.2 (EReal.bot_lt_coe _))
  · exact ⟨x, hr.trans hx⟩

theorem sup_bot_or {f : Fin 128 → EReal} (h : ∀ r, f r = ⊥ ∨ ∃ x : ℝ, f r = x) : Finset.univ.sup f = ⊥ ∨ ∃ M : ℝ, Finset.univ.sup f = M := by
  obtain ⟨r, -, hr⟩ := Finset.exists_mem_eq_sup (Finset.univ : Finset (Fin 128)) ⟨0, Finset.mem_univ _⟩ f
  rw [hr]; exact h r

theorem fifty_or (ht : ∀ j, Fin' (t j)) (j : ℕ) (r : Fin 128) : ((50 : ℝ) : EReal) * t j r = ⊥ ∨ ∃ x : ℝ, ((50 : ℝ) : EReal) * t j r = x := by
  rcases ht j r with h | ⟨x, hx⟩
  · left; rw [h, fifty_bot]
  · right; exact ⟨50 * x, by rw [hx, EReal.coe_mul]⟩

theorem sM_real (ht : ∀ j, Fin' (t j)) {j0 r0 : Fin 128} {x0 : ℝ} (h0 : t j0.val r0 = x0) : ∃ M : ℝ, sM t = M := by
  obtain ⟨x, hx⟩ := sup_real (fun r => fifty_or ht j0.val r) (r0 := r0) (x0 := 50 * x0) (by rw [h0, EReal.coe_mul])
  exact sup_real (f := fun j : Fin 128 => Finset.univ.sup fun r : Fin 128 => ((50 : ℝ) : EReal) * t j.val r) (fun j => sup_bot_or fun r => fifty_or ht j.val r) hx

/-- A probability is the key's weight times one factor common to all keys. -/
theorem pr_eq (ht : ∀ j, Fin' (t j)) {M : ℝ} (hM : sM t = M) (j r : Fin 128) : pr t j r = ((wt (t j.val r) * Real.exp (-M) : ℝ) : EReal) := by
  unfold pr
  rw [hM]
  rcases ht j.val r with h | ⟨x, hx⟩
  · rw [h, fifty_bot, EReal.bot_sub, wt_bot, zero_mul]; exact Ideal.exp_bot
  · rw [hx, ← EReal.coe_mul, ← EReal.coe_sub, Ideal.exp_coe, wt_coe, two_rpow_cap, ← Real.exp_add, sub_eq_add_neg]

theorem am_real {p : Fin 128 → ℝ} {j : Fin 128} (hp : ∀ r, pr t j r = ((p r : ℝ) : EReal)) : ∃ a : ℝ, am t j = a ∧ ∀ r, |p r| ≤ a := by
  obtain ⟨r, -, hr⟩ := Finset.exists_mem_eq_sup (Finset.univ : Finset (Fin 128)) ⟨0, Finset.mem_univ _⟩ (fun r : Fin 128 => max (pr t j r) (-(pr t j r)))
  refine ⟨|p r|, ?_, fun r' => ?_⟩
  · exact hr.trans (by rw [hp, max_neg_coe])
  · have h1 : max (pr t j r') (-(pr t j r')) ≤ am t j := Finset.le_sup (f := fun r : Fin 128 => max (pr t j r) (-(pr t j r))) (Finset.mem_univ r')
    rw [show am t j = max (pr t j r) (-(pr t j r)) from hr, hp, hp, max_neg_coe, max_neg_coe] at h1
    exact EReal.coe_le_coe_iff.1 h1

/-- One block's share of the output: its codes times the value codes, summed, times both scales. -/
theorem blk_eq {p : Fin 128 → ℝ} {j : Fin 128} (hp : ∀ r, pr t j r = ((p r : ℝ) : EReal)) (v : Fin 128 → ℝ) (u : ℝ) :
    (∑ r, pc t j r * ((v r : ℝ) : EReal)) * (rpow (pe t j) * ((u : ℝ) : EReal)) = (((∑ r, v r * p r) * u : ℝ) : EReal) := by
  obtain ⟨a, ha, hle⟩ := am_real hp
  have h0 : 0 ≤ a := le_trans (abs_nonneg _) (hle 0)
  have hc : ∀ r, pc t j r = ((p r * (2 : ℝ) ^ (-expo (a * c448)) : ℝ) : EReal) := fun r => by
    unfold pc pe
    rw [hp, ha]
    exact requant (hle r)
  have hs : rpow (pe t j) = (((2 : ℝ) ^ expo (a * c448) : ℝ) : EReal) := by
    unfold pe
    rw [ha]
    exact rscale h0
  have e1 : ∀ r, pc t j r * ((v r : ℝ) : EReal) = ((p r * (2 : ℝ) ^ (-expo (a * c448)) * v r : ℝ) : EReal) := fun r => by rw [hc, ← EReal.coe_mul]
  simp only [e1]
  rw [hs, ← coe_sum, ← EReal.coe_mul, ← EReal.coe_mul]
  refine congrArg (fun z : ℝ => (z : EReal)) ?_
  have e2 : (∑ r, p r * (2 : ℝ) ^ (-expo (a * c448)) * v r) = (∑ r, v r * p r) * (2 : ℝ) ^ (-expo (a * c448)) := by
    rw [Finset.sum_mul]
    exact Finset.sum_congr rfl fun r _ => by ring
  have hz : (2 : ℝ) ^ (-expo (a * c448)) * (2 : ℝ) ^ expo (a * c448) = 1 := by
    rw [← zpow_add₀ (by norm_num)]; simp
  rw [e2]
  calc (∑ r, v r * p r) * (2 : ℝ) ^ (-expo (a * c448)) * ((2 : ℝ) ^ expo (a * c448) * u)
      = (∑ r, v r * p r) * u * ((2 : ℝ) ^ (-expo (a * c448)) * (2 : ℝ) ^ expo (a * c448)) := by ring
    _ = _ := by rw [hz, mul_one]

/-- The reference's quotient is the weighted mean over all 128 blocks. -/
theorem ref_mean (ht : ∀ j, Fin' (t j)) {j0 r0 : Fin 128} {x0 : ℝ} (h0 : t j0.val r0 = x0) (v : ℕ → Fin 128 → ℝ) (u : ℕ → ℝ) :
    Ideal.div (∑ j : Fin 128, (∑ r, pc t j r * ((v j.val r : ℝ) : EReal)) * (rpow (pe t j) * ((u j.val : ℝ) : EReal))) (∑ j : Fin 128, ∑ r, pr t j r)
      = ((vsum t v u 128 / wsum t 128 : ℝ) : EReal) := by
  obtain ⟨M, hM⟩ := sM_real ht h0
  have hp := fun j => pr_eq ht hM j
  have hW : 0 < wsum t 128 := wsum_pos j0.isLt h0
  have hE : (0 : ℝ) < Real.exp (-M) := Real.exp_pos _
  have eA : (∑ j : Fin 128, (∑ r, pc t j r * ((v j.val r : ℝ) : EReal)) * (rpow (pe t j) * ((u j.val : ℝ) : EReal))) = ((vsum t v u 128 * Real.exp (-M) : ℝ) : EReal) := by
    have : ∀ j : Fin 128, (∑ r, pc t j r * ((v j.val r : ℝ) : EReal)) * (rpow (pe t j) * ((u j.val : ℝ) : EReal)) = (((∑ r, v j.val r * wt (t j.val r)) * u j.val * Real.exp (-M) : ℝ) : EReal) := fun j => by
      rw [blk_eq (hp j)]
      refine congrArg (fun z : ℝ => (z : EReal)) ?_
      have : (∑ r, v j.val r * (wt (t j.val r) * Real.exp (-M))) = (∑ r, v j.val r * wt (t j.val r)) * Real.exp (-M) := by
        rw [Finset.sum_mul]
        exact Finset.sum_congr rfl fun r _ => by ring
      rw [this]; ring
    simp only [this]
    rw [← coe_sum]
    refine congrArg (fun z : ℝ => (z : EReal)) ?_
    unfold vsum
    rw [Finset.sum_range, Finset.sum_mul]
  have eL : (∑ j : Fin 128, ∑ r, pr t j r) = ((wsum t 128 * Real.exp (-M) : ℝ) : EReal) := by
    simp only [hp, ← coe_sum]
    refine congrArg (fun z : ℝ => (z : EReal)) ?_
    unfold wsum
    rw [Finset.sum_range, Finset.sum_mul]
    exact Finset.sum_congr rfl fun j _ => (Finset.sum_mul _ _ _).symm
  rw [eA, eL, Ideal.div_coe (mul_pos hW hE).ne', ← EReal.coe_mul]
  refine congrArg (fun z : ℝ => (z : EReal)) ?_
  field_simp

end Cert.Attn

end
-- ==== Proof.RefS.lean ====
/- The scores of the reference, read at an element. -/
module

public import proofs.«01_k».proof.Proof.RefQ
public import proofs.«01_k».proof.Proof.SoftM
import all proofs.«01_k».proof.Proof.Gen.ReferenceIdeal.Read
public import proofs.«01_k».proof.Proof.Gen.ReferenceIdeal.Read

@[expose] public section

set_option maxRecDepth 16384
set_option maxHeartbeats 4000000

noncomputable section

namespace Cert.Attn

open Idealize.ShloMosaic Cert.ReferenceIdeal Cert.ReferenceIdeal.Gen Cert.ReferenceIdeal.Read

variable {x0 : (⟨S4x16384x1024, .bf16⟩ : BufTy).Contents (Elt Ideal)} {x1 x2 : (⟨S4x16384x256, .bf16⟩ : BufTy).Contents (Elt Ideal)}

theorem qcdq_congr {b b' : Fin 4} {n n' : Fin 128} {h h' : Fin 16} {r r' : Fin 128} {d d' : Fin 64} (hb : b.val = b'.val) (hn : n.val = n'.val) (hh : h.val = h'.val) (hr : r.val = r'.val) (hd : d.val = d'.val) :
    qcd (famq x0 b n h) r d = qcd (famq x0 b' n' h') r' d' := by
  rw [Fin.ext hb, Fin.ext hn, Fin.ext hh, Fin.ext hr, Fin.ext hd]

theorem qscq_congr {b b' : Fin 4} {n n' : Fin 128} {h h' : Fin 16} (hb : b.val = b'.val) (hn : n.val = n'.val) (hh : h.val = h'.val) :
    qsc (famq x0 b n h) = qsc (famq x0 b' n' h') := by
  rw [Fin.ext hb, Fin.ext hn, Fin.ext hh]

theorem qsck_congr {b b' : Fin 4} {n n' : Fin 128} {h h' : Fin 4} (hb : b.val = b'.val) (hn : n.val = n'.val) (hh : h.val = h'.val) :
    qsc (famk x1 b n h) = qsc (famk x1 b' n' h') := by
  rw [Fin.ext hb, Fin.ext hn, Fin.ext hh]

/-- The block of a row. -/
def rb (q : Fin 16384) : Fin 128 := ⟨q.val / 128, by omega⟩
/-- A row's place in its block. -/
def rc (q : Fin 16384) : Fin 128 := ⟨q.val % 128, by omega⟩

/-- A query's code. -/
theorem y81 (hX : Bx x0) (i : S4x16384x4x4x64.Idx) : val_main_v81 (F := Ideal) x0 i = ((qcd (famq x0 ⟨(i 0).val, (i 0).isLt⟩ (rb ⟨(i 1).val, (i 1).isLt⟩) (hq ⟨(i 2).val, (i 2).isLt⟩ ⟨(i 3).val, (i 3).isLt⟩)) (rc ⟨(i 1).val, (i 1).isLt⟩) ⟨(i 4).val, (i 4).isLt⟩ : ℝ) : EReal) := by
  rw [val_main_v81_apply, rq_cod _ _ (hX.q _ _ _)]
  have h0 : (i 0).val < 4 := (i 0).isLt
  have h1 : (i 1).val < 16384 := (i 1).isLt
  have h2 : (i 2).val < 4 := (i 2).isLt
  have h3 : (i 3).val < 4 := (i 3).isLt
  have h4 : (i 4).val < 64 := (i 4).isLt
  refine congrArg (fun z : ℝ => (z : EReal)) (qcdq_congr ?_ ?_ ?_ ?_ ?_)
  · show _ = (i 0).val; dsimp only [idx_main_v81]; omega
  · show _ = (i 1).val / 128; dsimp only [idx_main_v81]; omega
  · show _ = 4 * (i 2).val + (i 3).val; dsimp only [idx_main_v81]; omega
  · show _ = (i 1).val % 128; dsimp only [idx_main_v81]; omega
  · show _ = (i 4).val; dsimp only [idx_main_v81]; omega

/-- A query's scale. -/
theorem y84 (hX : Bx x0) (i : S4x16384x4x4.Idx) : val_main_v84 (F := Ideal) x0 i = ((qsc (famq x0 ⟨(i 0).val, (i 0).isLt⟩ (rb ⟨(i 1).val, (i 1).isLt⟩) (hq ⟨(i 2).val, (i 2).isLt⟩ ⟨(i 3).val, (i 3).isLt⟩)) : ℝ) : EReal) := by
  rw [val_main_v84_apply, val_main_v83_apply, rq_scl _ _ (hX.q _ _ _)]
  have h0 : (i 0).val < 4 := (i 0).isLt
  have h1 : (i 1).val < 16384 := (i 1).isLt
  have h2 : (i 2).val < 4 := (i 2).isLt
  have h3 : (i 3).val < 4 := (i 3).isLt
  refine congrArg (fun z : ℝ => (z : EReal)) (qscq_congr ?_ ?_ ?_)
  · show _ = (i 0).val; dsimp only [idx_main_v84, idx_main_v83]; omega
  · show _ = (i 1).val / 128; dsimp only [idx_main_v84, idx_main_v83]; omega
  · show _ = 4 * (i 2).val + (i 3).val; dsimp only [idx_main_v84, idx_main_v83]; omega

theorem y90 (hX : Bx x0) (i : S4x4x16384x4x128x1.Idx) : val_main_v90 (F := Ideal) x0 i = ((qsc (famq x0 ⟨(i 0).val, (i 0).isLt⟩ (rb ⟨(i 2).val, (i 2).isLt⟩) (hq ⟨(i 1).val, (i 1).isLt⟩ ⟨(i 3).val, (i 3).isLt⟩)) : ℝ) : EReal) := by
  rw [val_main_v90_apply, val_main_v86_apply, val_main_v85_apply, y84 hX]
  all_goals rfl

/-- A key block's scale. -/
theorem y87 (hK : Bx x1) (i : S4x128x4.Idx) : val_main_v87 (F := Ideal) x1 i = ((qsc (famk x1 ⟨(i 0).val, (i 0).isLt⟩ ⟨(i 1).val, (i 1).isLt⟩ ⟨(i 2).val, (i 2).isLt⟩) : ℝ) : EReal) := by
  rw [val_main_v87_apply, rk_scl _ _ (hK.k _ _ _)]
  have h0 : (i 0).val < 4 := (i 0).isLt
  have h1 : (i 1).val < 128 := (i 1).isLt
  have h2 : (i 2).val < 4 := (i 2).isLt
  refine congrArg (fun z : ℝ => (z : EReal)) (qsck_congr ?_ ?_ ?_)
  · show _ = (i 0).val; dsimp only [idx_main_v87]; omega
  · show _ = (i 1).val; dsimp only [idx_main_v87]; omega
  · show _ = (i 2).val; dsimp only [idx_main_v87]; omega

theorem y91 (hK : Bx x1) (i : S4x4x16384x4x128x1.Idx) : val_main_v91 (F := Ideal) x1 i = ((qsc (famk x1 ⟨(i 0).val, (i 0).isLt⟩ ⟨(i 4).val, (i 4).isLt⟩ ⟨(i 1).val, (i 1).isLt⟩) : ℝ) : EReal) := by
  rw [val_main_v91_apply, val_main_v89_apply, val_main_v88_apply, y87 hK]
  all_goals rfl

/-- A value block's scale. -/
theorem y144 (hU : Bx x2) (i : S4x128x4.Idx) : val_main_v144 (F := Ideal) x2 i = ((qsc (famk x2 ⟨(i 0).val, (i 0).isLt⟩ ⟨(i 1).val, (i 1).isLt⟩ ⟨(i 2).val, (i 2).isLt⟩) : ℝ) : EReal) := by
  rw [val_main_v144_apply, rv_scl _ _ (hU.k _ _ _)]
  have h0 : (i 0).val < 4 := (i 0).isLt
  have h1 : (i 1).val < 128 := (i 1).isLt
  have h2 : (i 2).val < 4 := (i 2).isLt
  refine congrArg (fun z : ℝ => (z : EReal)) (qsck_congr ?_ ?_ ?_)
  · show _ = (i 0).val; dsimp only [idx_main_v144]; omega
  · show _ = (i 1).val; dsimp only [idx_main_v144]; omega
  · show _ = (i 2).val; dsimp only [idx_main_v144]; omega

theorem y148 (hU : Bx x2) (i : S4x4x128x16384x4x1.Idx) : val_main_v148 (F := Ideal) x2 i = ((qsc (famk x2 ⟨(i 0).val, (i 0).isLt⟩ ⟨(i 2).val, (i 2).isLt⟩ ⟨(i 1).val, (i 1).isLt⟩) : ℝ) : EReal) := by
  rw [val_main_v148_apply, val_main_v146_apply, val_main_v145_apply, y144 hU]

/-- The product of a query's and a key's codes. -/
theorem y82 (hX : Bx x0) (hK : Bx x1) (i : S4x4x16384x4x128x128.Idx) : val_main_v82 (F := Ideal) x0 x1 i
    = ((∑ x : Fin 64, qcd (famk x1 ⟨(i 0).val, (i 0).isLt⟩ ⟨(i 4).val, (i 4).isLt⟩ ⟨(i 1).val, (i 1).isLt⟩) ⟨(i 5).val, (i 5).isLt⟩ x * qcd (famq x0 ⟨(i 0).val, (i 0).isLt⟩ (rb ⟨(i 2).val, (i 2).isLt⟩) (hq ⟨(i 1).val, (i 1).isLt⟩ ⟨(i 3).val, (i 3).isLt⟩)) (rc ⟨(i 2).val, (i 2).isLt⟩) x : ℝ) : EReal) := by
  rw [val_main_v82_apply, coe_sum]
  refine Finset.sum_congr rfl fun k _ => ?_
  rw [y81 hX, rk_cod _ _ (hK.k _ _ _), mul_comm, EReal.coe_mul]

theorem lit8 : Ideal.ofBits .f32 0x3E000000#32 = ((1 / 8 : ℝ) : EReal) := by
  simp [Ideal.ofBits, Ideal.ieee, -EReal.coe_mul]; norm_num
theorem lit50 : Ideal.ofBits .f32 0x42480000#32 = ((50 : ℝ) : EReal) := by
  simp [Ideal.ofBits, Ideal.ieee, -EReal.coe_mul]; norm_num

theorem bix_val (j : Fin 128) : bix j.val = j := Fin.ext (Nat.mod_eq_of_lt j.isLt)

/-- The reference's factors of a score are together the kernel's. -/
theorem score_coe (S q k : ℝ) : Ideal.tanh (((S : EReal) * (((q : EReal) * (k : EReal)) * Ideal.ofBits .f32 0x3E000000#32)) * Ideal.ofBits .f32 0x3CA3D70A#32) = ((Real.tanh (S * (q * lit * k)) : ℝ) : EReal) := by
  rw [lit8, lit_reference, ← EReal.coe_mul, ← EReal.coe_mul, ← EReal.coe_mul, ← EReal.coe_mul, Ideal.tanh_coe]
  refine congrArg (fun z : ℝ => ((Real.tanh z : ℝ) : EReal)) ?_
  ring

/-! Coordinates of an element's place in the arrays that are constant along some axes. -/

theorem i95_0 (i : S4x4x16384x4x128x128.Idx) : ((idx_main_v95 i) 0).val = (i 0).val := congrArg (Fin.val (n := 4)) (show @Eq (Fin 4) ((idx_main_v95 i) 0) ⟨(i 0).val, (i 0).isLt⟩ from rfl)
theorem i95_1 (i : S4x4x16384x4x128x128.Idx) : ((idx_main_v95 i) 1).val = (i 1).val := congrArg (Fin.val (n := 4)) (show @Eq (Fin 4) ((idx_main_v95 i) 1) ⟨(i 1).val, (i 1).isLt⟩ from rfl)
theorem i95_2 (i : S4x4x16384x4x128x128.Idx) : ((idx_main_v95 i) 2).val = (i 2).val := congrArg (Fin.val (n := 16384)) (show @Eq (Fin 16384) ((idx_main_v95 i) 2) ⟨(i 2).val, (i 2).isLt⟩ from rfl)
theorem i95_3 (i : S4x4x16384x4x128x128.Idx) : ((idx_main_v95 i) 3).val = (i 3).val := congrArg (Fin.val (n := 4)) (show @Eq (Fin 4) ((idx_main_v95 i) 3) ⟨(i 3).val, (i 3).isLt⟩ from rfl)
theorem i95_4 (i : S4x4x16384x4x128x128.Idx) : ((idx_main_v95 i) 4).val = (i 4).val := congrArg (Fin.val (n := 128)) (show @Eq (Fin 128) ((idx_main_v95 i) 4) ⟨(i 4).val, (i 4).isLt⟩ from rfl)

theorem y90c (hX : Bx x0) (i' : S4x4x16384x4x128x1.Idx) (i : S4x4x16384x4x128x128.Idx) (h0 : (i' 0).val = (i 0).val) (h1 : (i' 1).val = (i 1).val) (h2 : (i' 2).val = (i 2).val) (h3 : (i' 3).val = (i 3).val) : val_main_v90 (F := Ideal) x0 i' = ((qsc (famq x0 ⟨(i 0).val, (i 0).isLt⟩ (rb ⟨(i 2).val, (i 2).isLt⟩) (hq ⟨(i 1).val, (i 1).isLt⟩ ⟨(i 3).val, (i 3).isLt⟩)) : ℝ) : EReal) :=
  (y90 hX i').trans (congrArg (fun z : ℝ => (z : EReal)) (qscq_congr h0 (congrArg (fun n => n / 128) h2) (congrArg₂ (fun m n => 4 * m + n) h1 h3)))

/-- The query scale at a pair of blocks. -/
theorem y90b (hX : Bx x0) (i : S4x4x16384x4x128x128.Idx) : val_main_v90 (F := Ideal) x0 (idx_main_v95 i) = ((qsc (famq x0 ⟨(i 0).val, (i 0).isLt⟩ (rb ⟨(i 2).val, (i 2).isLt⟩) (hq ⟨(i 1).val, (i 1).isLt⟩ ⟨(i 3).val, (i 3).isLt⟩)) : ℝ) : EReal) :=
  y90c hX _ i (i95_0 i) (i95_1 i) (i95_2 i) (i95_3 i)

theorem y91c (hK : Bx x1) (i' : S4x4x16384x4x128x1.Idx) (i : S4x4x16384x4x128x128.Idx) (h0 : (i' 0).val = (i 0).val) (h1 : (i' 1).val = (i 1).val) (h4 : (i' 4).val = (i 4).val) : val_main_v91 (F := Ideal) x1 i' = ((qsc (famk x1 ⟨(i 0).val, (i 0).isLt⟩ ⟨(i 4).val, (i 4).isLt⟩ ⟨(i 1).val, (i 1).isLt⟩) : ℝ) : EReal) :=
  (y91 hK i').trans (congrArg (fun z : ℝ => (z : EReal)) (qsck_congr h0 h4 h1))

/-- The key scale at a pair of blocks. -/
theorem y91b (hK : Bx x1) (i : S4x4x16384x4x128x128.Idx) : val_main_v91 (F := Ideal) x1 (idx_main_v95 i) = ((qsc (famk x1 ⟨(i 0).val, (i 0).isLt⟩ ⟨(i 4).val, (i 4).isLt⟩ ⟨(i 1).val, (i 1).isLt⟩) : ℝ) : EReal) :=
  y91c hK _ i (i95_0 i) (i95_1 i) (i95_4 i)

/-- The hyperbolic tangent of a score over the cap. -/
theorem y99 (hX : Bx x0) (hK : Bx x1) (i : S4x4x16384x4x128x128.Idx) : val_main_v99 (F := Ideal) x0 x1 i
    = ((th1 x0 x1 ⟨(i 0).val, (i 0).isLt⟩ ⟨(i 1).val, (i 1).isLt⟩ ⟨(i 3).val, (i 3).isLt⟩ (rb ⟨(i 2).val, (i 2).isLt⟩) (rc ⟨(i 2).val, (i 2).isLt⟩) ⟨(i 4).val, (i 4).isLt⟩ ⟨(i 5).val, (i 5).isLt⟩ : ℝ) : EReal) := by
  have e : val_main_v98 (F := Ideal) x0 x1 i = ((val_main_v82 (F := Ideal) x0 x1 i : EReal) * (((val_main_v90 (F := Ideal) x0 (idx_main_v95 i) : EReal) * (val_main_v91 (F := Ideal) x1 (idx_main_v95 i) : EReal)) * Ideal.ofBits .f32 0x3E000000#32)) * Ideal.ofBits .f32 0x3CA3D70A#32 := by
    rw [val_main_v98_apply, val_main_v97_apply, val_main_cst_33_apply, val_main_v96_apply, val_main_v95_apply, val_main_v94_apply, val_main_v93_apply, val_main_cst_32_apply, val_main_v92_apply, ofb, ofb]
    generalize Ideal.ofBits .f32 0x3E000000#32 = c1
    generalize Ideal.ofBits .f32 0x3CA3D70A#32 = c2
    generalize val_main_v82 (F := Ideal) x0 x1 i = a
    generalize val_main_v90 (F := Ideal) x0 (idx_main_v95 i) = b
    generalize val_main_v91 (F := Ideal) x1 (idx_main_v95 i) = d
    rfl
  have e2 : val_main_v99 (F := Ideal) x0 x1 i = Ideal.tanh (val_main_v98 (F := Ideal) x0 x1 i) := by
    rw [val_main_v99_apply]
    generalize val_main_v98 (F := Ideal) x0 x1 i = a
    rfl
  rw [e2, e, y82 hX hK, y90b hX, y91b hK, score_coe]
  all_goals rfl

/-- The causal mask's comparison. -/
theorem mask_word (j s q : ℕ) (hj : j < 128) (hs : s < 128) (hq : q < 16384) :
    IntOp.cmpi .sle (IntOp.addi (IntOp.muli (BitVec.ofNat 32 j) 128#32) (BitVec.ofNat 32 s)) (BitVec.ofNat 32 q) = if j < q / 128 ∨ (j = q / 128 ∧ s ≤ q % 128) then 1#1 else 0#1 := by
  have e1 : IntOp.addi (IntOp.muli (BitVec.ofNat 32 j) 128#32) (BitVec.ofNat 32 s) = BitVec.ofNat 32 (j * 128 + s) := by
    apply BitVec.eq_of_toNat_eq
    simp only [IntOp.addi, IntOp.muli, BitVec.toNat_add, BitVec.toNat_mul, BitVec.toNat_ofNat]
    omega
  rw [e1]
  have t1 : (BitVec.ofNat 32 (j * 128 + s)).toInt = ((j * 128 + s : ℕ) : ℤ) := by
    rw [BitVec.toInt_eq_toNat_of_lt] <;> simp only [BitVec.toNat_ofNat] <;> omega
  have t2 : (BitVec.ofNat 32 q).toInt = ((q : ℕ) : ℤ) := by
    rw [BitVec.toInt_eq_toNat_of_lt] <;> simp only [BitVec.toNat_ofNat] <;> omega
  by_cases h : j < q / 128 ∨ (j = q / 128 ∧ s ≤ q % 128)
  · rw [if_pos h]
    have : j * 128 + s ≤ q := by omega
    simp only [IntOp.cmpi, BitVec.sle, t1, t2, Nat.cast_le, this, decide_true]
    rfl
  · rw [if_neg h]
    have : ¬ (j * 128 + s ≤ q) := by omega
    simp only [IntOp.cmpi, BitVec.sle, t1, t2, Nat.cast_le, this, decide_false]
    rfl

/-- The scores of one query under the mask. -/
def tq (x0 : (⟨S4x16384x1024, .bf16⟩ : BufTy).Contents (Elt Ideal)) (x1 : (⟨S4x16384x256, .bf16⟩ : BufTy).Contents (Elt Ideal)) (b h g : Fin 4) (q : Fin 16384) : ℕ → Fin 128 → EReal := th x0 x1 b h g (rb q) (rc q)

/-- A capped score under the mask. -/
theorem y110 (hX : Bx x0) (hK : Bx x1) (i : S4x4x16384x4x128x128.Idx) : val_main_v110 (F := Ideal) x0 x1 i
    = ((50 : ℝ) : EReal) * tq x0 x1 ⟨(i 0).val, (i 0).isLt⟩ ⟨(i 1).val, (i 1).isLt⟩ ⟨(i 3).val, (i 3).isLt⟩ ⟨(i 2).val, (i 2).isLt⟩ (i 4).val ⟨(i 5).val, (i 5).isLt⟩ := by
  have e : val_main_call6_v1 (F := Ideal) i = IntOp.cmpi .sle (IntOp.addi (IntOp.muli (BitVec.ofNat 32 (i 4).val) 128#32) (BitVec.ofNat 32 (i 5).val)) (BitVec.ofNat 32 (i 2).val) := by
    rw [val_main_call6_v1_apply, val_main_v109_apply, val_main_v108_apply, val_main_v107_apply, val_main_v106_apply, val_main_v105_apply, val_main_v104_apply, val_main_v103_apply, val_main_c_apply, val_main_v102_apply]
    all_goals rfl
  have e1 : val_main_v101 (F := Ideal) x0 x1 i = HMul.hMul (α := EReal) (β := EReal) (γ := EReal) (Ideal.ofBits .f32 0x42480000#32) (val_main_v99 (F := Ideal) x0 x1 i) := by
    rw [val_main_v101_apply, val_main_v100_apply, val_main_cst_34_apply]
    generalize val_main_v99 (F := Ideal) x0 x1 i = a
    all_goals rfl
  have e2 : val_main_call6_v2 (F := Ideal) i = Ideal.ofBits .f32 0xFF800000#32 := by
    rw [val_main_call6_v2_apply, val_main_call6_v0_apply, val_main_cst_35_apply]
    all_goals rfl
  rw [val_main_v110_apply, e, e1, e2, mask_word _ _ _ (i 4).isLt (i 5).isLt (i 2).isLt, sel_if, ninf, lit50, y99 hX hK]
  unfold tq th
  have hb : bix (i 4).val = ⟨(i 4).val, (i 4).isLt⟩ := bix_val ⟨(i 4).val, (i 4).isLt⟩
  have hc : ((i 4).val < (i 2).val / 128 ∨ ((i 4).val = (i 2).val / 128 ∧ (i 5).val ≤ (i 2).val % 128)) ↔ ((i 4).val < (rb ⟨(i 2).val, (i 2).isLt⟩).val ∨ ((i 4).val = (rb ⟨(i 2).val, (i 2).isLt⟩).val ∧ (⟨(i 5).val, (i 5).isLt⟩ : Fin 128).val ≤ (rc ⟨(i 2).val, (i 2).isLt⟩).val)) := Iff.rfl
  by_cases h : (i 4).val < (i 2).val / 128 ∨ ((i 4).val = (i 2).val / 128 ∧ (i 5).val ≤ (i 2).val % 128)
  · rw [if_pos h, if_pos (hc.1 h), hb]
    all_goals rfl
  · rw [if_neg h, if_neg (fun h' => h (hc.2 h')), fifty_bot]
    all_goals rfl

end Cert.Attn

end
-- ==== Proof.RefP.lean ====
/- The probabilities of the reference and their codes, read at an element. -/
module

public import proofs.«01_k».proof.Proof.RefS
public import proofs.«01_k».proof.Proof.SoftM
import all proofs.«01_k».proof.Proof.Gen.ReferenceIdeal.Read
public import proofs.«01_k».proof.Proof.Gen.ReferenceIdeal.Read

@[expose] public section

set_option maxRecDepth 16384
set_option maxHeartbeats 4000000

noncomputable section

namespace Cert.Attn

open Idealize.ShloMosaic Cert.ReferenceIdeal Cert.ReferenceIdeal.Gen Cert.ReferenceIdeal.Read

variable {x0 : (⟨S4x16384x1024, .bf16⟩ : BufTy).Contents (Elt Ideal)} {x1 x2 : (⟨S4x16384x256, .bf16⟩ : BufTy).Contents (Elt Ideal)}

/-- The inserted coordinate of a lifted element. -/
theorem lift_at {s t : Shape} {a : Fin s.rank} (h : s.Reduces [a] t) (j : t.Idx) (k : Fin (s.size a)) (c : Fin s.rank) (hc : c.val = a.val) : (h.lift j k c).val = k.val := by
  rw [Shape.Reduces.lift_val]
  unfold Shape.Reduces.liftVal
  rw [dif_pos hc]

/-- A coordinate before the inserted one. -/
theorem lift_lt {s t : Shape} {a : Fin s.rank} (h : s.Reduces [a] t) (j : t.Idx) (k : Fin (s.size a)) (c : Fin s.rank) (hc : c.val < a.val) : (h.lift j k c).val = (j ⟨c.val, by have := h.rank_single; have := a.isLt; omega⟩).val := by
  rw [Shape.Reduces.lift_val]
  unfold Shape.Reduces.liftVal
  rw [dif_neg (Nat.ne_of_lt hc), dif_pos hc]

/-- The same, the coordinates named. -/
theorem y110c (hX : Bx x0) (hK : Bx x1) (i : S4x4x16384x4x128x128.Idx) (b h g : Fin 4) (q : Fin 16384) (j r : Fin 128) (h0 : @Eq (Fin 4) (i 0) b) (h1 : @Eq (Fin 4) (i 1) h) (h2 : @Eq (Fin 16384) (i 2) q) (h3 : @Eq (Fin 4) (i 3) g) (h4 : @Eq (Fin 128) (i 4) j) (h5 : @Eq (Fin 128) (i 5) r) : val_main_v110 (F := Ideal) x0 x1 i = ((50 : ℝ) : EReal) * tq x0 x1 b h g q j.val r := by
  have e0 : (⟨(i 0).val, (i 0).isLt⟩ : Fin 4) = b := h0
  have e1 : (⟨(i 1).val, (i 1).isLt⟩ : Fin 4) = h := h1
  have e2 : (⟨(i 2).val, (i 2).isLt⟩ : Fin 16384) = q := h2
  have e3 : (⟨(i 3).val, (i 3).isLt⟩ : Fin 4) = g := h3
  have e4 : (i 4).val = j.val := congrArg (Fin.val (n := 128)) h4
  have e5 : (⟨(i 5).val, (i 5).isLt⟩ : Fin 128) = r := h5
  rw [y110 hX hK, e0, e1, e2, e3, e4, e5]

/-- The largest score of a block of keys. -/
theorem y112 (hX : Bx x0) (hK : Bx x1) (i : S4x4x16384x4x128x1.Idx) : val_main_v112 (F := Ideal) x0 x1 i
    = Finset.univ.sup fun r : Fin 128 => ((50 : ℝ) : EReal) * tq x0 x1 ⟨(i 0).val, (i 0).isLt⟩ ⟨(i 1).val, (i 1).isLt⟩ ⟨(i 3).val, (i 3).isLt⟩ ⟨(i 2).val, (i 2).isLt⟩ (⟨(i 4).val, (i 4).isLt⟩ : Fin 128).val r := by
  rw [val_main_v112_apply]
  have e : val_main_v111 (F := Ideal) x0 x1 = Host.reduce (max : EReal → EReal → EReal) (val_main_v110 (F := Ideal) x0 x1) (val_main_cst_36 (F := Ideal)) reducesTo_S4x4x16384x4x128x128_S4x4x16384x4x128_d5 h_S_ := rfl
  rw [e, Host.reduce_eq_fold_single _ _ _ _ (by decide : S4x4x16384x4x128x128.Reduces [5] S4x4x16384x4x128)]
  refine (fold_sup _ _ ninf).trans ?_
  refine Finset.sup_congr rfl fun r _ => ?_
  exact y110c hX hK _ ⟨(i 0).val, (i 0).isLt⟩ ⟨(i 1).val, (i 1).isLt⟩ ⟨(i 3).val, (i 3).isLt⟩ ⟨(i 2).val, (i 2).isLt⟩ ⟨(i 4).val, (i 4).isLt⟩ r (@Fin.ext 4 _ _ (lift_lt _ (idx_main_v112 i) r 0 (by decide))) (@Fin.ext 4 _ _ (lift_lt _ (idx_main_v112 i) r 1 (by decide))) (@Fin.ext 16384 _ _ (lift_lt _ (idx_main_v112 i) r 2 (by decide))) (@Fin.ext 4 _ _ (lift_lt _ (idx_main_v112 i) r 3 (by decide))) (@Fin.ext 128 _ _ (lift_lt _ (idx_main_v112 i) r 4 (by decide))) (@Fin.ext 128 _ _ (lift_at _ (idx_main_v112 i) r 5 rfl))

/-- The same, the coordinates named. -/
theorem y112c (hX : Bx x0) (hK : Bx x1) (i : S4x4x16384x4x128x1.Idx) (b h g : Fin 4) (q : Fin 16384) (j : Fin 128) (h0 : @Eq (Fin 4) (i 0) b) (h1 : @Eq (Fin 4) (i 1) h) (h2 : @Eq (Fin 16384) (i 2) q) (h3 : @Eq (Fin 4) (i 3) g) (h4 : @Eq (Fin 128) (i 4) j) : val_main_v112 (F := Ideal) x0 x1 i = Finset.univ.sup fun r : Fin 128 => ((50 : ℝ) : EReal) * tq x0 x1 b h g q j.val r := by
  have e0 : (⟨(i 0).val, (i 0).isLt⟩ : Fin 4) = b := h0
  have e1 : (⟨(i 1).val, (i 1).isLt⟩ : Fin 4) = h := h1
  have e2 : (⟨(i 2).val, (i 2).isLt⟩ : Fin 16384) = q := h2
  have e3 : (⟨(i 3).val, (i 3).isLt⟩ : Fin 4) = g := h3
  have e4 : (⟨(i 4).val, (i 4).isLt⟩ : Fin 128) = j := h4
  rw [y112 hX hK, e0, e1, e2, e3, e4]

/-- The largest score of a query. -/
theorem y114 (hX : Bx x0) (hK : Bx x1) (i : S4x4x16384x4x1x1.Idx) : val_main_v114 (F := Ideal) x0 x1 i = sM (tq x0 x1 ⟨(i 0).val, (i 0).isLt⟩ ⟨(i 1).val, (i 1).isLt⟩ ⟨(i 3).val, (i 3).isLt⟩ ⟨(i 2).val, (i 2).isLt⟩) := by
  rw [val_main_v114_apply]
  have e : val_main_v113 (F := Ideal) x0 x1 = Host.reduce (max : EReal → EReal → EReal) (val_main_v112 (F := Ideal) x0 x1) (val_main_cst_37 (F := Ideal)) reducesTo_S4x4x16384x4x128x1_S4x4x16384x4x1_d4 h_S_ := rfl
  rw [e, Host.reduce_eq_fold_single _ _ _ _ (by decide : S4x4x16384x4x128x1.Reduces [4] S4x4x16384x4x1)]
  refine (fold_sup _ _ ninf).trans ?_
  unfold sM
  refine Finset.sup_congr rfl fun j _ => ?_
  rw [Function.comp_apply]
  generalize hz : Shape.Reduces.lift _ _ _ = z
  refine (y112c hX hK z ⟨(i 0).val, (i 0).isLt⟩ ⟨(i 1).val, (i 1).isLt⟩ ⟨(i 3).val, (i 3).isLt⟩ ⟨(i 2).val, (i 2).isLt⟩ j ?_ ?_ ?_ ?_ ?_).trans ?_
  · rw [← hz]; exact @Fin.ext 4 _ _ (lift_lt _ (idx_main_v114 i) j 0 (by decide))
  · rw [← hz]; exact @Fin.ext 4 _ _ (lift_lt _ (idx_main_v114 i) j 1 (by decide))
  · rw [← hz]; exact @Fin.ext 16384 _ _ (lift_lt _ (idx_main_v114 i) j 2 (by decide))
  · rw [← hz]; exact @Fin.ext 4 _ _ (lift_lt _ (idx_main_v114 i) j 3 (by decide))
  · rw [← hz]; exact @Fin.ext 128 _ _ (lift_at _ (idx_main_v114 i) j 4 rfl)
  · rfl

/-- The same, the coordinates named. -/
theorem y114c (hX : Bx x0) (hK : Bx x1) (i : S4x4x16384x4x1x1.Idx) (b h g : Fin 4) (q : Fin 16384) (h0 : @Eq (Fin 4) (i 0) b) (h1 : @Eq (Fin 4) (i 1) h) (h2 : @Eq (Fin 16384) (i 2) q) (h3 : @Eq (Fin 4) (i 3) g) : val_main_v114 (F := Ideal) x0 x1 i = sM (tq x0 x1 b h g q) := by
  have e0 : (⟨(i 0).val, (i 0).isLt⟩ : Fin 4) = b := h0
  have e1 : (⟨(i 1).val, (i 1).isLt⟩ : Fin 4) = h := h1
  have e2 : (⟨(i 2).val, (i 2).isLt⟩ : Fin 16384) = q := h2
  have e3 : (⟨(i 3).val, (i 3).isLt⟩ : Fin 4) = g := h3
  rw [y114 hX hK, e0, e1, e2, e3]

/-- A key's probability. -/
theorem y117 (hX : Bx x0) (hK : Bx x1) (i : S4x4x16384x4x128x128.Idx) : val_main_v117 (F := Ideal) x0 x1 i = pr (tq x0 x1 ⟨(i 0).val, (i 0).isLt⟩ ⟨(i 1).val, (i 1).isLt⟩ ⟨(i 3).val, (i 3).isLt⟩ ⟨(i 2).val, (i 2).isLt⟩) ⟨(i 4).val, (i 4).isLt⟩ ⟨(i 5).val, (i 5).isLt⟩ := by
  have e : val_main_v117 (F := Ideal) x0 x1 i = Ideal.exp (HSub.hSub (α := EReal) (β := EReal) (γ := EReal) (val_main_v110 (F := Ideal) x0 x1 i) (val_main_v114 (F := Ideal) x0 x1 (idx_main_v115 i))) := by
    rw [val_main_v117_apply, val_main_v116_apply, val_main_v115_apply]
    rfl
  rw [e, y110c hX hK i _ _ _ _ _ _ rfl rfl rfl rfl rfl rfl, y114c hX hK (idx_main_v115 i) ⟨(i 0).val, (i 0).isLt⟩ ⟨(i 1).val, (i 1).isLt⟩ ⟨(i 3).val, (i 3).isLt⟩ ⟨(i 2).val, (i 2).isLt⟩ rfl rfl rfl rfl]
  rfl

/-- The same, the coordinates named. -/
theorem y117c (hX : Bx x0) (hK : Bx x1) (i : S4x4x16384x4x128x128.Idx) (b h g : Fin 4) (q : Fin 16384) (j : Fin 128) (r : Fin 128) (h0 : @Eq (Fin 4) (i 0) b) (h1 : @Eq (Fin 4) (i 1) h) (h2 : @Eq (Fin 16384) (i 2) q) (h3 : @Eq (Fin 4) (i 3) g) (h4 : @Eq (Fin 128) (i 4) j) (h5 : @Eq (Fin 128) (i 5) r) : val_main_v117 (F := Ideal) x0 x1 i = pr (tq x0 x1 b h g q) j r := by
  have e0 : (⟨(i 0).val, (i 0).isLt⟩ : Fin 4) = b := h0
  have e1 : (⟨(i 1).val, (i 1).isLt⟩ : Fin 4) = h := h1
  have e2 : (⟨(i 2).val, (i 2).isLt⟩ : Fin 16384) = q := h2
  have e3 : (⟨(i 3).val, (i 3).isLt⟩ : Fin 4) = g := h3
  have e4 : (⟨(i 4).val, (i 4).isLt⟩ : Fin 128) = j := h4
  have e5 : (⟨(i 5).val, (i 5).isLt⟩ : Fin 128) = r := h5
  rw [y117 hX hK, e0, e1, e2, e3, e4, e5]

/-- The sum of a query's probabilities. -/
theorem y119 (hX : Bx x0) (hK : Bx x1) (i : S4x4x16384x4.Idx) : val_main_v119 (F := Ideal) x0 x1 i = ∑ j : Fin 128, ∑ r, pr (tq x0 x1 ⟨(i 0).val, (i 0).isLt⟩ ⟨(i 1).val, (i 1).isLt⟩ ⟨(i 3).val, (i 3).isLt⟩ ⟨(i 2).val, (i 2).isLt⟩) j r := by
  rw [val_main_v119_apply]
  have z : (val_main_cst_39 (F := Ideal)) (Shape.Idx.first h_S_) = (0 : EReal) := lit0
  have z' : (val_main_cst_38 (F := Ideal)) (Shape.Idx.first h_S_) = (0 : EReal) := lit0
  refine (congrArg (fun w : EReal => w + _) z).trans ((zero_add _).trans ?_)
  refine Finset.sum_congr rfl fun j _ => ?_
  rw [val_main_v118_apply]
  refine (congrArg (fun w : EReal => w + _) z').trans ((zero_add _).trans ?_)
  refine Finset.sum_congr rfl fun r _ => ?_
  exact y117c hX hK _ _ _ _ _ _ _ rfl rfl rfl rfl rfl rfl

/-- The same, the coordinates named. -/
theorem y119c (hX : Bx x0) (hK : Bx x1) (i : S4x4x16384x4.Idx) (b h g : Fin 4) (q : Fin 16384) (h0 : @Eq (Fin 4) (i 0) b) (h1 : @Eq (Fin 4) (i 1) h) (h2 : @Eq (Fin 16384) (i 2) q) (h3 : @Eq (Fin 4) (i 3) g) : val_main_v119 (F := Ideal) x0 x1 i = ∑ j : Fin 128, ∑ r, pr (tq x0 x1 b h g q) j r := by
  have e0 : (⟨(i 0).val, (i 0).isLt⟩ : Fin 4) = b := h0
  have e1 : (⟨(i 1).val, (i 1).isLt⟩ : Fin 4) = h := h1
  have e2 : (⟨(i 2).val, (i 2).isLt⟩ : Fin 16384) = q := h2
  have e3 : (⟨(i 3).val, (i 3).isLt⟩ : Fin 4) = g := h3
  rw [y119 hX hK, e0, e1, e2, e3]

/-- The largest probability of a block. -/
theorem y122 (hX : Bx x0) (hK : Bx x1) (i : S4x4x16384x4x128x1.Idx) : val_main_v122 (F := Ideal) x0 x1 i = am (tq x0 x1 ⟨(i 0).val, (i 0).isLt⟩ ⟨(i 1).val, (i 1).isLt⟩ ⟨(i 3).val, (i 3).isLt⟩ ⟨(i 2).val, (i 2).isLt⟩) ⟨(i 4).val, (i 4).isLt⟩ := by
  rw [val_main_v122_apply]
  have e : val_main_v121 (F := Ideal) x0 x1 = Host.reduce (max : EReal → EReal → EReal) (val_main_v120 (F := Ideal) x0 x1) (val_main_cst_40 (F := Ideal)) reducesTo_S4x4x16384x4x128x128_S4x4x16384x4x128_d5 h_S_ := rfl
  rw [e, Host.reduce_eq_fold_single _ _ _ _ (by decide : S4x4x16384x4x128x128.Reduces [5] S4x4x16384x4x128)]
  refine (fold_sup _ _ ninf).trans ?_
  unfold am
  refine Finset.sup_congr rfl fun r _ => ?_
  exact abs_val _ _ (y117c hX hK _ ⟨(i 0).val, (i 0).isLt⟩ ⟨(i 1).val, (i 1).isLt⟩ ⟨(i 3).val, (i 3).isLt⟩ ⟨(i 2).val, (i 2).isLt⟩ ⟨(i 4).val, (i 4).isLt⟩ r (@Fin.ext 4 _ _ (lift_lt _ (idx_main_v122 i) r 0 (by decide))) (@Fin.ext 4 _ _ (lift_lt _ (idx_main_v122 i) r 1 (by decide))) (@Fin.ext 16384 _ _ (lift_lt _ (idx_main_v122 i) r 2 (by decide))) (@Fin.ext 4 _ _ (lift_lt _ (idx_main_v122 i) r 3 (by decide))) (@Fin.ext 128 _ _ (lift_lt _ (idx_main_v122 i) r 4 (by decide))) (@Fin.ext 128 _ _ (lift_at _ (idx_main_v122 i) r 5 rfl)))

/-- A block's exponent. -/
theorem y134 (hX : Bx x0) (hK : Bx x1) (i : S4x4x16384x4x128x1.Idx) : val_main_v134 (F := Ideal) x0 x1 i = pe (tq x0 x1 ⟨(i 0).val, (i 0).isLt⟩ ⟨(i 1).val, (i 1).isLt⟩ ⟨(i 3).val, (i 3).isLt⟩ ⟨(i 2).val, (i 2).isLt⟩) ⟨(i 4).val, (i 4).isLt⟩ := by
  unfold pe
  rw [← y122 hX hK i, ← ofBits_c448, val_main_v134_apply, val_main_v133_apply, val_main_v132_apply, val_main_cst_44_apply, val_main_v131_apply, val_main_v130_apply, val_main_cst_43_apply, val_main_v129_apply, val_main_v128_apply, val_main_v127_apply, val_main_v126_apply, val_main_cst_42_apply, val_main_v125_apply, val_main_v124_apply, val_main_v123_apply, val_main_cst_41_apply, val_main_call7_v1_apply, val_main_call7_v0_apply, val_main_cst_45_apply, ofb, ofb, ofb, ofb, ofb]
  unfold rexp
  generalize val_main_v122 (F := Ideal) x0 x1 i = a
  generalize Ideal.ofBits .f32 0x3B124925#32 = c1
  generalize Ideal.ofBits .f32 0x40000000#32 = c2
  generalize Ideal.ofBits .f32 0x3F800000#32 = c3
  generalize Ideal.ofBits .f32 0x00800000#32 = c4
  generalize Ideal.ofBits .f32 0x00000000#32 = c5
  rfl

/-- The same, the coordinates named. -/
theorem y134c (hX : Bx x0) (hK : Bx x1) (i : S4x4x16384x4x128x1.Idx) (b h g : Fin 4) (q : Fin 16384) (j : Fin 128) (h0 : @Eq (Fin 4) (i 0) b) (h1 : @Eq (Fin 4) (i 1) h) (h2 : @Eq (Fin 16384) (i 2) q) (h3 : @Eq (Fin 4) (i 3) g) (h4 : @Eq (Fin 128) (i 4) j) : val_main_v134 (F := Ideal) x0 x1 i = pe (tq x0 x1 b h g q) j := by
  have e0 : (⟨(i 0).val, (i 0).isLt⟩ : Fin 4) = b := h0
  have e1 : (⟨(i 1).val, (i 1).isLt⟩ : Fin 4) = h := h1
  have e2 : (⟨(i 2).val, (i 2).isLt⟩ : Fin 16384) = q := h2
  have e3 : (⟨(i 3).val, (i 3).isLt⟩ : Fin 4) = g := h3
  have e4 : (⟨(i 4).val, (i 4).isLt⟩ : Fin 128) = j := h4
  rw [y134 hX hK, e0, e1, e2, e3, e4]

/-- A probability's code. -/
theorem y140 (hX : Bx x0) (hK : Bx x1) (i : S4x4x16384x4x128x128.Idx) : val_main_v140 (F := Ideal) x0 x1 i = pc (tq x0 x1 ⟨(i 0).val, (i 0).isLt⟩ ⟨(i 1).val, (i 1).isLt⟩ ⟨(i 3).val, (i 3).isLt⟩ ⟨(i 2).val, (i 2).isLt⟩) ⟨(i 4).val, (i 4).isLt⟩ ⟨(i 5).val, (i 5).isLt⟩ := by
  have e : val_main_v140 (F := Ideal) x0 x1 i = min (Ideal.ofBits .f32 0x43E00000#32) (max (Ideal.ofBits .f32 0xC3E00000#32) (val_main_v117 (F := Ideal) x0 x1 i * rpow (-(val_main_v134 (F := Ideal) x0 x1 (idx_main_v138 i))))) := by
    rw [val_main_v140_apply, val_main_call8_v4_apply, val_main_call8_v3_apply, val_main_cst_48_apply, val_main_call8_v2_apply, val_main_v139_apply, val_main_v138_apply, val_main_v137_apply, val_main_v136_apply, val_main_cst_46_apply, val_main_v135_apply, val_main_call8_v1_apply, val_main_call8_v0_apply, val_main_cst_47_apply]
    generalize val_main_v134 (F := Ideal) x0 x1 (idx_main_v138 i) = a
    generalize val_main_v117 (F := Ideal) x0 x1 i = b
    rfl
  rw [e, c448p, c448n, y117 hX hK, y134c hX hK (idx_main_v138 i) ⟨(i 0).val, (i 0).isLt⟩ ⟨(i 1).val, (i 1).isLt⟩ ⟨(i 3).val, (i 3).isLt⟩ ⟨(i 2).val, (i 2).isLt⟩ ⟨(i 4).val, (i 4).isLt⟩ rfl rfl rfl rfl rfl]
  rfl

/-- The same, the coordinates named. -/
theorem y140c (hX : Bx x0) (hK : Bx x1) (i : S4x4x16384x4x128x128.Idx) (b h g : Fin 4) (q : Fin 16384) (j : Fin 128) (r : Fin 128) (h0 : @Eq (Fin 4) (i 0) b) (h1 : @Eq (Fin 4) (i 1) h) (h2 : @Eq (Fin 16384) (i 2) q) (h3 : @Eq (Fin 4) (i 3) g) (h4 : @Eq (Fin 128) (i 4) j) (h5 : @Eq (Fin 128) (i 5) r) : val_main_v140 (F := Ideal) x0 x1 i = pc (tq x0 x1 b h g q) j r := by
  have e0 : (⟨(i 0).val, (i 0).isLt⟩ : Fin 4) = b := h0
  have e1 : (⟨(i 1).val, (i 1).isLt⟩ : Fin 4) = h := h1
  have e2 : (⟨(i 2).val, (i 2).isLt⟩ : Fin 16384) = q := h2
  have e3 : (⟨(i 3).val, (i 3).isLt⟩ : Fin 4) = g := h3
  have e4 : (⟨(i 4).val, (i 4).isLt⟩ : Fin 128) = j := h4
  have e5 : (⟨(i 5).val, (i 5).isLt⟩ : Fin 128) = r := h5
  rw [y140 hX hK, e0, e1, e2, e3, e4, e5]

end Cert.Attn

end
-- ==== Proof.RefY.lean ====
/- The result of the reference, read at an element: the real number of the specification. -/
module

public import proofs.«01_k».proof.Proof.RefP
public import proofs.«01_k».proof.Proof.SoftM
import all proofs.«01_k».proof.Proof.Gen.ReferenceIdeal.Read
public import proofs.«01_k».proof.Proof.Gen.ReferenceIdeal.Read

@[expose] public section

set_option maxRecDepth 16384
set_option maxHeartbeats 4000000

noncomputable section

namespace Cert.Attn

open Idealize.ShloMosaic Cert.ReferenceIdeal Cert.ReferenceIdeal.Gen Cert.ReferenceIdeal.Read

variable {x0 : (⟨S4x16384x1024, .bf16⟩ : BufTy).Contents (Elt Ideal)} {x1 x2 : (⟨S4x16384x256, .bf16⟩ : BufTy).Contents (Elt Ideal)}

/-- A value's code, the coordinates named. -/
theorem rv_codc (hU : Bx x2) (i : S4x128x128x4x64.Idx) (b : Fin 4) (n r : Fin 128) (h : Fin 4) (d : Fin 64) (h0 : @Eq (Fin 4) (i 0) b) (h1 : @Eq (Fin 128) (i 1) n) (h2 : @Eq (Fin 128) (i 2) r) (h3 : @Eq (Fin 4) (i 3) h) (h4 : @Eq (Fin 64) (i 4) d) : val_main_v78 (F := Ideal) x2 i = ((qcd (famk x2 b n h) r d : ℝ) : EReal) := by
  have e0 : (⟨(i 0).val, (i 0).isLt⟩ : Fin 4) = b := h0
  have e1 : (⟨(i 1).val, (i 1).isLt⟩ : Fin 128) = n := h1
  have e2 : (⟨(i 2).val, (i 2).isLt⟩ : Fin 128) = r := h2
  have e3 : (⟨(i 3).val, (i 3).isLt⟩ : Fin 4) = h := h3
  have e4 : (⟨(i 4).val, (i 4).isLt⟩ : Fin 64) = d := h4
  rw [rv_cod _ _ (hU.k _ _ _), e0, e1, e2, e3, e4]

/-- A value block's scale, the coordinates named. -/
theorem y148c (hU : Bx x2) (i : S4x4x128x16384x4x1.Idx) (b h : Fin 4) (n : Fin 128) (h0 : @Eq (Fin 4) (i 0) b) (h1 : @Eq (Fin 4) (i 1) h) (h2 : @Eq (Fin 128) (i 2) n) : val_main_v148 (F := Ideal) x2 i = ((qsc (famk x2 b n h) : ℝ) : EReal) := by
  have e0 : (⟨(i 0).val, (i 0).isLt⟩ : Fin 4) = b := h0
  have e1 : (⟨(i 1).val, (i 1).isLt⟩ : Fin 4) = h := h1
  have e2 : (⟨(i 2).val, (i 2).isLt⟩ : Fin 128) = n := h2
  rw [y148 hU, e0, e1, e2]

/-! Coordinates of an element's place in the arrays that are constant along some axes. -/

theorem j147_0 (k : S4x4x128x16384x4x1.Idx) : @Eq (Fin 4) ((idx_main_v147 k) 0) (k 0) := rfl
theorem j147_1 (k : S4x4x128x16384x4x1.Idx) : @Eq (Fin 4) ((idx_main_v147 k) 1) (k 1) := rfl
theorem j147_2 (k : S4x4x128x16384x4x1.Idx) : @Eq (Fin 16384) ((idx_main_v147 k) 2) (k 3) := rfl
theorem j147_3 (k : S4x4x128x16384x4x1.Idx) : @Eq (Fin 4) ((idx_main_v147 k) 3) (k 4) := rfl
theorem j147_4 (k : S4x4x128x16384x4x1.Idx) : @Eq (Fin 128) ((idx_main_v147 k) 4) (k 2) := rfl
theorem j150_0 (i : S4x4x128x16384x4x64.Idx) : @Eq (Fin 4) ((idx_main_v150 i) 0) ⟨(i 0).val, (i 0).isLt⟩ := rfl
theorem j150_1 (i : S4x4x128x16384x4x64.Idx) : @Eq (Fin 4) ((idx_main_v150 i) 1) ⟨(i 1).val, (i 1).isLt⟩ := rfl
theorem j150_3 (i : S4x4x128x16384x4x64.Idx) : @Eq (Fin 16384) ((idx_main_v150 i) 3) ⟨(i 3).val, (i 3).isLt⟩ := rfl
theorem j150_4 (i : S4x4x128x16384x4x64.Idx) : @Eq (Fin 4) ((idx_main_v150 i) 4) ⟨(i 4).val, (i 4).isLt⟩ := rfl
theorem j150_2 (i : S4x4x128x16384x4x64.Idx) : @Eq (Fin 128) ((idx_main_v150 i) 2) ⟨(i 2).val, (i 2).isLt⟩ := rfl
theorem j153_0 (k : S4x4x16384x4x1.Idx) : @Eq (Fin 4) ((idx_main_v153 k) 0) (k 0) := rfl
theorem j154_0 (i : S4x4x16384x4x64.Idx) : @Eq (Fin 4) ((idx_main_v154 i) 0) ⟨(i 0).val, (i 0).isLt⟩ := rfl
theorem j153_1 (k : S4x4x16384x4x1.Idx) : @Eq (Fin 4) ((idx_main_v153 k) 1) (k 1) := rfl
theorem j154_1 (i : S4x4x16384x4x64.Idx) : @Eq (Fin 4) ((idx_main_v154 i) 1) ⟨(i 1).val, (i 1).isLt⟩ := rfl
theorem j153_2 (k : S4x4x16384x4x1.Idx) : @Eq (Fin 16384) ((idx_main_v153 k) 2) (k 2) := rfl
theorem j154_2 (i : S4x4x16384x4x64.Idx) : @Eq (Fin 16384) ((idx_main_v154 i) 2) ⟨(i 2).val, (i 2).isLt⟩ := rfl
theorem j153_3 (k : S4x4x16384x4x1.Idx) : @Eq (Fin 4) ((idx_main_v153 k) 3) (k 3) := rfl
theorem j154_3 (i : S4x4x16384x4x64.Idx) : @Eq (Fin 4) ((idx_main_v154 i) 3) ⟨(i 3).val, (i 3).isLt⟩ := rfl

/-- One block's share of the output. -/
theorem y151 (hX : Bx x0) (hK : Bx x1) (hU : Bx x2) (i : S4x4x128x16384x4x64.Idx) : val_main_v151 (F := Ideal) x0 x1 x2 i
    = (∑ r, pc (tq x0 x1 ⟨(i 0).val, (i 0).isLt⟩ ⟨(i 1).val, (i 1).isLt⟩ ⟨(i 4).val, (i 4).isLt⟩ ⟨(i 3).val, (i 3).isLt⟩) ⟨(i 2).val, (i 2).isLt⟩ r * ((vv x2 ⟨(i 0).val, (i 0).isLt⟩ ⟨(i 1).val, (i 1).isLt⟩ ⟨(i 5).val, (i 5).isLt⟩ (i 2).val r : ℝ) : EReal)) * (rpow (pe (tq x0 x1 ⟨(i 0).val, (i 0).isLt⟩ ⟨(i 1).val, (i 1).isLt⟩ ⟨(i 4).val, (i 4).isLt⟩ ⟨(i 3).val, (i 3).isLt⟩) ⟨(i 2).val, (i 2).isLt⟩) * ((uu x2 ⟨(i 0).val, (i 0).isLt⟩ ⟨(i 1).val, (i 1).isLt⟩ (i 2).val : ℝ) : EReal)) := by
  have hb : bix (i 2).val = ⟨(i 2).val, (i 2).isLt⟩ := bix_val ⟨(i 2).val, (i 2).isLt⟩
  have e : val_main_v151 (F := Ideal) x0 x1 x2 i = HMul.hMul (α := EReal) (β := EReal) (γ := EReal) (val_main_v143 (F := Ideal) x0 x1 x2 i)
      (HMul.hMul (α := EReal) (β := EReal) (γ := EReal) (rpow (val_main_v134 (F := Ideal) x0 x1 (idx_main_v147 (idx_main_v150 i)))) (val_main_v148 (F := Ideal) x2 (idx_main_v150 i))) := by
    rw [val_main_v151_apply, val_main_v150_apply, val_main_v149_apply, val_main_v147_apply, val_main_v142_apply, val_main_v141_apply, val_main_cst_49_apply]
    generalize val_main_v134 (F := Ideal) x0 x1 (idx_main_v147 (idx_main_v150 i)) = a
    generalize val_main_v148 (F := Ideal) x2 (idx_main_v150 i) = b
    generalize val_main_v143 (F := Ideal) x0 x1 x2 i = d
    rfl
  rw [e, y134c hX hK (idx_main_v147 (idx_main_v150 i)) ⟨(i 0).val, (i 0).isLt⟩ ⟨(i 1).val, (i 1).isLt⟩ ⟨(i 4).val, (i 4).isLt⟩ ⟨(i 3).val, (i 3).isLt⟩ ⟨(i 2).val, (i 2).isLt⟩ ((j147_0 _).trans (j150_0 i)) ((j147_1 _).trans (j150_1 i)) ((j147_2 _).trans (j150_3 i)) ((j147_3 _).trans (j150_4 i)) ((j147_4 _).trans (j150_2 i)), y148c hU (idx_main_v150 i) ⟨(i 0).val, (i 0).isLt⟩ ⟨(i 1).val, (i 1).isLt⟩ ⟨(i 2).val, (i 2).isLt⟩ (j150_0 i) (j150_1 i) (j150_2 i)]
  have e1 : val_main_v143 (F := Ideal) x0 x1 x2 i = ∑ r, pc (tq x0 x1 ⟨(i 0).val, (i 0).isLt⟩ ⟨(i 1).val, (i 1).isLt⟩ ⟨(i 4).val, (i 4).isLt⟩ ⟨(i 3).val, (i 3).isLt⟩) ⟨(i 2).val, (i 2).isLt⟩ r * ((vv x2 ⟨(i 0).val, (i 0).isLt⟩ ⟨(i 1).val, (i 1).isLt⟩ ⟨(i 5).val, (i 5).isLt⟩ (i 2).val r : ℝ) : EReal) := by
    rw [val_main_v143_apply]
    refine Finset.sum_congr rfl fun r _ => ?_
    rw [y140c hX hK (lidx_main_v143 i r) ⟨(i 0).val, (i 0).isLt⟩ ⟨(i 1).val, (i 1).isLt⟩ ⟨(i 4).val, (i 4).isLt⟩ ⟨(i 3).val, (i 3).isLt⟩ ⟨(i 2).val, (i 2).isLt⟩ r rfl rfl rfl rfl rfl rfl, rv_codc hU (ridx_main_v143 i r) ⟨(i 0).val, (i 0).isLt⟩ ⟨(i 2).val, (i 2).isLt⟩ r ⟨(i 1).val, (i 1).isLt⟩ ⟨(i 5).val, (i 5).isLt⟩ rfl rfl rfl rfl rfl]
    unfold vv
    rw [hb]
  rw [e1]
  unfold uu
  rw [hb]

/-- The same, the coordinates named. -/
theorem y151c (hX : Bx x0) (hK : Bx x1) (hU : Bx x2) (i : S4x4x128x16384x4x64.Idx) (b h g : Fin 4) (q : Fin 16384) (j : Fin 128) (d : Fin 64) (h0 : @Eq (Fin 4) (i 0) b) (h1 : @Eq (Fin 4) (i 1) h) (h2 : @Eq (Fin 128) (i 2) j) (h3 : @Eq (Fin 16384) (i 3) q) (h4 : @Eq (Fin 4) (i 4) g) (h5 : @Eq (Fin 64) (i 5) d) : val_main_v151 (F := Ideal) x0 x1 x2 i
    = (∑ r, pc (tq x0 x1 b h g q) j r * ((vv x2 b h d j.val r : ℝ) : EReal)) * (rpow (pe (tq x0 x1 b h g q) j) * ((uu x2 b h j.val : ℝ) : EReal)) := by
  have e0 : (⟨(i 0).val, (i 0).isLt⟩ : Fin 4) = b := h0
  have e1 : (⟨(i 1).val, (i 1).isLt⟩ : Fin 4) = h := h1
  have e2 : (⟨(i 2).val, (i 2).isLt⟩ : Fin 128) = j := h2
  have e3 : (⟨(i 3).val, (i 3).isLt⟩ : Fin 16384) = q := h3
  have e4 : (⟨(i 4).val, (i 4).isLt⟩ : Fin 4) = g := h4
  have e5 : (⟨(i 5).val, (i 5).isLt⟩ : Fin 64) = d := h5
  have e2' : (i 2).val = j.val := congrArg (Fin.val (n := 128)) h2
  rw [y151 hX hK hU, e0, e1, e2, e2', e3, e4, e5]

theorem tq_fin (b h g : Fin 4) (q : Fin 16384) (j : ℕ) : Fin' (tq x0 x1 b h g q j) := fun r => by
  unfold tq th
  by_cases hc : j < (rb q).val ∨ (j = (rb q).val ∧ r.val ≤ (rc q).val)
  · right; exact ⟨_, if_pos hc⟩
  · left; exact if_neg hc

/-- The reference's quotient. -/
theorem y155 (hX : Bx x0) (hK : Bx x1) (hU : Bx x2) (i : S4x4x16384x4x64.Idx) : val_main_v155 (F := Ideal) x0 x1 x2 i
    = ((yv x0 x1 x2 ⟨(i 0).val, (i 0).isLt⟩ ⟨(i 1).val, (i 1).isLt⟩ ⟨(i 3).val, (i 3).isLt⟩ (rb ⟨(i 2).val, (i 2).isLt⟩) (rc ⟨(i 2).val, (i 2).isLt⟩) ⟨(i 4).val, (i 4).isLt⟩ : ℝ) : EReal) := by
  have e : val_main_v155 (F := Ideal) x0 x1 x2 i = Ideal.div (val_main_v152 (F := Ideal) x0 x1 x2 i) (val_main_v119 (F := Ideal) x0 x1 (idx_main_v153 (idx_main_v154 i))) := by
    rw [val_main_v155_apply, val_main_v154_apply, val_main_v153_apply]
    rfl
  have e1 : val_main_v152 (F := Ideal) x0 x1 x2 i = ∑ j : Fin 128, (∑ r, pc (tq x0 x1 ⟨(i 0).val, (i 0).isLt⟩ ⟨(i 1).val, (i 1).isLt⟩ ⟨(i 3).val, (i 3).isLt⟩ ⟨(i 2).val, (i 2).isLt⟩) j r * ((vv x2 ⟨(i 0).val, (i 0).isLt⟩ ⟨(i 1).val, (i 1).isLt⟩ ⟨(i 4).val, (i 4).isLt⟩ j.val r : ℝ) : EReal)) * (rpow (pe (tq x0 x1 ⟨(i 0).val, (i 0).isLt⟩ ⟨(i 1).val, (i 1).isLt⟩ ⟨(i 3).val, (i 3).isLt⟩ ⟨(i 2).val, (i 2).isLt⟩) j) * ((uu x2 ⟨(i 0).val, (i 0).isLt⟩ ⟨(i 1).val, (i 1).isLt⟩ j.val : ℝ) : EReal)) := by
    rw [val_main_v152_apply]
    have z : (val_main_cst_50 (F := Ideal)) (Shape.Idx.first h_S_) = (0 : EReal) := lit0
    refine (congrArg (fun w : EReal => w + _) z).trans ((zero_add _).trans ?_)
    refine Finset.sum_congr rfl fun j _ => ?_
    exact y151c hX hK hU _ _ _ _ _ _ _ rfl rfl rfl rfl rfl rfl
  rw [e, e1, y119c hX hK (idx_main_v153 (idx_main_v154 i)) ⟨(i 0).val, (i 0).isLt⟩ ⟨(i 1).val, (i 1).isLt⟩ ⟨(i 3).val, (i 3).isLt⟩ ⟨(i 2).val, (i 2).isLt⟩ ((j153_0 _).trans (j154_0 i)) ((j153_1 _).trans (j154_1 i)) ((j153_2 _).trans (j154_2 i)) ((j153_3 _).trans (j154_3 i))]
  have h0 : tq x0 x1 ⟨(i 0).val, (i 0).isLt⟩ ⟨(i 1).val, (i 1).isLt⟩ ⟨(i 3).val, (i 3).isLt⟩ ⟨(i 2).val, (i 2).isLt⟩ (rb ⟨(i 2).val, (i 2).isLt⟩).val (rc ⟨(i 2).val, (i 2).isLt⟩) = ((th1 x0 x1 ⟨(i 0).val, (i 0).isLt⟩ ⟨(i 1).val, (i 1).isLt⟩ ⟨(i 3).val, (i 3).isLt⟩ (rb ⟨(i 2).val, (i 2).isLt⟩) (rc ⟨(i 2).val, (i 2).isLt⟩) (bix (rb ⟨(i 2).val, (i 2).isLt⟩).val) (rc ⟨(i 2).val, (i 2).isLt⟩) : ℝ) : EReal) := by
    unfold tq th
    exact if_pos (Or.inr ⟨rfl, le_rfl⟩)
  refine (ref_mean (fun j => tq_fin ⟨(i 0).val, (i 0).isLt⟩ ⟨(i 1).val, (i 1).isLt⟩ ⟨(i 3).val, (i 3).isLt⟩ ⟨(i 2).val, (i 2).isLt⟩ j) h0 (vv x2 ⟨(i 0).val, (i 0).isLt⟩ ⟨(i 1).val, (i 1).isLt⟩ ⟨(i 4).val, (i 4).isLt⟩) (uu x2 ⟨(i 0).val, (i 0).isLt⟩ ⟨(i 1).val, (i 1).isLt⟩)).trans ?_
  have hm : ∀ j, (rb ⟨(i 2).val, (i 2).isLt⟩).val + 1 ≤ j → ∀ r, tq x0 x1 ⟨(i 0).val, (i 0).isLt⟩ ⟨(i 1).val, (i 1).isLt⟩ ⟨(i 3).val, (i 3).isLt⟩ ⟨(i 2).val, (i 2).isLt⟩ j r = ⊥ := fun j hj r => by
    unfold tq th
    exact if_neg (by rintro (h | ⟨h, -⟩) <;> omega)
  rw [wsum_ext (rb ⟨(i 2).val, (i 2).isLt⟩).isLt hm, vsum_ext _ _ (rb ⟨(i 2).val, (i 2).isLt⟩).isLt hm]
  rfl

/-- The same, the coordinates named. -/
theorem y155c (hX : Bx x0) (hK : Bx x1) (hU : Bx x2) (i : S4x4x16384x4x64.Idx) (b h g : Fin 4) (q : Fin 16384) (d : Fin 64) (h0 : @Eq (Fin 4) (i 0) b) (h1 : @Eq (Fin 4) (i 1) h) (h2 : @Eq (Fin 16384) (i 2) q) (h3 : @Eq (Fin 4) (i 3) g) (h4 : @Eq (Fin 64) (i 4) d) : val_main_v155 (F := Ideal) x0 x1 x2 i
    = ((yv x0 x1 x2 b h g (rb q) (rc q) d : ℝ) : EReal) := by
  have e0 : (⟨(i 0).val, (i 0).isLt⟩ : Fin 4) = b := h0
  have e1 : (⟨(i 1).val, (i 1).isLt⟩ : Fin 4) = h := h1
  have e2 : (⟨(i 2).val, (i 2).isLt⟩ : Fin 16384) = q := h2
  have e3 : (⟨(i 3).val, (i 3).isLt⟩ : Fin 4) = g := h3
  have e4 : (⟨(i 4).val, (i 4).isLt⟩ : Fin 64) = d := h4
  rw [y155 hX hK hU, e0, e1, e2, e3, e4]

theorem tr_id (x : ℝ) : (FloatOps.truncf (F := Ideal) .bf16 bitsLt_bf16_f32 ((x : EReal) : Ideal .f32) : EReal) = (x : EReal) := rfl

/-- The reference's result. -/
theorem y158 (hX : Bx x0) (hK : Bx x1) (hU : Bx x2) : val_main_v158 (F := Ideal) x0 x1 x2 = (fun i : S4x16384x1024.Idx =>
    ((yv x0 x1 x2 ⟨(i 0).val, (i 0).isLt⟩ ⟨(i 2).val / 256, by have : (i 2).val < 1024 := (i 2).isLt; omega⟩ ⟨(i 2).val / 64 % 4, by omega⟩
      ⟨(i 1).val / 128, by have : (i 1).val < 16384 := (i 1).isLt; omega⟩ ⟨(i 1).val % 128, by omega⟩ ⟨(i 2).val % 64, by omega⟩ : ℝ) : EReal)) := by
  funext i
  have h0 : (i 0).val < 4 := (i 0).isLt
  have h1 : (i 1).val < 16384 := (i 1).isLt
  have h2 : (i 2).val < 1024 := (i 2).isLt
  have a0 : (((i 0).val * 16384 + (i 1).val) * 1024 + (i 2).val) / 16777216 = (i 0).val := by omega
  have a1 : (((i 0).val * 16384 + (i 1).val) * 1024 + (i 2).val) / 1024 % 16384 = (i 1).val := by omega
  have a2 : (((i 0).val * 16384 + (i 1).val) * 1024 + (i 2).val) / 256 % 4 = (i 2).val / 256 := by omega
  have a3 : (((i 0).val * 16384 + (i 1).val) * 1024 + (i 2).val) / 64 % 4 = (i 2).val / 64 % 4 := by omega
  have a4 : (((i 0).val * 16384 + (i 1).val) * 1024 + (i 2).val) % 64 = (i 2).val % 64 := by omega
  have e : val_main_v155 (F := Ideal) x0 x1 x2 (idx_main_v157 (idx_main_v158 i)) = _ :=
    y155c hX hK hU (idx_main_v157 (idx_main_v158 i)) ⟨(i 0).val, h0⟩ ⟨(i 2).val / 256, by omega⟩ ⟨(i 2).val / 64 % 4, by omega⟩ ⟨(i 1).val, h1⟩ ⟨(i 2).val % 64, by omega⟩
      (Fin.ext a0) (Fin.ext a2) (Fin.ext a1) (Fin.ext a3) (Fin.ext a4)
  rw [val_main_v158_apply, val_main_v157_apply, val_main_v156_apply, e]
  exact tr_id _

end Cert.Attn

end
-- ==== Proof.Fin.lean ====
/- What the precondition says of the three arguments: every element is a real number of at most 2 ^ 128. -/
module

public import proofs.«01_k».proof.Proof.Spec
public import proofs.«01_k».proof.Pre_finite
public import proofs.«01_k».proof.Proof.Gen.Pre_finite
public import Idealize.ShloMosaic.Lib.ReduceAll

@[expose] public section

set_option maxRecDepth 16384
set_option maxHeartbeats 4000000

noncomputable section

namespace Cert.Attn

open Idealize.ShloMosaic Cert.Pre_finite Cert.Pre_finite.Gen

theorem litbf : Ideal.ofBits .bf16 0x7F7F#16 = ((255 * (2 : ℝ) ^ (120 : ℤ) : ℝ) : EReal) := by
  simp [Ideal.ofBits, Ideal.ieee, -EReal.coe_mul]

/-- An element whose absolute value is at most the format's largest. -/
theorem fin_elt (x : EReal) (h : Ideal.cmp .ole (max x (-x)) (Ideal.ofBits .bf16 0x7F7F#16) = 1#1) : ∃ y : ℝ, x = (y : EReal) ∧ |y| ≤ (2 : ℝ) ^ (128 : ℤ) := by
  rw [litbf] at h
  have h1 : max x (-x) ≤ ((255 * (2 : ℝ) ^ (120 : ℤ) : ℝ) : EReal) := by
    by_contra hn
    have : Ideal.cmp .ole (max x (-x)) ((255 * (2 : ℝ) ^ (120 : ℤ) : ℝ) : EReal) = 0#1 := by
      simp only [Ideal.cmp, hn, decide_false]; rfl
    rw [this] at h
    exact absurd h (by decide)
  have hx : x ≠ ⊤ := by
    rintro rfl
    exact absurd (le_trans (le_max_left _ _) h1) (not_le.2 (EReal.coe_lt_top _))
  have hx' : x ≠ ⊥ := by
    rintro rfl
    exact absurd (le_trans (le_max_right _ _) h1) (not_le.2 (by rw [EReal.neg_bot]; exact EReal.coe_lt_top _))
  refine ⟨x.toReal, (EReal.coe_toReal hx hx').symm, ?_⟩
  rw [← EReal.coe_toReal hx hx', max_neg_coe] at h1
  refine le_trans (EReal.coe_le_coe_iff.1 h1) ?_
  norm_num

theorem and_one {x y : BitVec 1} (h : x &&& y = 1#1) : x = 1#1 ∧ y = 1#1 := by
  revert x y; decide

/-- The precondition bounds the three arguments. -/
theorem pre_bx (x : FVec Ideal S4x16384x1024 .bf16) (k v : FVec Ideal S4x16384x256 .bf16) (h : Cert.Pre_finite.fn (F := Ideal) x k v = (fun _ => 1#1)) :
    Bx (s := S4x16384x1024) x ∧ Bx (s := S4x16384x256) k ∧ Bx (s := S4x16384x256) v := by
  have h0 := congrFun h (Shape.Idx.first Facts.h_S_)
  have h1 := and_one h0
  have h2 := and_one h1.1
  haveI : Subsingleton S_.Idx := ⟨fun a b => funext fun i => i.elim0⟩
  exact ⟨fun p => fin_elt _ (Host.reduce_andi_all _ _ _ _ _ h2.1 p), fun p => fin_elt _ (Host.reduce_andi_all _ _ _ _ _ h2.2 p), fun p => fin_elt _ (Host.reduce_andi_all _ _ _ _ _ h1.2 p)⟩

end Cert.Attn

end
-- ==== Proof.lean ====
/- The certificate: the three frames, the idealization, and the equality of the kernel's result with the reference's. The
   kernel's result is `Cert.Attn.yarr` of its arguments by `Cert.Attn.w22` (Proof/Val.lean), and so is the reference's, by
   `Cert.Attn.y158` (Proof/RefY.lean). -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Val
public import proofs.«01_k».proof.Proof.RefY
public import proofs.«01_k».proof.Proof.Fin
public import Idealize.ShloMosaic.Adequacy
public import Idealize.ShloMosaic.Init

@[expose] public section

noncomputable section

namespace Cert.Proof

open Idealize.ShloMosaic Idealize.SL.Sem

/-- The kernel as compiled runs and ends quiescent, its arguments unchanged. -/
theorem frame_p : Cert.quiescent_Kernel (hKernel := Cert.Kernel.Gen.facts) := fun m ρ _ => Cert.Kernel.Gen.frame m ρ

/-- So does the kernel over the extended reals. -/
theorem frame_pi : Cert.quiescent_KernelIdeal (hKernelIdeal := Cert.KernelIdeal.Gen.facts) := fun m ρ _ => Cert.KernelIdeal.Gen.frame m ρ

/-- The kernel over the reals runs to its end and keeps its arguments, for finite arguments. -/
theorem frame_pi_finite : Cert.quiescent_KernelIdeal_pre_finite (hKernelIdeal := Cert.KernelIdeal.Gen.facts) (hPre_finite := Cert.Pre_finite.Gen.facts) :=
  fun m ρ _ => Cert.KernelIdeal.Gen.frame m ρ

/-- The reference's run with the counters: it declares no semaphore. -/
theorem frame_ref (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The reference over the reals runs to its end and keeps its arguments. -/
theorem frame_r : Cert.quiescent_ReferenceIdeal (hReferenceIdeal := Cert.ReferenceIdeal.Gen.facts) := fun m ρ _ => frame_ref m ρ
/-- The same for the reference, for finite arguments. -/
theorem frame_r_finite : Cert.quiescent_ReferenceIdeal_pre_finite (hReferenceIdeal := Cert.ReferenceIdeal.Gen.facts) (hPre_finite := Cert.Pre_finite.Gen.facts) := fun m ρ _ => frame_ref m ρ

/-- The one rewrite: the score's factor read as the real number it rounds. -/
theorem preserves : Cert.preserves_Kernel_KernelIdeal :=
  IdealRules.named_const.statement Cert.KernelIdeal.κ "cap_log2e" .f32 0x429044FE#32 _ rfl

/-- The kernel's result equals the reference's. -/
theorem algebraic : Cert.algebraic_KernelIdeal_ReferenceIdeal_pre_finite (hKernelIdeal := Cert.KernelIdeal.Gen.facts) (hReferenceIdeal := Cert.ReferenceIdeal.Gen.facts) (hPre_finite := Cert.Pre_finite.Gen.facts) := by
  intro m g m' g' hpre hag
  have hb := fun c => Cert.Attn.pre_bx _ _ _ (hpre c)
  refine ⟨fun c => Cert.Attn.yarr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run _ _ _).mono (fun r h c => ⟨(h c).1.trans ?_, (h c).2⟩) (Cert.KernelIdeal.Gen.value (F := Ideal) m g)
    exact Cert.Attn.w22 m g c (hb c).1 (hb c).2.1 (hb c).2.2
  · refine (θ_run _ _ _).mono (fun r h c => ⟨(h c).1.trans ?_, (h c).2⟩) (Cert.ReferenceIdeal.Value.run (F := Ideal) m' g')
    refine (Cert.ReferenceIdeal.Read.val_main_v158_eq (StableHlo.launchContents m' c)).trans ?_
    have e0 : StableHlo.launchContents m' c (Proc.devRef .tc Cert.ReferenceIdeal.main_arg0) = m ((c.tc : Thread Cert.KernelIdeal.nD Cert.KernelIdeal.τ).loc Cert.KernelIdeal.main_arg0) := (hag c).1
    have e1 : StableHlo.launchContents m' c (Proc.devRef .tc Cert.ReferenceIdeal.main_arg1) = m ((c.tc : Thread Cert.KernelIdeal.nD Cert.KernelIdeal.τ).loc Cert.KernelIdeal.main_arg1) := (hag c).2.1
    have e2 : StableHlo.launchContents m' c (Proc.devRef .tc Cert.ReferenceIdeal.main_arg2) = m ((c.tc : Thread Cert.KernelIdeal.nD Cert.KernelIdeal.τ).loc Cert.KernelIdeal.main_arg2) := (hag c).2.2
    rw [e0, e1, e2]
    exact Cert.Attn.y158 (hb c).1 (hb c).2.1 (hb c).2.2

/-- All the claims together. -/
theorem claim : Cert.Claim :=
  ⟨Cert.Kernel.Gen.facts, Cert.KernelIdeal.Gen.facts, Cert.ReferenceIdeal.Gen.facts, Cert.Pre_finite.Gen.facts,
    frame_p, frame_pi, frame_pi_finite, frame_r, frame_r_finite, preserves, algebraic⟩

end Cert.Proof

end
